-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S10 : Shape := ⟨1, ![10]⟩
abbrev S16 : Shape := ⟨1, ![16]⟩
abbrev S_ : Shape := ⟨0, ![]⟩
abbrev S512x512 : Shape := ⟨2, ![512, 512]⟩
abbrev S512x256 : Shape := ⟨2, ![512, 256]⟩
abbrev S1 : Shape := ⟨1, ![1]⟩
abbrev S256x256 : Shape := ⟨2, ![256, 256]⟩
abbrev S64x512 : Shape := ⟨2, ![64, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_8 : BitVec 32 := 1#32
  let v17 : BitVec 32 := Scalar.muli v11 c1_i32_8
  let v18 : BitVec 32 := Scalar.addi c0_i32 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_10 : BitVec 32 := 1#32
  let v19 : BitVec 32 := Scalar.muli v12 c1_i32_10
  let v20 : BitVec 32 := Scalar.addi c0_i32_11 v19
  v20.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_13 : BitVec 32 := 1#32
  let v21 : BitVec 32 := Scalar.muli v13 c1_i32_13
  let v22 : BitVec 32 := Scalar.addi c0_i32_14 v21
  v22.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v14 : BitVec 32 := Scalar.xori v2 c8_i32
  let c1_i32_16 : BitVec 32 := 1#32
  let v23 : BitVec 32 := Scalar.muli v14 c1_i32_16
  let v24 : BitVec 32 := Scalar.addi c0_i32_17 v23
  v24.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v16 : BitVec 32 := Scalar.xori v2 c12_i32
  let c1_i32_19 : BitVec 32 := 1#32
  let v25 : BitVec 32 := Scalar.muli v16 c1_i32_19
  let v26 : BitVec 32 := Scalar.addi c0_i32_20 v25
  v26.toNat
def k0_off1 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v27 : BitVec 32 := Scalar.subi c1_i32_21 v6
  let c512_i32 : BitVec 32 := 512#32
  let v28 : BitVec 32 := Scalar.muli v27 c512_i32
  let v51 : Index := Scalar.indexCast v28
  let c0 : Index := 0#32
  ![v51.toNat, 0]
def k0_off2 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v27 : BitVec 32 := Scalar.subi c1_i32_21 v6
  let c512_i32 : BitVec 32 := 512#32
  let v28 : BitVec 32 := Scalar.muli v27 c512_i32
  let v58 : Index := Scalar.indexCast v28
  let c0_35 : Index := 0#32
  ![v58.toNat, 0]
def k0_off3 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v27 : BitVec 32 := Scalar.subi c1_i32_21 v6
  let c512_i32 : BitVec 32 := 512#32
  let v28 : BitVec 32 := Scalar.muli v27 c512_i32
  let c0_i32_42 : BitVec 32 := 0#32
  ![v28.toNat, 0]
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_38 : BitVec 32 := 1#32
  let v62 : BitVec 32 := Scalar.muli v11 c1_i32_38
  let v63 : BitVec 32 := Scalar.addi c0_i32_39 v62
  v63.toNat
def k0_off4 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let v39 : BitVec 32 := Scalar.subi c1_i32_25 v5
  let c512_i32_26 : BitVec 32 := 512#32
  let v40 : BitVec 32 := Scalar.muli v39 c512_i32_26
  let v70 : Index := Scalar.indexCast v40
  let c0_43 : Index := 0#32
  ![v70.toNat, 0]
def k0_off5 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let v39 : BitVec 32 := Scalar.subi c1_i32_25 v5
  let c512_i32_26 : BitVec 32 := 512#32
  let v40 : BitVec 32 := Scalar.muli v39 c512_i32_26
  let v77 : Index := Scalar.indexCast v40
  let c512_46 : Index := 512#32
  ![v77.toNat, 512]
def k0_off6 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let v39 : BitVec 32 := Scalar.subi c1_i32_25 v5
  let c512_i32_26 : BitVec 32 := 512#32
  let v40 : BitVec 32 := Scalar.muli v39 c512_i32_26
  let c512_i32_53 : BitVec 32 := 512#32
  ![v40.toNat, 512]
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_49 : BitVec 32 := 1#32
  let v81 : BitVec 32 := Scalar.muli v12 c1_i32_49
  let v82 : BitVec 32 := Scalar.addi c0_i32_50 v81
  v82.toNat
def k0_off7 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v27 : BitVec 32 := Scalar.subi c1_i32_21 v6
  let c512_i32 : BitVec 32 := 512#32
  let v28 : BitVec 32 := Scalar.muli v27 c512_i32
  let v96 : Index := Scalar.indexCast v28
  let c256_57 : Index := 256#32
  ![v96.toNat, 256]
def k0_off8 (d0 : Dev nD) : Fin 2 → Nat :=
  let c1_i32_21 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let v27 : BitVec 32 := Scalar.subi c1_i32_21 v6
  let c512_i32 : BitVec 32 := 512#32
  let v28 : BitVec 32 := Scalar.muli v27 c512_i32
  let c256_i32_64 : BitVec 32 := 256#32
  ![v28.toNat, 256]
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_60 : BitVec 32 := 1#32
  let v100 : BitVec 32 := Scalar.muli v11 c1_i32_60
  let v101 : BitVec 32 := Scalar.addi c0_i32_61 v100
  v101.toNat
def k0_off9 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let v39 : BitVec 32 := Scalar.subi c1_i32_25 v5
  let c512_i32_26 : BitVec 32 := 512#32
  let v40 : BitVec 32 := Scalar.muli v39 c512_i32_26
  let v115 : Index := Scalar.indexCast v40
  let c768_68 : Index := 768#32
  ![v115.toNat, 768]
def k0_off10 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let v39 : BitVec 32 := Scalar.subi c1_i32_25 v5
  let c512_i32_26 : BitVec 32 := 512#32
  let v40 : BitVec 32 := Scalar.muli v39 c512_i32_26
  let c768_i32_74 : BitVec 32 := 768#32
  ![v40.toNat, 768]
def k0_dev9 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_71 : BitVec 32 := 1#32
  let v119 : BitVec 32 := Scalar.muli v12 c1_i32_71
  let v120 : BitVec 32 := Scalar.addi c0_i32_72 v119
  v120.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let v127 : Index := Scalar.indexCast v31
  let c0_75 : Index := 0#32
  ![v127.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let v134 : Index := Scalar.indexCast v31
  let c0_79 : Index := 0#32
  ![v134.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let v138 : Index := Scalar.indexCast v43
  let c0_80 : Index := 0#32
  ![v138.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let v145 : Index := Scalar.indexCast v43
  let c512_84 : Index := 512#32
  ![v145.toNat, 512]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let v159 : Index := Scalar.indexCast v31
  let c0_98 : Index := 0#32
  ![v159.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c1_i32_22 : BitVec 32 := 1#32
  let v29 : BitVec 32 := Scalar.subi c1_i32_22 v5
  let c256_i32 : BitVec 32 := 256#32
  let v30 : BitVec 32 := Scalar.muli v29 c256_i32
  let v38 : BitVec 32 := Scalar.addi v31 v30
  let c0_i32_108 : BitVec 32 := 0#32
  ![v38.toNat, 0]
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_104 : BitVec 32 := 1#32
  let v167 : BitVec 32 := Scalar.muli v12 c1_i32_104
  let v168 : BitVec 32 := Scalar.addi c0_i32_105 v167
  v168.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let v185 : Index := Scalar.indexCast v43
  let c512_122 : Index := 512#32
  ![v185.toNat, 512]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_27 : BitVec 32 := 1#32
  let c1_i32_0 : BitVec 32 := 1#32
  let v3 : BitVec 32 := Scalar.andi v2 c1_i32_0
  let v6 : BitVec 32 := Scalar.xori v3 v5
  let v41 : BitVec 32 := Scalar.subi c1_i32_27 v6
  let c256_i32_28 : BitVec 32 := 256#32
  let v42 : BitVec 32 := Scalar.muli v41 c256_i32_28
  let v50 : BitVec 32 := Scalar.addi v43 v42
  let c512_i32_131 : BitVec 32 := 512#32
  ![v50.toNat, 512]
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_127 : BitVec 32 := 1#32
  let v193 : BitVec 32 := Scalar.muli v11 c1_i32_127
  let v194 : BitVec 32 := Scalar.addi c0_i32_128 v193
  v194.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let v211 : Index := Scalar.indexCast v31
  let c256_145 : Index := 256#32
  ![v211.toNat, 256]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c1_i32_22 : BitVec 32 := 1#32
  let v29 : BitVec 32 := Scalar.subi c1_i32_22 v5
  let c256_i32 : BitVec 32 := 256#32
  let v30 : BitVec 32 := Scalar.muli v29 c256_i32
  let v38 : BitVec 32 := Scalar.addi v31 v30
  let c256_i32_155 : BitVec 32 := 256#32
  ![v38.toNat, 256]
def k0_dev12 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_151 : BitVec 32 := 1#32
  let v219 : BitVec 32 := Scalar.muli v12 c1_i32_151
  let v220 : BitVec 32 := Scalar.addi c0_i32_152 v219
  v220.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let v237 : Index := Scalar.indexCast v43
  let c768_169 : Index := 768#32
  ![v237.toNat, 768]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_27 : BitVec 32 := 1#32
  let c1_i32_0 : BitVec 32 := 1#32
  let v3 : BitVec 32 := Scalar.andi v2 c1_i32_0
  let v6 : BitVec 32 := Scalar.xori v3 v5
  let v41 : BitVec 32 := Scalar.subi c1_i32_27 v6
  let c256_i32_28 : BitVec 32 := 256#32
  let v42 : BitVec 32 := Scalar.muli v41 c256_i32_28
  let v50 : BitVec 32 := Scalar.addi v43 v42
  let c768_i32_178 : BitVec 32 := 768#32
  ![v50.toNat, 768]
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_174 : BitVec 32 := 1#32
  let v245 : BitVec 32 := Scalar.muli v11 c1_i32_174
  let v246 : BitVec 32 := Scalar.addi c0_i32_175 v245
  v246.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let v265 : Index := Scalar.indexCast v33
  let c0_194 : Index := 0#32
  ![v265.toNat, 0]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let v283 : Index := Scalar.indexCast v33
  let c256_211 : Index := 256#32
  ![v283.toNat, 256]
def k0_off25 (d0 : Dev nD) (c8_i32_223 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v301 : BitVec 32 := Scalar.addi c8_i32_223 v254
  ![v301.toNat]
def k0_off26 (d0 : Dev nD) : Fin 2 → Nat :=
  let c768_i32_222 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let c64_i32_221 : BitVec 32 := 64#32
  let v299 : BitVec 32 := Scalar.muli v254 c64_i32_221
  let v300 : BitVec 32 := Scalar.addi c768_i32_222 v299
  let c0_i32_229 : BitVec 32 := 0#32
  ![v300.toNat, 0]
def k0_off27 (d0 : Dev nD) (c1_i32_215 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let c2_i32_179 : BitVec 32 := 2#32
  let v253 : BitVec 32 := Scalar.shrsi v2 c2_i32_179
  let c3_i32_180 : BitVec 32 := 3#32
  let v254 : BitVec 32 := Scalar.andi v253 c3_i32_180
  let v291 : BitVec 32 := Scalar.xori v254 c1_i32_215
  let c1_i32_216 : BitVec 32 := 1#32
  let v292 : BitVec 32 := Scalar.andi v291 c1_i32_216
  let c128_i32_217 : BitVec 32 := 128#32
  let v293 : BitVec 32 := Scalar.muli v292 c128_i32_217
  let c1_i32_218 : BitVec 32 := 1#32
  let v294 : BitVec 32 := Scalar.shrsi v291 c1_i32_218
  let c1_i32_219 : BitVec 32 := 1#32
  let v295 : BitVec 32 := Scalar.andi v294 c1_i32_219
  let c64_i32_220 : BitVec 32 := 64#32
  let v296 : BitVec 32 := Scalar.muli v295 c64_i32_220
  let v297 : BitVec 32 := Scalar.addi v293 v296
  let v298 : BitVec 32 := Scalar.addi v33 v297
  let c0_i32_230 : BitVec 32 := 0#32
  ![v298.toNat, 0]
def k0_dev14 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v302 : BitVec 32 := Scalar.andi v2 c3_i32_224
  let c2_i32_179 : BitVec 32 := 2#32
  let v253 : BitVec 32 := Scalar.shrsi v2 c2_i32_179
  let c3_i32_180 : BitVec 32 := 3#32
  let v254 : BitVec 32 := Scalar.andi v253 c3_i32_180
  let c1_i32_215 : BitVec 32 := 1#32
  let v291 : BitVec 32 := Scalar.xori v254 c1_i32_215
  let c4_i32_225 : BitVec 32 := 4#32
  let v303 : BitVec 32 := Scalar.muli v291 c4_i32_225
  let v304 : BitVec 32 := Scalar.addi v302 v303
  let c1_i32_227 : BitVec 32 := 1#32
  let v305 : BitVec 32 := Scalar.muli v304 c1_i32_227
  let v306 : BitVec 32 := Scalar.addi c0_i32_228 v305
  v306.toNat
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_240 : BitVec 32 := 3#32
  let v324 : BitVec 32 := Scalar.andi v2 c3_i32_240
  let c2_i32_179 : BitVec 32 := 2#32
  let v253 : BitVec 32 := Scalar.shrsi v2 c2_i32_179
  let c3_i32_180 : BitVec 32 := 3#32
  let v254 : BitVec 32 := Scalar.andi v253 c3_i32_180
  let c2_i32_231 : BitVec 32 := 2#32
  let v313 : BitVec 32 := Scalar.xori v254 c2_i32_231
  let c4_i32_241 : BitVec 32 := 4#32
  let v325 : BitVec 32 := Scalar.muli v313 c4_i32_241
  let v326 : BitVec 32 := Scalar.addi v324 v325
  let c1_i32_243 : BitVec 32 := 1#32
  let v327 : BitVec 32 := Scalar.muli v326 c1_i32_243
  let v328 : BitVec 32 := Scalar.addi c0_i32_244 v327
  v328.toNat
def k0_dev16 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_256 : BitVec 32 := 3#32
  let v346 : BitVec 32 := Scalar.andi v2 c3_i32_256
  let c2_i32_179 : BitVec 32 := 2#32
  let v253 : BitVec 32 := Scalar.shrsi v2 c2_i32_179
  let c3_i32_180 : BitVec 32 := 3#32
  let v254 : BitVec 32 := Scalar.andi v253 c3_i32_180
  let c3_i32_247 : BitVec 32 := 3#32
  let v335 : BitVec 32 := Scalar.xori v254 c3_i32_247
  let c4_i32_257 : BitVec 32 := 4#32
  let v347 : BitVec 32 := Scalar.muli v335 c4_i32_257
  let v348 : BitVec 32 := Scalar.addi v346 v347
  let c1_i32_259 : BitVec 32 := 1#32
  let v349 : BitVec 32 := Scalar.muli v348 c1_i32_259
  let v350 : BitVec 32 := Scalar.addi c0_i32_260 v349
  v350.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let v367 : Index := Scalar.indexCast v45
  let c512_276 : Index := 512#32
  ![v367.toNat, 512]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let v385 : Index := Scalar.indexCast v45
  let c768_293 : Index := 768#32
  ![v385.toNat, 768]
def k0_off30 (d0 : Dev nD) : Fin 2 → Nat :=
  let c768_i32_304 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let c64_i32_303 : BitVec 32 := 64#32
  let v401 : BitVec 32 := Scalar.muli v254 c64_i32_303
  let v402 : BitVec 32 := Scalar.addi c768_i32_304 v401
  let c512_i32_311 : BitVec 32 := 512#32
  ![v402.toNat, 512]
def k0_off31 (d0 : Dev nD) (c1_i32_297 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let c2_i32_179 : BitVec 32 := 2#32
  let v253 : BitVec 32 := Scalar.shrsi v2 c2_i32_179
  let c3_i32_180 : BitVec 32 := 3#32
  let v254 : BitVec 32 := Scalar.andi v253 c3_i32_180
  let v393 : BitVec 32 := Scalar.xori v254 c1_i32_297
  let c1_i32_298 : BitVec 32 := 1#32
  let v394 : BitVec 32 := Scalar.andi v393 c1_i32_298
  let c128_i32_299 : BitVec 32 := 128#32
  let v395 : BitVec 32 := Scalar.muli v394 c128_i32_299
  let c1_i32_300 : BitVec 32 := 1#32
  let v396 : BitVec 32 := Scalar.shrsi v393 c1_i32_300
  let c1_i32_301 : BitVec 32 := 1#32
  let v397 : BitVec 32 := Scalar.andi v396 c1_i32_301
  let c64_i32_302 : BitVec 32 := 64#32
  let v398 : BitVec 32 := Scalar.muli v397 c64_i32_302
  let v399 : BitVec 32 := Scalar.addi v395 v398
  let v400 : BitVec 32 := Scalar.addi v45 v399
  let c512_i32_312 : BitVec 32 := 512#32
  ![v400.toNat, 512]
def k0_dev17 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_306 : BitVec 32 := 3#32
  let v404 : BitVec 32 := Scalar.andi v2 c3_i32_306
  let c2_i32_179 : BitVec 32 := 2#32
  let v253 : BitVec 32 := Scalar.shrsi v2 c2_i32_179
  let c3_i32_180 : BitVec 32 := 3#32
  let v254 : BitVec 32 := Scalar.andi v253 c3_i32_180
  let c1_i32_297 : BitVec 32 := 1#32
  let v393 : BitVec 32 := Scalar.xori v254 c1_i32_297
  let c4_i32_307 : BitVec 32 := 4#32
  let v405 : BitVec 32 := Scalar.muli v393 c4_i32_307
  let v406 : BitVec 32 := Scalar.addi v404 v405
  let c1_i32_309 : BitVec 32 := 1#32
  let v407 : BitVec 32 := Scalar.muli v406 c1_i32_309
  let v408 : BitVec 32 := Scalar.addi c0_i32_310 v407
  v408.toNat
def k0_dev18 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_322 : BitVec 32 := 3#32
  let v426 : BitVec 32 := Scalar.andi v2 c3_i32_322
  let c2_i32_179 : BitVec 32 := 2#32
  let v253 : BitVec 32 := Scalar.shrsi v2 c2_i32_179
  let c3_i32_180 : BitVec 32 := 3#32
  let v254 : BitVec 32 := Scalar.andi v253 c3_i32_180
  let c2_i32_313 : BitVec 32 := 2#32
  let v415 : BitVec 32 := Scalar.xori v254 c2_i32_313
  let c4_i32_323 : BitVec 32 := 4#32
  let v427 : BitVec 32 := Scalar.muli v415 c4_i32_323
  let v428 : BitVec 32 := Scalar.addi v426 v427
  let c1_i32_325 : BitVec 32 := 1#32
  let v429 : BitVec 32 := Scalar.muli v428 c1_i32_325
  let v430 : BitVec 32 := Scalar.addi c0_i32_326 v429
  v430.toNat
def k0_dev19 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_338 : BitVec 32 := 3#32
  let v448 : BitVec 32 := Scalar.andi v2 c3_i32_338
  let c2_i32_179 : BitVec 32 := 2#32
  let v253 : BitVec 32 := Scalar.shrsi v2 c2_i32_179
  let c3_i32_180 : BitVec 32 := 3#32
  let v254 : BitVec 32 := Scalar.andi v253 c3_i32_180
  let c3_i32_329 : BitVec 32 := 3#32
  let v437 : BitVec 32 := Scalar.xori v254 c3_i32_329
  let c4_i32_339 : BitVec 32 := 4#32
  let v449 : BitVec 32 := Scalar.muli v437 c4_i32_339
  let v450 : BitVec 32 := Scalar.addi v448 v449
  let c1_i32_340 : BitVec 32 := 1#32
  let v451 : BitVec 32 := Scalar.muli v450 c1_i32_340
  let v452 : BitVec 32 := Scalar.addi c0_i32_341 v451
  v452.toNat
def k0_off32 (d0 : Dev nD) (c8_i32_347 : BitVec 32) (c1_i32_344 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v459 : BitVec 32 := Scalar.xori v254 c1_i32_344
  let v462 : BitVec 32 := Scalar.addi c8_i32_347 v459
  ![v462.toNat]
def k0_off33 (d0 : Dev nD) (c1_i32_344 : BitVec 32) : Fin 2 → Nat :=
  let c768_i32_346 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v459 : BitVec 32 := Scalar.xori v254 c1_i32_344
  let c64_i32_345 : BitVec 32 := 64#32
  let v460 : BitVec 32 := Scalar.muli v459 c64_i32_345
  let v461 : BitVec 32 := Scalar.addi c768_i32_346 v460
  let c0_i32_353 : BitVec 32 := 0#32
  ![v461.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let c2_i32 : BitVec 32 := 2#32
  let v7 : BitVec 32 := Scalar.shrsi v2 c2_i32
  let c1_i32_3 : BitVec 32 := 1#32
  let v8 : BitVec 32 := Scalar.andi v7 c1_i32_3
  let c128_i32 : BitVec 32 := 128#32
  let v34 : BitVec 32 := Scalar.muli v8 c128_i32
  let v35 : BitVec 32 := Scalar.addi v33 v34
  let c3_i32 : BitVec 32 := 3#32
  let v9 : BitVec 32 := Scalar.shrsi v2 c3_i32
  let c1_i32_4 : BitVec 32 := 1#32
  let v10 : BitVec 32 := Scalar.andi v9 c1_i32_4
  let c64_i32 : BitVec 32 := 64#32
  let v36 : BitVec 32 := Scalar.muli v10 c64_i32
  let v37 : BitVec 32 := Scalar.addi v35 v36
  let v473 : Index := Scalar.indexCast v37
  let c0_356 : Index := 0#32
  ![v473.toNat, 0]
def k0_off35 (d0 : Dev nD) (c1_i32_355 : BitVec 32) : Fin 2 → Nat :=
  let c768_i32_358 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v472 : BitVec 32 := Scalar.xori v254 c1_i32_355
  let c64_i32_357 : BitVec 32 := 64#32
  let v475 : BitVec 32 := Scalar.muli v472 c64_i32_357
  let v476 : BitVec 32 := Scalar.addi c768_i32_358 v475
  let v477 : Index := Scalar.indexCast v476
  let c0_359 : Index := 0#32
  ![v477.toNat, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let c2_i32 : BitVec 32 := 2#32
  let v7 : BitVec 32 := Scalar.shrsi v2 c2_i32
  let c1_i32_3 : BitVec 32 := 1#32
  let v8 : BitVec 32 := Scalar.andi v7 c1_i32_3
  let c128_i32 : BitVec 32 := 128#32
  let v34 : BitVec 32 := Scalar.muli v8 c128_i32
  let v35 : BitVec 32 := Scalar.addi v33 v34
  let c3_i32 : BitVec 32 := 3#32
  let v9 : BitVec 32 := Scalar.shrsi v2 c3_i32
  let c1_i32_4 : BitVec 32 := 1#32
  let v10 : BitVec 32 := Scalar.andi v9 c1_i32_4
  let c64_i32 : BitVec 32 := 64#32
  let v36 : BitVec 32 := Scalar.muli v10 c64_i32
  let v37 : BitVec 32 := Scalar.addi v35 v36
  let c0_i32_409 : BitVec 32 := 0#32
  ![v37.toNat, 0]
def k0_dev20 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_404 : BitVec 32 := 3#32
  let v546 : BitVec 32 := Scalar.andi v2 c3_i32_404
  let c2_i32_179 : BitVec 32 := 2#32
  let v253 : BitVec 32 := Scalar.shrsi v2 c2_i32_179
  let c3_i32_180 : BitVec 32 := 3#32
  let v254 : BitVec 32 := Scalar.andi v253 c3_i32_180
  let c1_i32_402 : BitVec 32 := 1#32
  let v544 : BitVec 32 := Scalar.xori v254 c1_i32_402
  let c4_i32_405 : BitVec 32 := 4#32
  let v547 : BitVec 32 := Scalar.muli v544 c4_i32_405
  let v548 : BitVec 32 := Scalar.addi v546 v547
  let c1_i32_407 : BitVec 32 := 1#32
  let v549 : BitVec 32 := Scalar.muli v548 c1_i32_407
  let v550 : BitVec 32 := Scalar.addi c0_i32_408 v549
  v550.toNat
def k0_dev21 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_417 : BitVec 32 := 3#32
  let v563 : BitVec 32 := Scalar.andi v2 c3_i32_417
  let c2_i32_179 : BitVec 32 := 2#32
  let v253 : BitVec 32 := Scalar.shrsi v2 c2_i32_179
  let c3_i32_180 : BitVec 32 := 3#32
  let v254 : BitVec 32 := Scalar.andi v253 c3_i32_180
  let c2_i32_415 : BitVec 32 := 2#32
  let v561 : BitVec 32 := Scalar.xori v254 c2_i32_415
  let c4_i32_418 : BitVec 32 := 4#32
  let v564 : BitVec 32 := Scalar.muli v561 c4_i32_418
  let v565 : BitVec 32 := Scalar.addi v563 v564
  let c1_i32_420 : BitVec 32 := 1#32
  let v566 : BitVec 32 := Scalar.muli v565 c1_i32_420
  let v567 : BitVec 32 := Scalar.addi c0_i32_421 v566
  v567.toNat
def k0_dev22 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_430 : BitVec 32 := 3#32
  let v580 : BitVec 32 := Scalar.andi v2 c3_i32_430
  let c2_i32_179 : BitVec 32 := 2#32
  let v253 : BitVec 32 := Scalar.shrsi v2 c2_i32_179
  let c3_i32_180 : BitVec 32 := 3#32
  let v254 : BitVec 32 := Scalar.andi v253 c3_i32_180
  let c3_i32_428 : BitVec 32 := 3#32
  let v578 : BitVec 32 := Scalar.xori v254 c3_i32_428
  let c4_i32_431 : BitVec 32 := 4#32
  let v581 : BitVec 32 := Scalar.muli v578 c4_i32_431
  let v582 : BitVec 32 := Scalar.addi v580 v581
  let c1_i32_433 : BitVec 32 := 1#32
  let v583 : BitVec 32 := Scalar.muli v582 c1_i32_433
  let v584 : BitVec 32 := Scalar.addi c0_i32_434 v583
  v584.toNat
def k0_off37 (d0 : Dev nD) (c1_i32_437 : BitVec 32) : Fin 2 → Nat :=
  let c768_i32_439 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v591 : BitVec 32 := Scalar.xori v254 c1_i32_437
  let c64_i32_438 : BitVec 32 := 64#32
  let v592 : BitVec 32 := Scalar.muli v591 c64_i32_438
  let v593 : BitVec 32 := Scalar.addi c768_i32_439 v592
  let c512_i32_446 : BitVec 32 := 512#32
  ![v593.toNat, 512]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let c2_i32 : BitVec 32 := 2#32
  let v7 : BitVec 32 := Scalar.shrsi v2 c2_i32
  let c1_i32_3 : BitVec 32 := 1#32
  let v8 : BitVec 32 := Scalar.andi v7 c1_i32_3
  let c128_i32_31 : BitVec 32 := 128#32
  let v46 : BitVec 32 := Scalar.muli v8 c128_i32_31
  let v47 : BitVec 32 := Scalar.addi v45 v46
  let c3_i32 : BitVec 32 := 3#32
  let v9 : BitVec 32 := Scalar.shrsi v2 c3_i32
  let c1_i32_4 : BitVec 32 := 1#32
  let v10 : BitVec 32 := Scalar.andi v9 c1_i32_4
  let c64_i32_32 : BitVec 32 := 64#32
  let v48 : BitVec 32 := Scalar.muli v10 c64_i32_32
  let v49 : BitVec 32 := Scalar.addi v47 v48
  let v605 : Index := Scalar.indexCast v49
  let c512_449 : Index := 512#32
  ![v605.toNat, 512]
def k0_off39 (d0 : Dev nD) (c1_i32_448 : BitVec 32) : Fin 2 → Nat :=
  let c768_i32_451 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_179 : BitVec 32 := 2#32
  let v253 : BitVec 32 := Scalar.shrsi v2 c2_i32_179
  let c3_i32_180 : BitVec 32 := 3#32
  let v254 : BitVec 32 := Scalar.andi v253 c3_i32_180
  let v604 : BitVec 32 := Scalar.xori v254 c1_i32_448
  let c64_i32_450 : BitVec 32 := 64#32
  let v607 : BitVec 32 := Scalar.muli v604 c64_i32_450
  let v608 : BitVec 32 := Scalar.addi c768_i32_451 v607
  let v609 : Index := Scalar.indexCast v608
  let c512_452 : Index := 512#32
  ![v609.toNat, 512]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let c2_i32 : BitVec 32 := 2#32
  let v7 : BitVec 32 := Scalar.shrsi v2 c2_i32
  let c1_i32_3 : BitVec 32 := 1#32
  let v8 : BitVec 32 := Scalar.andi v7 c1_i32_3
  let c128_i32_31 : BitVec 32 := 128#32
  let v46 : BitVec 32 := Scalar.muli v8 c128_i32_31
  let v47 : BitVec 32 := Scalar.addi v45 v46
  let c3_i32 : BitVec 32 := 3#32
  let v9 : BitVec 32 := Scalar.shrsi v2 c3_i32
  let c1_i32_4 : BitVec 32 := 1#32
  let v10 : BitVec 32 := Scalar.andi v9 c1_i32_4
  let c64_i32_32 : BitVec 32 := 64#32
  let v48 : BitVec 32 := Scalar.muli v10 c64_i32_32
  let v49 : BitVec 32 := Scalar.addi v47 v48
  let c512_i32_502 : BitVec 32 := 512#32
  ![v49.toNat, 512]
def k0_dev23 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_497 : BitVec 32 := 3#32
  let v678 : BitVec 32 := Scalar.andi v2 c3_i32_497
  let c2_i32_179 : BitVec 32 := 2#32
  let v253 : BitVec 32 := Scalar.shrsi v2 c2_i32_179
  let c3_i32_180 : BitVec 32 := 3#32
  let v254 : BitVec 32 := Scalar.andi v253 c3_i32_180
  let c1_i32_495 : BitVec 32 := 1#32
  let v676 : BitVec 32 := Scalar.xori v254 c1_i32_495
  let c4_i32_498 : BitVec 32 := 4#32
  let v679 : BitVec 32 := Scalar.muli v676 c4_i32_498
  let v680 : BitVec 32 := Scalar.addi v678 v679
  let c1_i32_500 : BitVec 32 := 1#32
  let v681 : BitVec 32 := Scalar.muli v680 c1_i32_500
  let v682 : BitVec 32 := Scalar.addi c0_i32_501 v681
  v682.toNat
def k0_dev24 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_510 : BitVec 32 := 3#32
  let v695 : BitVec 32 := Scalar.andi v2 c3_i32_510
  let c2_i32_179 : BitVec 32 := 2#32
  let v253 : BitVec 32 := Scalar.shrsi v2 c2_i32_179
  let c3_i32_180 : BitVec 32 := 3#32
  let v254 : BitVec 32 := Scalar.andi v253 c3_i32_180
  let c2_i32_508 : BitVec 32 := 2#32
  let v693 : BitVec 32 := Scalar.xori v254 c2_i32_508
  let c4_i32_511 : BitVec 32 := 4#32
  let v696 : BitVec 32 := Scalar.muli v693 c4_i32_511
  let v697 : BitVec 32 := Scalar.addi v695 v696
  let c1_i32_513 : BitVec 32 := 1#32
  let v698 : BitVec 32 := Scalar.muli v697 c1_i32_513
  let v699 : BitVec 32 := Scalar.addi c0_i32_514 v698
  v699.toNat
def k0_dev25 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_523 : BitVec 32 := 3#32
  let v712 : BitVec 32 := Scalar.andi v2 c3_i32_523
  let c2_i32_179 : BitVec 32 := 2#32
  let v253 : BitVec 32 := Scalar.shrsi v2 c2_i32_179
  let c3_i32_180 : BitVec 32 := 3#32
  let v254 : BitVec 32 := Scalar.andi v253 c3_i32_180
  let c3_i32_521 : BitVec 32 := 3#32
  let v710 : BitVec 32 := Scalar.xori v254 c3_i32_521
  let c4_i32_524 : BitVec 32 := 4#32
  let v713 : BitVec 32 := Scalar.muli v710 c4_i32_524
  let v714 : BitVec 32 := Scalar.addi v712 v713
  let c1_i32_526 : BitVec 32 := 1#32
  let v715 : BitVec 32 := Scalar.muli v714 c1_i32_526
  let v716 : BitVec 32 := Scalar.addi c0_i32_527 v715
  v716.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let c0_i32_576 : BitVec 32 := 0#32
  ![v33.toNat, 0]
def k0_dev26 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_574 : BitVec 32 := 1#32
  let v777 : BitVec 32 := Scalar.muli v12 c1_i32_574
  let v778 : BitVec 32 := Scalar.addi c0_i32_575 v777
  v778.toNat
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_24 : BitVec 32 := 256#32
  let v32 : BitVec 32 := Scalar.muli v5 c256_i32_24
  let v33 : BitVec 32 := Scalar.addi v31 v32
  let c256_i32_582 : BitVec 32 := 256#32
  ![v33.toNat, 256]
def k0_dev27 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_580 : BitVec 32 := 1#32
  let v785 : BitVec 32 := Scalar.muli v12 c1_i32_580
  let v786 : BitVec 32 := Scalar.addi c0_i32_581 v785
  v786.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let c512_i32_629 : BitVec 32 := 512#32
  ![v45.toNat, 512]
def k0_dev28 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_627 : BitVec 32 := 1#32
  let v847 : BitVec 32 := Scalar.muli v11 c1_i32_627
  let v848 : BitVec 32 := Scalar.addi c0_i32_628 v847
  v848.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c1_i32_0 : BitVec 32 := 1#32
  let v3 : BitVec 32 := Scalar.andi v2 c1_i32_0
  let v6 : BitVec 32 := Scalar.xori v3 v5
  let c256_i32_30 : BitVec 32 := 256#32
  let v44 : BitVec 32 := Scalar.muli v6 c256_i32_30
  let v45 : BitVec 32 := Scalar.addi v43 v44
  let c768_i32_634 : BitVec 32 := 768#32
  ![v45.toNat, 768]
def k0_dev29 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_632 : BitVec 32 := 1#32
  let v855 : BitVec 32 := Scalar.muli v11 c1_i32_632
  let v856 : BitVec 32 := Scalar.addi c0_i32_633 v855
  v856.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c0_i32_651 : BitVec 32 := 0#32
  ![v31.toNat, 0]
def k0_dev30 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_649 : BitVec 32 := 1#32
  let v873 : BitVec 32 := Scalar.muli v11 c1_i32_649
  let v874 : BitVec 32 := Scalar.addi c0_i32_650 v873
  v874.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c512_i32_667 : BitVec 32 := 512#32
  ![v43.toNat, 512]
def k0_dev31 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_665 : BitVec 32 := 1#32
  let v891 : BitVec 32 := Scalar.muli v12 c1_i32_665
  let v892 : BitVec 32 := Scalar.addi c0_i32_666 v891
  v892.toNat
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v6 : BitVec 32 := Scalar.xori v3 v5
  let c512_i32_23 : BitVec 32 := 512#32
  let v31 : BitVec 32 := Scalar.muli v6 c512_i32_23
  let c256_i32_683 : BitVec 32 := 256#32
  ![v31.toNat, 256]
def k0_dev32 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v11 : BitVec 32 := Scalar.xori v2 c1_i32_5
  let c1_i32_681 : BitVec 32 := 1#32
  let v909 : BitVec 32 := Scalar.muli v11 c1_i32_681
  let v910 : BitVec 32 := Scalar.addi c0_i32_682 v909
  v910.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.shrsi v2 c1_i32_1
  let c1_i32_2 : BitVec 32 := 1#32
  let v5 : BitVec 32 := Scalar.andi v4 c1_i32_2
  let c512_i32_29 : BitVec 32 := 512#32
  let v43 : BitVec 32 := Scalar.muli v5 c512_i32_29
  let c768_i32_699 : BitVec 32 := 768#32
  ![v43.toNat, 768]
def k0_dev33 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v12 : BitVec 32 := Scalar.xori v2 c3_i32_6
  let c1_i32_697 : BitVec 32 := 1#32
  let v927 : BitVec 32 := Scalar.muli v12 c1_i32_697
  let v928 : BitVec 32 := Scalar.addi c0_i32_698 v927
  v928.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Coords.lean ====
/-
# Where everything sits

The kernel runs on sixteen devices. This module names the partners of a device, the blocks of rows
and columns that each of the 28 copies of a device moves, and the semaphores that count them. The
last part ties these to the offsets and device numbers that the printed program computes.
-/
module

public import proofs.«01_k».proof.Proof.Gen.KernelIdeal.Skeleton
public import proofs.«01_k».proof.Proof.Gen.KernelIdeal.Launch

@[expose] public section

noncomputable section

namespace Cert.Butterfly

open Cert.KernelIdeal Cert.KernelIdeal.Gen
open Idealize.ShloMosaic

/-! ## Partners -/

/-- The bits that a partner of each of the five classes differs in: the two plane partners, then the
three partners along the third axis. -/
def mask (b : Fin 5) : ℕ := if b = 0 then 1 else if b = 1 then 3 else if b = 2 then 4 else if b = 3 then 8 else 12

/-- The partner of class `b` of device `c`. -/
def nb (b : Fin 5) (c : Dev nD) : Dev nD := ⟨(c.val ^^^ mask b) % 16, Nat.mod_lt _ (by decide)⟩

/-- Being partners is mutual. -/
theorem nb_nb (b : Fin 5) (c : Dev nD) : nb b (nb b c) = c := by revert b c; decide

/-! ## The coordinates of a device -/

/-- First plane coordinate. -/
def hx (c : Dev nD) : ℕ := (c.val % 2 + c.val / 2 % 2) % 2
/-- Second plane coordinate. -/
def hy (c : Dev nD) : ℕ := c.val / 2 % 2
/-- Coordinate along the third axis. -/
def zc (c : Dev nD) : ℕ := c.val / 4
/-- Third-axis coordinate of the partner at distance `dz + 1`. -/
def zx (c : Dev nD) (dz : ℕ) : ℕ := (c.val / 4) ^^^ (dz + 1)
/-- The half that a device keeps of stream `s` in the first exchange. -/
def b1 (c : Dev nD) (s : ℕ) : ℕ := if s = 0 then hx c else hy c
/-- The quarter that it keeps in the second exchange. -/
def b2 (c : Dev nD) (s : ℕ) : ℕ := if s = 0 then hy c else hx c
/-- First row of the half kept of stream `s`. -/
def k1 (c : Dev nD) (s : ℕ) : ℕ := b1 c s * 512
/-- First row of the quarter kept of stream `s`. -/
def k2 (c : Dev nD) (s : ℕ) : ℕ := k1 c s + b2 c s * 256
/-- Where the 64 rows of third-axis coordinate `z` start inside a quarter. -/
def zo (z : ℕ) : ℕ := z % 2 * 128 + z / 2 * 64
/-- First row of the 64 rows of stream `s` that device `c` finishes. -/
def k4 (c : Dev nD) (s : ℕ) : ℕ := k2 c s + zo (zc c)

/-! ## The copies

A device issues 28 remote copies, numbered in program order: 0–3 the first exchange, 4–7 the second,
8–13 the exchange along the third axis, 14–19 handing out finished rows along the third axis, 20–23
and 24–27 handing out finished quarters and halves. -/

/-- The phase of copy `t`. -/
def ph (t : Fin 28) : ℕ :=
  if t.val < 4 then 0 else if t.val < 8 then 1 else if t.val < 14 then 2 else if t.val < 20 then 3 else if t.val < 24 then 4 else 5
/-- The stream (half of the columns) of copy `t`. -/
def stm (t : Fin 28) : ℕ :=
  if t.val < 8 then t.val % 2 else if t.val < 14 then (t.val - 8) / 3 else if t.val < 20 then (t.val - 14) / 3
  else if t.val < 24 then (t.val - 20) / 2 else t.val % 2
/-- The half of the stream's columns of copy `t`; the third axis moves whole streams. -/
def chk (t : Fin 28) : ℕ :=
  if t.val < 8 then t.val % 4 / 2 else if t.val < 20 then 0 else if t.val < 24 then t.val % 2 else (t.val - 24) / 2
/-- The distance of copy `t` along the third axis, less one. -/
def dz (t : Fin 28) : ℕ := if t.val < 14 then (t.val - 8) % 3 else (t.val - 14) % 3
/-- The class of partner that copy `t` goes to. -/
def grp (t : Fin 28) : Fin 5 :=
  if ph t = 2 ∨ ph t = 3 then (if dz t = 0 then 2 else if dz t = 1 then 3 else 4)
  else if ph t = 0 ∨ ph t = 5 then (if stm t = 0 then 0 else 1) else (if stm t = 0 then 1 else 0)
/-- The device that copy `t` of device `c` goes to. -/
def peer (c : Dev nD) (t : Fin 28) : Dev nD := nb (grp t) c

/-- Copy `t` of the partner comes back to where copy `t` started. -/
theorem peer_peer (c : Dev nD) (t : Fin 28) : peer (peer c t) t = c := nb_nb _ _

/-- Rows of copy `t`. -/
def hgt (t : Fin 28) : ℕ := if ph t = 0 ∨ ph t = 5 then 512 else if ph t = 1 ∨ ph t = 4 then 256 else 64
/-- Columns of copy `t`. -/
def wid (t : Fin 28) : ℕ := if ph t = 2 ∨ ph t = 3 then 512 else 256
/-- First column of copy `t`, at both ends. -/
def col (t : Fin 28) : ℕ := stm t * 512 + chk t * 256
/-- First row that copy `t` of device `c` reads. -/
def srcRow (c : Dev nD) (t : Fin 28) : ℕ :=
  if ph t = 0 then (1 - b1 c (stm t)) * 512
  else if ph t = 1 then k1 c (stm t) + (1 - b2 c (stm t)) * 256
  else if ph t = 2 then k2 c (stm t) + zo (zx c (dz t))
  else if ph t = 3 then k4 c (stm t)
  else if ph t = 4 then k2 c (stm t) else k1 c (stm t)
/-- First row that copy `t` of device `c` writes at its partner. -/
def dstRow (c : Dev nD) (t : Fin 28) : ℕ :=
  if ph t = 0 then 0 else if ph t = 1 then 512 else if ph t = 2 then 768 + zc c * 64 else srcRow c t

/-- Whether copy `t` belongs to the reducing part (it reads the partial sums and writes the landing
buffer) or to the gathering part (it reads and writes the result). -/
def red (t : Fin 28) : Bool := decide (t.val < 14)

/-- The semaphore that counts the departures of copy `t`. -/
def sIx (t : Fin 28) : Fin 45 :=
  if ph t = 2 ∨ ph t = 3 then ⟨(7 + 3 * stm t + dz t) % 45, Nat.mod_lt _ (by decide)⟩
  else ⟨(3 + 2 * stm t + chk t) % 45, Nat.mod_lt _ (by decide)⟩
/-- How many copies of the same device used that semaphore before copy `t`. -/
def sRd (t : Fin 28) : ℕ :=
  if ph t = 0 then 0 else if ph t = 1 then 1 else if ph t = 2 then 0 else if ph t = 3 then 1 else if ph t = 4 then 2 else 3
/-- The semaphore that counts the landing of copy `t` of device `c` at its partner. -/
def rIx (c : Dev nD) (t : Fin 28) : Fin 45 :=
  ⟨(if ph t = 0 then 13 + 2 * stm t + chk t else if ph t = 1 then 17 + 2 * stm t + chk t
    else if ph t = 2 then 21 + 4 * stm t + zc c else if ph t = 3 then 29 + 4 * stm t + zc c
    else if ph t = 4 then 37 + 2 * stm t + chk t else 41 + 2 * stm t + chk t) % 45, Nat.mod_lt _ (by decide)⟩

/-- Different copies that come to a device land on different semaphores. -/
theorem rIx_inj : ∀ (c : Dev nD) (t u : Fin 28), rIx (peer c t) t = rIx (peer c u) u → t = u := by decide +kernel

/-- A departure semaphore is used by one copy in each round. -/
theorem sIx_inj : ∀ (t u : Fin 28), sIx t = sIx u → sRd t = sRd u → t = u := by decide +kernel

/-- Departures and landings are counted on different semaphores. -/
theorem sIx_ne_rIx : ∀ (c : Dev nD) (t u : Fin 28), sIx t ≠ rIx c u := by decide +kernel

end Cert.Butterfly

end
-- ==== Proof.Pieces.lean ====
/-
# Blocks of a buffer

Three 1024 × 1024 buffers take part in the copies: the partial sums, the landing buffer and the
result. A device holds rectangular blocks of them. This module names such a block, splits and joins
blocks, and gives the rule of a load, of a store and of the data a copy moves, over blocks.
-/
module

public import proofs.«01_k».proof.Proof.Coords
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The records of the copies' semaphores; a duty is named by a copy, or by a class of partner. -/
abbrev UB : Type := URounds (GSem nD τ sig) (Fin 28)
/-- The ghost state: the records of the staging buffers and those of the copies. -/
abbrev UU : Type := UR sig nD τ × UB

local notation "𝕄" => MT nD τ sig Unit (Elt F) ℕ UU ℕ

/-- Contents of a square buffer or of a part of it, by row and column. -/
abbrev Con (F : FTy → Type) : Type := ℕ → ℕ → Elt F .bf16

/-- The three square buffers: partial sums, landing buffer, result. -/
inductive Bf where
  | acc | rcv | out

/-- The memref of a square buffer. -/
abbrev Mr (b : Bf) : Memref sig .tc .vmem S1024x1024 .bf16 :=
  match b with
  | .acc => Memref.whole cc0_scratch0
  | .rcv => Memref.whole cc0_scratch1
  | .out => Memref.whole cc0_stg2_0

/-- The elements of rows `r … r + h - 1` and columns `k … k + w - 1`. -/
def blk (r k h w : ℕ) : Finset S1024x1024.Idx :=
  Finset.univ.filter fun i => (r ≤ (i 0).val ∧ (i 0).val < r + h) ∧ (k ≤ (i 1).val ∧ (i 1).val < k + w)

/-- A square buffer's contents from a function of row and column. -/
def buf (G : Con F) : S1024x1024.Idx → Elt F .bf16 := fun i => G (i 0).val (i 1).val

/-- The vector read at row `r` and column `k`. -/
def tile (sz : Fin 2 → ℕ) (r k : ℕ) (G : Con F) : (⟨2, sz⟩ : Shape).Idx → Elt F .bf16 :=
  fun x => G (r + (x 0).val) (k + (x 1).val)

/-- Device `c` holds a block of a square buffer, at share `q`, with the contents that `f` gives. -/
def Pf (b : Bf) (c : Dev nD) (r k h w : ℕ) (q : PosShare TreeShare) (f : S1024x1024.Idx → Elt F .bf16) : sProp 𝕄 :=
  match b with
  | .acc => ((c : Thread nD τ).loc cc0_scratch0) ↦[blk r k h w]{q} f
  | .rcv => ((c : Thread nD τ).loc cc0_scratch1) ↦[blk r k h w]{q} f
  | .out => ((c : Thread nD τ).loc cc0_stg2_0) ↦[blk r k h w]{q} f

/-- The block holds `G`. -/
def P (b : Bf) (c : Dev nD) (r k h w : ℕ) (q : PosShare TreeShare) (G : Con F) : sProp 𝕄 := Pf b c r k h w q (buf G)

/-- The block is held whole, with any contents. -/
def PE (b : Bf) (c : Dev nD) (r k h w : ℕ) : sProp 𝕄 := iprop(∃ f : S1024x1024.Idx → Elt F .bf16, Pf b c r k h w fullShare f)

omit [FloatOps F] in
/-- A block may be put into a record. -/
instance Pf_storable (b : Bf) (c : Dev nD) (r k h w : ℕ) (q) (f) : BI.Storable (upEmb : UEmb _ 𝕄) (Pf (F := F) b c r k h w q f) := by
  cases b <;> (unfold Pf; infer_instance)
omit [FloatOps F] in
/-- So may a block with known contents. -/
instance P_storable (b : Bf) (c : Dev nD) (r k h w : ℕ) (q) (G) : BI.Storable (upEmb : UEmb _ 𝕄) (P (F := F) b c r k h w q G) := by
  unfold P; infer_instance
omit [FloatOps F] in
/-- So may a block of any contents. -/
instance PE_storable (b : Bf) (c : Dev nD) (r k h w : ℕ) : BI.Storable (upEmb : UEmb _ 𝕄) (PE (F := F) b c r k h w) := by
  unfold PE; infer_instance

omit [FloatOps F] in
/-- Forgetting what a block holds. -/
theorem P_forget (b : Bf) (c : Dev nD) (r k h w : ℕ) (G : Con F) : P b c r k h w fullShare G ⊢ PE b c r k h w := by
  unfold P PE; iintro H; iexists (buf G); iexact H

omit [FloatOps F] in
/-- Contents that agree on the block are interchangeable. -/
theorem P_congr (b : Bf) (c : Dev nD) (r k h w : ℕ) (q) {G G' : Con F}
    (hG : ∀ i j, r ≤ i → i < r + h → k ≤ j → j < k + w → G i j = G' i j) : P b c r k h w q G = P b c r k h w q G' := by
  have : ∀ i ∈ blk r k h w, buf G i = buf G' i := fun i hi => by
    obtain ⟨⟨h1, h2⟩, h3, h4⟩ := (Finset.mem_filter.mp hi).2
    exact hG _ _ h1 h2 h3 h4
  cases b <;> exact pointsTo_congr this

/-! ## Splitting and joining -/

omit [FloatOps F] in
/-- The positions of a block, as its upper and its lower part. -/
theorem blk_rows (r k h h' w : ℕ) : blk r k (h + h') w = blk r k h w ∪ blk (r + h) k h' w := by
  ext i; simp only [blk, Finset.mem_union, Finset.mem_filter, Finset.mem_univ, true_and]; omega
/-- The upper and the lower part have no position in common. -/
theorem blk_rows_disj (r k h h' w : ℕ) : Disjoint (blk r k h w) (blk (r + h) k h' w) :=
  Finset.disjoint_left.mpr fun i hi hj => by
    simp only [blk, Finset.mem_filter, Finset.mem_univ, true_and] at hi hj; omega
/-- The positions of a block, as its left and its right part. -/
theorem blk_cols (r k h w w' : ℕ) : blk r k h (w + w') = blk r k h w ∪ blk r (k + w) h w' := by
  ext i; simp only [blk, Finset.mem_union, Finset.mem_filter, Finset.mem_univ, true_and]; omega
/-- The left and the right part have no position in common. -/
theorem blk_cols_disj (r k h w w' : ℕ) : Disjoint (blk r k h w) (blk r (k + w) h w') :=
  Finset.disjoint_left.mpr fun i hi hj => by
    simp only [blk, Finset.mem_filter, Finset.mem_univ, true_and] at hi hj; omega

omit [FloatOps F] in
/-- A block is its upper and its lower part. -/
theorem Pf_rows (b : Bf) (c : Dev nD) (r k h h' w : ℕ) (q) (f : S1024x1024.Idx → Elt F .bf16) :
    Pf b c r k (h + h') w q f ⊣⊢ iprop(Pf b c r k h w q f ∗ Pf b c (r + h) k h' w q f) := by
  cases b <;> (unfold Pf; dsimp only; rw [blk_rows]; exact pointsTo_union (blk_rows_disj r k h h' w))
omit [FloatOps F] in
/-- A block is its left and its right part. -/
theorem Pf_cols (b : Bf) (c : Dev nD) (r k h w w' : ℕ) (q) (f : S1024x1024.Idx → Elt F .bf16) :
    Pf b c r k h (w + w') q f ⊣⊢ iprop(Pf b c r k h w q f ∗ Pf b c r (k + w) h w' q f) := by
  cases b <;> (unfold Pf; dsimp only; rw [blk_cols]; exact pointsTo_union (blk_cols_disj r k h w w'))
omit [FloatOps F] in
/-- A block with known contents is its upper and its lower part. -/
theorem P_rows (b : Bf) (c : Dev nD) (r k h h' w : ℕ) (q) (G : Con F) :
    P b c r k (h + h') w q G ⊣⊢ iprop(P b c r k h w q G ∗ P b c (r + h) k h' w q G) := Pf_rows b c r k h h' w q _
omit [FloatOps F] in
/-- A block with known contents is its left and its right part. -/
theorem P_cols (b : Bf) (c : Dev nD) (r k h w w' : ℕ) (q) (G : Con F) :
    P b c r k h (w + w') q G ⊣⊢ iprop(P b c r k h w q G ∗ P b c r (k + w) h w' q G) := Pf_cols b c r k h w w' q _

omit [FloatOps F] in
/-- Splitting a block of any contents by rows. -/
theorem PE_rows (b : Bf) (c : Dev nD) (r k h h' w : ℕ) :
    (PE b c r k (h + h') w : sProp 𝕄) ⊣⊢ iprop(PE b c r k h w ∗ PE b c (r + h) k h' w) := by
  constructor
  · unfold PE
    iintro ⟨%f, H⟩
    ihave H' := (Pf_rows b c r k h h' w fullShare f).1 $$ H
    icases H' with ⟨H1, H2⟩
    isplitl [H1]
    · iexists f; iexact H1
    · iexists f; iexact H2
  · unfold PE
    iintro ⟨⟨%f, H1⟩, ⟨%g, H2⟩⟩
    iexists ((blk (r + h) k h' w).piecewise g f)
    rw [show (Pf b c r k (h + h') w fullShare ((blk (r + h) k h' w).piecewise g f) : sProp 𝕄) = _ from rfl]
    iapply (show iprop(Pf b c r k h w fullShare f ∗ Pf b c (r + h) k h' w fullShare g)
        ⊢ (Pf b c r k (h + h') w fullShare ((blk (r + h) k h' w).piecewise g f) : sProp 𝕄) from by
      cases b <;> (unfold Pf; dsimp only; rw [blk_rows]; exact pointsTo_join (blk_rows_disj r k h h' w)))
    isplitl [H1] <;> iassumption
omit [FloatOps F] in
/-- Splitting a block of any contents by columns. -/
theorem PE_cols (b : Bf) (c : Dev nD) (r k h w w' : ℕ) :
    (PE b c r k h (w + w') : sProp 𝕄) ⊣⊢ iprop(PE b c r k h w ∗ PE b c r (k + w) h w') := by
  constructor
  · unfold PE
    iintro ⟨%f, H⟩
    ihave H' := (Pf_cols b c r k h w w' fullShare f).1 $$ H
    icases H' with ⟨H1, H2⟩
    isplitl [H1]
    · iexists f; iexact H1
    · iexists f; iexact H2
  · unfold PE
    iintro ⟨⟨%f, H1⟩, ⟨%g, H2⟩⟩
    iexists ((blk r (k + w) h w').piecewise g f)
    iapply (show iprop(Pf b c r k h w fullShare f ∗ Pf b c r (k + w) h w' fullShare g)
        ⊢ (Pf b c r k h (w + w') fullShare ((blk r (k + w) h w').piecewise g f) : sProp 𝕄) from by
      cases b <;> (unfold Pf; dsimp only; rw [blk_cols]; exact pointsTo_join (blk_cols_disj r k h w w')))
    isplitl [H1] <;> iassumption

omit [FloatOps F] in
/-- A block held at a share is held at the two halves of the share. -/
theorem P_share (b : Bf) (c : Dev nD) (r k h w : ℕ) (q : PosShare TreeShare) (G : Con F) :
    P b c r k h w q G ⊣⊢ iprop(P b c r k h w q.left G ∗ P b c r k h w q.right G) := by
  cases b <;> exact pointsTo_share (PosShare.mem_left_op_right q)

/-! ## The rectangles of the program -/

omit [FloatOps F] in
/-- A rectangle of the program is a block. -/
theorem rect_blk {off sz : Fin 2 → ℕ} {inb : ∀ a, off a + sz a ≤ S1024x1024.size a} {r k h w : ℕ}
    (ho : off = ![r, k]) (hs : sz = ![h, w]) : (Rect.unit (s := S1024x1024) off sz inb).set = blk r k h w := by
  subst ho hs
  ext i
  rw [Rect.mem_set_unit]
  simp only [blk, Finset.mem_filter, Finset.mem_univ, true_and, Fin.forall_fin_two]
  exact Iff.rfl

omit [FloatOps F] in
/-- Reading a rectangle of a square buffer gives the tile there. -/
theorem read_rect (G : Con F) {off sz : Fin 2 → ℕ} {inb : ∀ a, off a + sz a ≤ S1024x1024.size a} {r k : ℕ} (ho : off = ![r, k])
    (x : (⟨2, sz⟩ : Shape).Idx) : buf G ((Rect.unit (s := S1024x1024) off sz inb).emb x) = tile sz r k G x := by
  subst ho
  show G (r + 1 * (x 0).val) (k + 1 * (x 1).val) = G (r + (x 0).val) (k + (x 1).val)
  rw [one_mul, one_mul]

/-- No variants: no loop is involved. -/
abbrev 𝒱₀ : Variants := Variants.none

/-! ## Loads and stores -/

variable (c : Dev nD) {α : Type}

/-- A load of a block reads its contents there. -/
theorem wp_loadPf (b : Bf) {S : Rect S1024x1024} {Q : α → sProp 𝕄} {hl : (Mr b).view.LoadsAt S.toLoadRect}
    {k : (S.shape.Idx → Elt F .bf16) → Prog (TpuEff nD τ sig (Elt F) Λ₀ .tc) α} {r cc h w : ℕ} {q}
    {f : S1024x1024.Idx → Elt F .bf16} (hS : S.set = blk r cc h w) :
    Pf b c r cc h w q f ⊢ iprop((Pf b c r cc h w q f -∗ wp frame (wpE (defs₀ (F := F)) 𝒱₀ (c : Thread nD τ) none) Set.univ (k fun x => f (S.emb x)) Q)
      -∗ wp frame (wpE (defs₀ (F := F)) 𝒱₀ (c : Thread nD τ) none) Set.univ (.op (.load (Mr b) S.toLoadRect hl) k) Q) := by
  cases b with
  | acc => exact wp_load_rect 𝒱₀ (c : Thread nD τ) none Set.univ (m := Mr .acc) (r := S) (by rw [← hS]; exact (View.set_slice_whole _ _).le)
  | rcv => exact wp_load_rect 𝒱₀ (c : Thread nD τ) none Set.univ (m := Mr .rcv) (r := S) (by rw [← hS]; exact (View.set_slice_whole _ _).le)
  | out => exact wp_load_rect 𝒱₀ (c : Thread nD τ) none Set.univ (m := Mr .out) (r := S) (by rw [← hS]; exact (View.set_slice_whole _ _).le)

/-- A load of a block that holds `G` gives the tile `v` of `G`. -/
theorem wp_loadP (b : Bf) {S : Rect S1024x1024} {Q : α → sProp 𝕄} {hl : (Mr b).view.LoadsAt S.toLoadRect}
    {k : (S.shape.Idx → Elt F .bf16) → Prog (TpuEff nD τ sig (Elt F) Λ₀ .tc) α} {r cc h w : ℕ} {q}
    {G : Con F} (v : S.shape.Idx → Elt F .bf16) (hS : S.set = blk r cc h w) (hv : ∀ x, buf G (S.emb x) = v x) :
    P b c r cc h w q G ⊢ iprop((P b c r cc h w q G -∗ wp frame (wpE (defs₀ (F := F)) 𝒱₀ (c : Thread nD τ) none) Set.univ (k v) Q)
      -∗ wp frame (wpE (defs₀ (F := F)) 𝒱₀ (c : Thread nD τ) none) Set.univ (.op (.load (Mr b) S.toLoadRect hl) k) Q) := by
  rw [← (funext hv : (fun x => buf G (S.emb x)) = v)]
  exact wp_loadPf c b hS

/-- A load of a block whose contents nobody reads. -/
theorem wp_loadPE (b : Bf) {S : Rect S1024x1024} {Q : α → sProp 𝕄} {hl : (Mr b).view.LoadsAt S.toLoadRect}
    {k : (S.shape.Idx → Elt F .bf16) → Prog (TpuEff nD τ sig (Elt F) Λ₀ .tc) α} {r cc h w : ℕ} (hS : S.set = blk r cc h w) :
    PE b c r cc h w ⊢ iprop((∀ v, PE b c r cc h w -∗ wp frame (wpE (defs₀ (F := F)) 𝒱₀ (c : Thread nD τ) none) Set.univ (k v) Q)
      -∗ wp frame (wpE (defs₀ (F := F)) 𝒱₀ (c : Thread nD τ) none) Set.univ (.op (.load (Mr b) S.toLoadRect hl) k) Q) := by
  unfold PE
  iintro ⟨%f, H⟩
  iintro Hk
  iapply (wp_loadPf c b hS) $$ H
  iintro H
  iapply Hk
  iexists f; iexact H

/-- A store of the tile `v` of `G` over a block leaves the block holding `G`. -/
theorem wp_storeP (b : Bf) {S : Rect S1024x1024} {Q : α → sProp 𝕄} {v : S.shape.Idx → Elt F .bf16}
    {hx : ((Mr b).access S).Stores Finset.univ} {hm}
    {k : PUnit → Prog (TpuEff nD τ sig (Elt F) Λ₀ .tc) α} {r cc h w : ℕ} (G : Con F)
    (hS : S.set = blk r cc h w) (hv : ∀ x, buf G (S.emb x) = v x) :
    PE b c r cc h w ⊢ iprop((P b c r cc h w fullShare G -∗ wp frame (wpE (defs₀ (F := F)) 𝒱₀ (c : Thread nD τ) none) Set.univ (k ⟨⟩) Q)
      -∗ wp frame (wpE (defs₀ (F := F)) 𝒱₀ (c : Thread nD τ) none) Set.univ (.op (.store (Mr b) S v Finset.univ hx hm) k) Q) := by
  have key : ∀ g : S1024x1024.Idx → Elt F .bf16, (∀ x, g (S.emb x) = v x) → ∀ i ∈ blk r cc h w, g i = buf G i := fun g hg i hi => by
    rw [← hS, ← Rect.map_emb_univ] at hi
    obtain ⟨x, -, rfl⟩ := Finset.mem_map.mp hi
    rw [hg, hv]
  unfold PE
  iintro ⟨%f, H⟩
  iapply (show Pf b c r cc h w fullShare f ⊢ iprop((P b c r cc h w fullShare G -∗ wp frame (wpE (defs₀ (F := F)) 𝒱₀ (c : Thread nD τ) none) Set.univ (k ⟨⟩) Q)
      -∗ wp frame (wpE (defs₀ (F := F)) 𝒱₀ (c : Thread nD τ) none) Set.univ (.op (.store (Mr b) S v Finset.univ hx hm) k) Q) from ?_) $$ H
  cases b with
  | acc =>
    have hw := wp_store (Γ := .empty) (defs := defs₀ (F := F)) (hx := hx) (hm := hm) (k := k) (Q := Q) 𝒱₀ (c : Thread nD τ) none Set.univ (m := Mr .acc) (r := S) (w := v)
      (Mk := Finset.univ) (S := blk r cc h w) (f := f) (by rw [← hS]; exact (View.set_slice_whole _ _).le)
    have e : (((c : Thread nD τ).loc cc0_scratch0 ↦[blk r cc h w]{fullShare} ((Mr .acc).access S).write (Elt F) f v Finset.univ) : sProp 𝕄)
        = P Bf.acc c r cc h w fullShare G :=
      pointsTo_congr (key _ fun x => View.write_emb_of_mem _ _ (Finset.mem_univ x))
    rw [← e]
    exact hw
  | rcv =>
    have hw := wp_store (Γ := .empty) (defs := defs₀ (F := F)) (hx := hx) (hm := hm) (k := k) (Q := Q) 𝒱₀ (c : Thread nD τ) none Set.univ (m := Mr .rcv) (r := S) (w := v)
      (Mk := Finset.univ) (S := blk r cc h w) (f := f) (by rw [← hS]; exact (View.set_slice_whole _ _).le)
    have e : (((c : Thread nD τ).loc cc0_scratch1 ↦[blk r cc h w]{fullShare} ((Mr .rcv).access S).write (Elt F) f v Finset.univ) : sProp 𝕄)
        = P Bf.rcv c r cc h w fullShare G :=
      pointsTo_congr (key _ fun x => View.write_emb_of_mem _ _ (Finset.mem_univ x))
    rw [← e]
    exact hw
  | out =>
    have hw := wp_store (Γ := .empty) (defs := defs₀ (F := F)) (hx := hx) (hm := hm) (k := k) (Q := Q) 𝒱₀ (c : Thread nD τ) none Set.univ (m := Mr .out) (r := S) (w := v)
      (Mk := Finset.univ) (S := blk r cc h w) (f := f) (by rw [← hS]; exact (View.set_slice_whole _ _).le)
    have e : (((c : Thread nD τ).loc cc0_stg2_0 ↦[blk r cc h w]{fullShare} ((Mr .out).access S).write (Elt F) f v Finset.univ) : sProp 𝕄)
        = P Bf.out c r cc h w fullShare G :=
      pointsTo_congr (key _ fun x => View.write_emb_of_mem _ _ (Finset.mem_univ x))
    rw [← e]
    exact hw

end Cert.Butterfly

end
-- ==== Proof.Contents.lean ====
/-
# What the buffers hold

From the blocks of the two arguments on the sixteen devices: the partial product of a device, its
sums after each of the three exchanges, and the result. Everything is a function of row and column.
-/
module

public import proofs.«01_k».proof.Proof.Pieces

@[expose] public section

noncomputable section

namespace Cert.Butterfly

open Cert.KernelIdeal Cert.KernelIdeal.Gen
open Idealize.ShloMosaic

variable {F : FTy → Type} [FloatOps F]

/-- The index of row `i` and column `j`, each taken modulo its extent. -/
def at2 {sz : Fin 2 → ℕ} (hp : ∀ a, 0 < sz a) (i j : ℕ) : (⟨2, sz⟩ : Shape).Idx :=
  fun a => ⟨(if a = 0 then i else j) % sz a, Nat.mod_lt _ (hp a)⟩

/-- An index is the one of its row and column. -/
theorem at2_self {sz : Fin 2 → ℕ} (hp : ∀ a, 0 < sz a) (x : (⟨2, sz⟩ : Shape).Idx) : at2 hp (x 0).val (x 1).val = x := by
  funext a
  apply Fin.ext
  show (if a = 0 then (x 0).val else (x 1).val) % sz a = (x a).val
  have h := Nat.mod_eq_of_lt (x a).isLt
  revert h
  fin_cases a <;> exact id

/-- Rows and columns that agree modulo the extents name one index. -/
theorem at2_congr {sz : Fin 2 → ℕ} (hp : ∀ a, 0 < sz a) {i j i' j' : ℕ} (hi : i % sz 0 = i' % sz 0) (hj : j % sz 1 = j' % sz 1) :
    at2 hp i j = at2 hp i' j' := by
  funext a
  apply Fin.ext
  show (if a = 0 then i else j) % sz a = (if a = 0 then i' else j') % sz a
  revert hi hj
  fin_cases a
  · exact fun h _ => h
  · exact fun _ h => h

/-- The blocks of the two arguments, by device. -/
structure Args (F : FTy → Type) where
  a : Dev nD → S1024x512.Idx → Elt F .bf16
  b : Dev nD → S512x1024.Idx → Elt F .bf16

/-- The left block of a device, by row and column. -/
def conA (f : S1024x512.Idx → Elt F .bf16) : Con F := fun i j => f (at2 (by decide) i j)
/-- The right block of a device, by row and column. -/
def conB (f : S512x1024.Idx → Elt F .bf16) : Con F := fun i j => f (at2 (by decide) i j)

/-- A loaded rectangle of the left block. -/
theorem load_conA (f : S1024x512.Idx → Elt F .bf16) {off sz : Fin 2 → ℕ} {inb : ∀ a, off a + sz a ≤ S1024x512.size a} {r k : ℕ}
    (ho : off = ![r, k]) (x : (⟨2, sz⟩ : Shape).Idx) : f ((Rect.unit (s := S1024x512) off sz inb).emb x) = tile sz r k (conA f) x := by
  subst ho
  have h : (Rect.unit (s := S1024x512) ![r, k] sz inb).emb x = at2 (by decide) (r + (x 0).val) (k + (x 1).val) := by
    rw [← at2_self (by decide) ((Rect.unit (s := S1024x512) ![r, k] sz inb).emb x)]
    show at2 _ (r + 1 * (x 0).val) (k + 1 * (x 1).val) = _
    rw [one_mul, one_mul]
  rw [h]; rfl

/-- A loaded rectangle of the right block. -/
theorem load_conB (f : S512x1024.Idx → Elt F .bf16) {off sz : Fin 2 → ℕ} {inb : ∀ a, off a + sz a ≤ S512x1024.size a} {r k : ℕ}
    (ho : off = ![r, k]) (x : (⟨2, sz⟩ : Shape).Idx) : f ((Rect.unit (s := S512x1024) off sz inb).emb x) = tile sz r k (conB f) x := by
  subst ho
  have h : (Rect.unit (s := S512x1024) ![r, k] sz inb).emb x = at2 (by decide) (r + (x 0).val) (k + (x 1).val) := by
    rw [← at2_self (by decide) ((Rect.unit (s := S512x1024) ![r, k] sz inb).emb x)]
    show at2 _ (r + 1 * (x 0).val) (k + 1 * (x 1).val) = _
    rw [one_mul, one_mul]
  rw [h]; rfl

variable (X : Args F)

/-- The partial product of device `c`, a rectangle at a time as the program computes it: the half
that is sent in pieces of 256 columns, the half that is kept in one piece per stream. -/
def acc0 (c : Dev nD) : Con F := fun i j =>
  if i / 512 = b1 c (j / 512) then
    k0_pay8 (tile ![512, 512] (i / 512 * 512) 0 (conA (X.a c))) (tile ![512, 512] 0 (j / 512 * 512) (conB (X.b c))) (at2 (by decide) i j)
  else
    k0_pay3 (tile ![512, 512] (i / 512 * 512) 0 (conA (X.a c))) (tile ![512, 256] 0 (j / 256 * 256) (conB (X.b c))) (at2 (by decide) i j)

/-- After the first exchange. -/
def acc1 (c : Dev nD) : Con F := fun i j => FloatOps.addf (φ := .bf16) (acc0 X c i j) (acc0 X (if j / 512 = 0 then nb 0 c else nb 1 c) i j)
/-- After the second exchange. -/
def acc2 (c : Dev nD) : Con F := fun i j => FloatOps.addf (φ := .bf16) (acc1 X c i j) (acc1 X (if j / 512 = 0 then nb 1 c else nb 0 c) i j)
/-- With the first partner along the third axis. -/
def acc3 (c : Dev nD) : Con F := fun i j => FloatOps.addf (φ := .bf16) (acc2 X c i j) (acc2 X (nb 2 c) i j)
/-- With the second partner along the third axis. -/
def acc4 (c : Dev nD) : Con F := fun i j => FloatOps.addf (φ := .bf16) (acc3 X c i j) (acc2 X (nb 3 c) i j)
/-- With the third partner along the third axis: the sum over all devices. -/
def acc5 (c : Dev nD) : Con F := fun i j => FloatOps.addf (φ := .bf16) (acc4 X c i j) (acc2 X (nb 4 c) i j)
/-- The finished elements of device `c`. -/
def outG (c : Dev nD) : Con F := fun i j => FloatOps.maximumf (φ := .bf16) (acc5 X c i j) (Scalar.ofBits .bf16 0x0000#16)

/-- The device that finishes the 64 rows number `m` of stream `s`. -/
def owner (m s : ℕ) : Dev nD :=
  let u := m / 8 % 2
  let v := m / 4 % 2
  ⟨((u + v) % 2 + 2 * (if s = 0 then v else u) + 4 * (m / 2 % 2) + 8 * (m % 2)) % 16, Nat.mod_lt _ (by decide)⟩

/-- The result: every element from the device that finishes it. -/
def outF : Con F := fun i j => outG X (owner (i / 64) (j / 512)) i j

/-- A device finishes its own rows. -/
theorem owner_k4 : ∀ (c : Dev nD) (s : Fin 2), owner (k4 c s / 64) s = c := by decide +kernel

/-- What copy `t` of device `c` reads. -/
def srcG (c : Dev nD) (t : Fin 28) : Con F :=
  if ph t = 0 then acc0 X c else if ph t = 1 then acc1 X c else if ph t = 2 then acc2 X c else outF X

/-- What copy `t` of device `c` leaves at its partner. -/
def recvG (c : Dev nD) (t : Fin 28) : Con F := fun i j => srcG X c t (i - dstRow c t + srcRow c t) j

/-! ## The stored vectors -/

/-- The half that is sent, in pieces of 256 columns. -/
theorem acc0_sent (c : Dev nD) (t : Fin 28) (ht : t.val < 4) (x : (⟨2, ![512, 256]⟩ : Shape).Idx) :
    acc0 X c (srcRow c t + (x 0).val) (col t + (x 1).val)
      = k0_pay3 (tile ![512, 512] (srcRow c t) 0 (conA (X.a c))) (tile ![512, 256] 0 (col t) (conB (X.b c))) x := by
  have h0 : (x 0).val < 512 := (x 0).isLt
  have h1 : (x 1).val < 256 := (x 1).isLt
  obtain ⟨ρ, κ, hr, hc, hne, h4⟩ : ∃ ρ κ, srcRow c t = ρ * 512 ∧ col t = κ * 256 ∧ ρ ≠ b1 c (κ / 2) ∧ κ < 4 := by
    have := (by decide +kernel : ∀ (c : Dev nD) (t : Fin 28), t.val < 4 →
      srcRow c t = (srcRow c t / 512) * 512 ∧ col t = (col t / 256) * 256 ∧ srcRow c t / 512 ≠ b1 c (col t / 256 / 2) ∧ col t / 256 < 4) c t ht
    exact ⟨_, _, this⟩
  rw [hr, hc]
  have e1 : (ρ * 512 + (x 0).val) / 512 = ρ := by omega
  have e2 : (κ * 256 + (x 1).val) / 256 = κ := by omega
  have e3 : (κ * 256 + (x 1).val) / 512 = κ / 2 := by omega
  unfold acc0
  rw [e1, e2, e3, if_neg hne]
  have : at2 (sz := ![512, 256]) (by decide) (ρ * 512 + (x 0).val) (κ * 256 + (x 1).val) = x :=
    (at2_congr _ (show (ρ * 512 + (x 0).val) % 512 = (x 0).val % 512 by omega) (show (κ * 256 + (x 1).val) % 256 = (x 1).val % 256 by omega)).trans (at2_self _ x)
  exact congrArg _ this

/-- The half that is kept, in one piece per stream. -/
theorem acc0_kept (c : Dev nD) (s : Fin 2) (x : (⟨2, ![512, 512]⟩ : Shape).Idx) :
    acc0 X c (k1 c s + (x 0).val) (s.val * 512 + (x 1).val)
      = k0_pay8 (tile ![512, 512] (k1 c s) 0 (conA (X.a c))) (tile ![512, 512] 0 (s.val * 512) (conB (X.b c))) x := by
  have h0 : (x 0).val < 512 := (x 0).isLt
  have h1 : (x 1).val < 512 := (x 1).isLt
  unfold k1
  have e1 : (b1 c s * 512 + (x 0).val) / 512 = b1 c s := by omega
  have e3 : (s.val * 512 + (x 1).val) / 512 = s.val := by omega
  unfold acc0
  rw [e1, e3, if_pos rfl]
  have : at2 (sz := ![512, 512]) (by decide) (b1 c s * 512 + (x 0).val) (s.val * 512 + (x 1).val) = x :=
    (at2_congr _ (show (b1 c s * 512 + (x 0).val) % 512 = (x 0).val % 512 by omega) (show (s.val * 512 + (x 1).val) % 512 = (x 1).val % 512 by omega)).trans (at2_self _ x)
  exact congrArg _ this

/-- First row, at the receiver, of what copy `t` of its partner brings to add. -/
def addRow (c : Dev nD) (t : Fin 28) : ℕ := if ph t = 0 then k1 c (stm t) else if ph t = 1 then k2 c (stm t) else k4 c (stm t)

/-- The rows that a partner sends to be added are the rows that the receiver keeps. -/
theorem srcRow_peer : ∀ (c : Dev nD) (t : Fin 28), t.val < 14 → srcRow (peer c t) t = addRow c t := by decide +kernel

/-- The landed rows, read from where they landed. -/
theorem recvG_landed (c : Dev nD) (t : Fin 28) (ht : t.val < 14) (i j : ℕ) :
    recvG X (peer c t) t (dstRow (peer c t) t + i) j = srcG X (peer c t) t (addRow c t + i) j := by
  unfold recvG
  rw [srcRow_peer c t ht, Nat.add_sub_cancel_left, Nat.add_comm]

/-- Adding what lands in the first exchange. -/
theorem acc1_sum (c : Dev nD) (t : Fin 28) (ht : t.val < 4) (i j : ℕ) (hj : j < 256) :
    acc1 X c (addRow c t + i) (col t + j)
      = FloatOps.addf (φ := .bf16) (acc0 X c (addRow c t + i) (col t + j)) (recvG X (peer c t) t (dstRow (peer c t) t + i) (col t + j)) := by
  rw [recvG_landed X c t (by omega)]
  have h := (by decide +kernel : ∀ (c : Dev nD) (t : Fin 28), t.val < 4 →
    col t = col t / 256 * 256 ∧ ph t = 0 ∧ (if col t / 256 / 2 = 0 then nb 0 c else nb 1 c) = peer c t) c t ht
  unfold acc1 srcG
  rw [if_pos h.2.1, show (col t + j) / 512 = col t / 256 / 2 by omega, h.2.2]

/-- Adding what lands in the second exchange. -/
theorem acc2_sum (c : Dev nD) (t : Fin 28) (h4 : 4 ≤ t.val) (ht : t.val < 8) (i j : ℕ) (hj : j < 256) :
    acc2 X c (addRow c t + i) (col t + j)
      = FloatOps.addf (φ := .bf16) (acc1 X c (addRow c t + i) (col t + j)) (recvG X (peer c t) t (dstRow (peer c t) t + i) (col t + j)) := by
  rw [recvG_landed X c t (by omega)]
  have h := (by decide +kernel : ∀ (c : Dev nD) (t : Fin 28), 4 ≤ t.val → t.val < 8 →
    col t = col t / 256 * 256 ∧ ph t = 1 ∧ (if col t / 256 / 2 = 0 then nb 1 c else nb 0 c) = peer c t) c t h4 ht
  unfold acc2 srcG
  rw [show (col t + j) / 512 = col t / 256 / 2 by omega, h.2.2, if_neg (by rw [h.2.1]; decide), if_pos h.2.1]

/-- What lands in the exchange along the third axis. -/
theorem recvG_third (c : Dev nD) (t : Fin 28) (h8 : 8 ≤ t.val) (ht : t.val < 14) (i j : ℕ) :
    recvG X (peer c t) t (dstRow (peer c t) t + i) j = acc2 X (peer c t) (addRow c t + i) j := by
  rw [recvG_landed X c t ht]
  have h := (by decide +kernel : ∀ t : Fin 28, 8 ≤ t.val → t.val < 14 → ph t = 2) t h8 ht
  unfold srcG
  rw [if_neg (by rw [h]; decide), if_neg (by rw [h]; decide), if_pos h]

/-- A device's finished rows are the result's. -/
theorem outF_own (c : Dev nD) (s : Fin 2) (i j : ℕ) (hi : i < 64) (hj : j < 512) :
    outF X (k4 c s + i) (s.val * 512 + j) = outG X c (k4 c s + i) (s.val * 512 + j) := by
  have h := (by decide +kernel : ∀ (c : Dev nD) (s : Fin 2), k4 c s = k4 c s / 64 * 64) c s
  unfold outF
  rw [show (k4 c s + i) / 64 = k4 c s / 64 by omega, show (s.val * 512 + j) / 512 = s.val by omega, owner_k4]

/-- The gathering copies move the result in place. -/
theorem recvG_gather (c : Dev nD) (t : Fin 28) (ht : 14 ≤ t.val) (i j : ℕ) (hi : srcRow c t ≤ i) : recvG X c t i j = outF X i j := by
  have h := (by decide +kernel : ∀ (c : Dev nD) (t : Fin 28), 14 ≤ t.val → dstRow c t = srcRow c t ∧ ph t ≠ 0 ∧ ph t ≠ 1 ∧ ph t ≠ 2) c t ht
  unfold recvG srcG
  rw [h.1, Nat.sub_add_cancel hi, if_neg h.2.1, if_neg h.2.2.1, if_neg h.2.2.2]

end Cert.Butterfly

end
-- ==== Proof.Schedule.lean ====
/-
# Who signals what, and what comes with it

Every semaphore of the copies goes through rounds. A copy adds to a departure semaphore of its own
device, which brings the source block back, and to a landing semaphore of the receiving device, which
brings the block that landed. The first exchange of signals brings each device the blocks at its
partners that its copies will write.
-/
module

public import proofs.«01_k».proof.Proof.Contents

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the rights of the staging are kept. -/
abbrev EP : Emb (UR sig nD τ) (MT nD τ sig Unit (Elt F) ℕ UU ℕ) := embL
/-- Where the rights of the kernel's own semaphores are kept. -/
abbrev ER : Emb UB (MT nD τ sig Unit (Elt F) ℕ UU ℕ) := embR

/-! ## Cells -/

/-- The semaphore of the opening signals. -/
abbrev barS : Sem sig := (SemArray.scalar (sig.barrier 0 rfl) : Sems sig S_).sem
/-- The cell of the opening signals. -/
abbrev bcell (c : Dev nD) : GSem nD τ sig := ((c : Thread nD τ), .reg barS)
/-- The cell of DMA semaphore `q`. -/
abbrev dcell (c : Dev nD) (q : Fin 45) : GSem nD τ sig := ((c : Thread nD τ), .dma q)
/-- The cell that copy `t` of device `c` lands on. -/
abbrev rcell (c : Dev nD) (t : Fin 28) : GSem nD τ sig := dcell (peer c t) (rIx c t)

/-- What copy `t` adds to a semaphore. -/
def Nt (t : Fin 28) : ℕ := RefSig.tileCredit ⟨2, ![hgt t, wid t]⟩ .bf16

/-! ## Blocks that travel -/

/-- The buffer that a copy reads. -/
def sb (t : Fin 28) : Bf := if t.val < 14 then .acc else .out
/-- The buffer that a copy writes. -/
def db (t : Fin 28) : Bf := if t.val < 14 then .rcv else .out

/-- The share of its source that a copy borrows: in the gathering part several copies read the same
rows at once. -/
def qs (t : Fin 28) : PosShare TreeShare :=
  if t.val < 14 then fullShare
  else if t.val < 20 then (if dz t = 0 then fullShare.right.left else if dz t = 1 then fullShare.right.right.left else fullShare.right.right.right)
  else fullShare.left

variable (X : Args F)

/-- The source block of copy `t` of device `c`. -/
def sendPay (c : Dev nD) (t : Fin 28) : sProp 𝕄 := P (sb t) c (srcRow c t) (col t) (hgt t) (wid t) (qs t) (srcG X c t)
/-- The block at device `c` that copy `t` of its partner brings. -/
def recvPay (c : Dev nD) (t : Fin 28) : sProp 𝕄 :=
  P (db t) c (dstRow (peer c t) t) (col t) (hgt t) (wid t) fullShare (recvG X (peer c t) t)
/-- The block at the partner that copy `t` of device `c` will write. -/
def dstP (c : Dev nD) (t : Fin 28) : sProp 𝕄 := PE (db t) (peer c t) (dstRow c t) (col t) (hgt t) (wid t)
/-- The blocks that the partner of class `b` hands to device `c` with its opening signal. -/
def barPay (c : Dev nD) (b : Fin 28) : sProp 𝕄 := bigSep (Finset.univ.filter fun t : Fin 28 => (grp t).val = b.val) (dstP c)

omit [FloatOps F] in
/-- The block that a copy will write may be put into a record. -/
instance dstP_storable (c : Dev nD) (t : Fin 28) : BI.Storable (upEmb : UEmb _ 𝕄) (dstP (F := F) c t) := by
  unfold dstP; infer_instance
omit [FloatOps F] in
/-- So may what an opening signal brings. -/
instance barPay_storable (c : Dev nD) (b : Fin 28) : BI.Storable (upEmb : UEmb _ 𝕄) (barPay (F := F) c b) := by
  unfold barPay; infer_instance
/-- So may the block that a copy borrows. -/
instance sendPay_storable (c : Dev nD) (t : Fin 28) : BI.Storable (upEmb : UEmb _ 𝕄) (sendPay X c t) := by
  unfold sendPay; infer_instance
/-- So may the block that a copy brings. -/
instance recvPay_storable (c : Dev nD) (t : Fin 28) : BI.Storable (upEmb : UEmb _ 𝕄) (recvPay X c t) := by
  unfold recvPay; infer_instance

/-! ## The schedule -/

/-- The copies counted by DMA semaphore `q` of device `c` in round `r`. -/
def dutyD (c : Dev nD) (q : Fin 45) (r : ℕ) : Finset (Fin 28) :=
  Finset.univ.filter fun t => (sIx t = q ∧ sRd t = r) ∨ (rIx (peer c t) t = q ∧ r = 0)

/-- Every copy counts for something. -/
theorem Nt_pos : ∀ t : Fin 28, 0 < Nt t := by decide +kernel

/-- The schedule of all cells. -/
def sched : Rounds.Schedule (GSem nD τ sig) (Fin 28) 𝕄 where
  duties g r := if g.1.2 = .tc then (match g.2 with
    | .reg s => if s = barS ∧ r = 0 then Finset.univ.filter fun b : Fin 28 => b.val < 5 else ∅
    | .dma q => dutyD g.1.1 q r) else ∅
  unitless _ := False
  amount g _ t := match g.2 with
    | .reg _ => 1
    | .dma _ => Nt t
  payload g _ t := match g.2 with
    | .reg _ => barPay g.1.1 t
    | .dma q => if sIx t = q then sendPay X g.1.1 t else recvPay X g.1.1 t
  amount_pos g r d _ := by
    rcases g with ⟨_, _ | _⟩
    · exact Nat.one_pos
    · exact Nt_pos d

/-- Whatever the schedule hands over may be put into a record. -/
instance sched_storable (g : GSem nD τ sig) (r : ℕ) (d : Fin 28) : BI.Storable (upEmb : UEmb _ 𝕄) ((sched X).payload g r d) := by
  rcases g with ⟨_, _ | q⟩
  · show BI.Storable upEmb (barPay _ _); infer_instance
  · show BI.Storable upEmb (if sIx d = q then sendPay X _ d else recvPay X _ d)
    split <;> infer_instance

variable (c : Dev nD) (t : Fin 28)

/-- A departure semaphore counts one copy in each round. -/
theorem dutyD_send : dutyD c (sIx t) (sRd t) = {t} := by
  ext u
  simp only [dutyD, Finset.mem_filter, Finset.mem_univ, true_and, Finset.mem_singleton]
  constructor
  · rintro (⟨h1, h2⟩ | ⟨h1, -⟩)
    · exact sIx_inj u t h1 h2
    · exact absurd h1.symm (sIx_ne_rIx _ _ _)
  · rintro rfl; exact Or.inl ⟨rfl, rfl⟩
/-- A landing semaphore counts one copy in its first round. -/
theorem dutyD_recv : dutyD c (rIx (peer c t) t) 0 = {t} := by
  ext u
  simp only [dutyD, Finset.mem_filter, Finset.mem_univ, true_and, Finset.mem_singleton]
  constructor
  · rintro (⟨h1, -⟩ | ⟨h1, -⟩)
    · exact absurd h1 (sIx_ne_rIx _ _ _)
    · exact rIx_inj c u t h1
  · rintro rfl; exact Or.inr ⟨rfl, trivial⟩
/-- It counts none later. -/
theorem dutyD_recv_later (r : ℕ) (hr : 1 ≤ r) : dutyD c (rIx (peer c t) t) r = ∅ := by
  refine Finset.filter_eq_empty_iff.mpr fun u _ => ?_
  rintro (⟨h1, -⟩ | ⟨-, h1⟩)
  · exact absurd h1 (sIx_ne_rIx _ _ _)
  · omega
/-- How many rounds a departure semaphore goes through. -/
theorem dutyD_send_later (q : Fin 45) (n : ℕ) (hn : ∀ t, sIx t = q → sRd t < n) (hq : ∀ t, rIx (peer c t) t ≠ q) (r : ℕ) (hr : n ≤ r) : dutyD c q r = ∅ := by
  refine Finset.filter_eq_empty_iff.mpr fun u _ => ?_
  rintro (⟨h1, h2⟩ | ⟨h1, -⟩)
  · have := hn u h1; omega
  · exact hq u h1

/-- Who pays into a DMA semaphore. -/
theorem duties_dma (q : Fin 45) (r : ℕ) : (sched X).duties (dcell c q) r = dutyD c q r := by
  show (if (c : Thread nD τ).2 = .tc then dutyD c q r else ∅) = _
  exact if_pos rfl
/-- Who pays into the opening semaphore: the five partners, in the first round. -/
theorem duties_reg (r : ℕ) : (sched X).duties (bcell c) r = if r = 0 then Finset.univ.filter fun b : Fin 28 => b.val < 5 else ∅ := by
  show (if (c : Thread nD τ).2 = .tc then (if barS = barS ∧ r = 0 then Finset.univ.filter fun b : Fin 28 => b.val < 5 else ∅) else ∅) = _
  rw [if_pos rfl]
  simp only [true_and]
/-- Copy `t` alone pays into its departure semaphore, in its round. -/
theorem duties_send : (sched X).duties (dcell c (sIx t)) (sRd t) = {t} := (duties_dma X _ _ _).trans (dutyD_send c t)
/-- Copy `t` of the partner alone pays into its landing semaphore. -/
theorem duties_recv : (sched X).duties (dcell c (rIx (peer c t) t)) 0 = {t} := (duties_dma X _ _ _).trans (dutyD_recv c t)
/-- The same, seen by the sender. -/
theorem duties_land : (sched X).duties (rcell c t) 0 = {t} := by
  have h := duties_recv X (peer c t) t
  rw [peer_peer] at h; exact h
/-- In the first round the five partners pay into the opening semaphore. -/
theorem duties_bar : (sched X).duties (bcell c) 0 = Finset.univ.filter fun b : Fin 28 => b.val < 5 := (duties_reg X c 0).trans (if_pos rfl)

/-- A departure hands back the source block. -/
theorem payload_send : (sched X).payload (dcell c (sIx t)) (sRd t) t = sendPay X c t := if_pos rfl
/-- A landing hands over the block that it brings. -/
theorem payload_recv : (sched X).payload (dcell c (rIx (peer c t) t)) 0 t = recvPay X c t := if_neg (sIx_ne_rIx _ _ _)
/-- The same, seen by the sender. -/
theorem payload_land : (sched X).payload (rcell c t) 0 t = recvPay X (peer c t) t := by
  have h := payload_recv X (peer c t) t
  rw [peer_peer] at h; exact h

/-- A departure semaphore gets in a round what one copy counts for. -/
theorem expect_send : (sched X).expect (dcell c (sIx t)) (sRd t) = Nt t := by
  unfold Schedule.expect Schedule.amountOf; rw [duties_send, Finset.sum_singleton]; rfl
/-- So does a landing semaphore. -/
theorem expect_recv : (sched X).expect (dcell c (rIx (peer c t) t)) 0 = Nt t := by
  unfold Schedule.expect Schedule.amountOf; rw [duties_recv, Finset.sum_singleton]; rfl
/-- The opening semaphore gets five. -/
theorem expect_bar : (sched X).expect (bcell c) 0 = 5 := by
  unfold Schedule.expect Schedule.amountOf; rw [duties_bar]; exact (Finset.sum_const _).trans (by decide)

/-- All that a round of a departure semaphore hands over is the source block. -/
theorem rest_send : bigSep ((sched X).duties (dcell c (sIx t)) (sRd t) \ ∅) (fun u => (sched X).payload (dcell c (sIx t)) (sRd t) u) = sendPay X c t := by
  rw [Finset.sdiff_empty, duties_send, bigSep_singleton, payload_send]
/-- All that a landing semaphore hands over is the block that the copy brings. -/
theorem rest_recv : bigSep ((sched X).duties (dcell c (rIx (peer c t) t)) 0 \ ∅) (fun u => (sched X).payload (dcell c (rIx (peer c t) t)) 0 u) = recvPay X c t := by
  rw [Finset.sdiff_empty, duties_recv, bigSep_singleton, payload_recv]
/-- The opening signals bring every block that the device's copies will write. -/
theorem rest_bar : bigSep ((sched X).duties (bcell c) 0 \ ∅) (fun u => (sched X).payload (bcell c) 0 u) = bigSep Finset.univ (dstP c) := by
  rw [Finset.sdiff_empty, duties_bar]
  show bigSep (Finset.univ.filter fun b : Fin 28 => b.val < 5) (barPay c) = _
  unfold barPay
  rw [← bigSep_biUnion_eq _ _ _ (fun a _ b _ hab => Finset.disjoint_left.mpr fun u hu hv => hab (Fin.ext (by
    rw [Finset.mem_filter] at hu hv; omega)))]
  congr 1
  ext u
  simp only [Finset.mem_biUnion, Finset.mem_filter, Finset.mem_univ, true_and, iff_true]
  exact ⟨⟨(grp u).val, by omega⟩, (grp u).isLt, rfl⟩

/-- After its first round a landing semaphore gets nothing. -/
theorem later_recv : ∀ r, 1 ≤ r → (sched X).duties (dcell c (rIx (peer c t) t)) r = ∅ := fun r hr => (duties_dma X _ _ _).trans (dutyD_recv_later c t r hr)
/-- After its first round the opening semaphore gets nothing. -/
theorem later_bar : ∀ r, 1 ≤ r → (sched X).duties (bcell c) r = ∅ := fun r hr => (duties_reg X c r).trans (if_neg fun h => by omega)

/-- A departure semaphore of the first four closes after four rounds, the others after two. -/
theorem later_send (j : Fin 45) (n : ℕ) (hj : (3 ≤ j.val ∧ j.val < 7 ∧ n = 4) ∨ (7 ≤ j.val ∧ j.val < 13 ∧ n = 2)) :
    ∀ r, n ≤ r → (sched X).duties (dcell c j) r = ∅ := fun r hr => (duties_dma X _ _ _).trans (dutyD_send_later c j n
      (fun t ht => by
        subst ht
        rcases hj with ⟨h1, h2, rfl⟩ | ⟨h1, h2, rfl⟩
        · exact (by decide : ∀ t, sRd t < 4) t
        · exact (by decide : ∀ t, 7 ≤ (sIx t).val → (sIx t).val < 13 → sRd t < 2) t h1 h2)
      (fun t ht => by
        have := (by decide +kernel : ∀ c t, 13 ≤ (rIx c t).val) (peer c t) t
        rw [ht] at this; omega) r hr)

end Cert.Butterfly

end
-- ==== Proof.Steps.lean ====
/-
# The steps of the protocol

A device's state between two operations: what it still owes, what its remaining copies need, and which
landings it has seen. The rules of the opening signals, of a copy, and of the two kinds of wait move
this state on by one.
-/
module

public import proofs.«01_k».proof.Proof.Schedule

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The records of all cells -/

/-- The cells of a device: the opening signals' first, then the DMA semaphores. -/
def kcell (ck : Dev nD × Fin 43) : GSem nD τ sig :=
  ((ck.1 : Thread nD τ), if ck.2.val = 0 then .reg barS else .dma (⟨(ck.2.val + 2) % 45, Nat.mod_lt _ (by decide)⟩ : Fin 45))
/-- The number of a DMA semaphore's cell. -/
def dix (q : Fin 45) : Fin 43 := ⟨(q.val - 2) % 43, Nat.mod_lt _ (by decide)⟩

/-- Cell 0 of a device is that of the opening signals. -/
theorem kcell_bar (c : Dev nD) : kcell (c, 0) = bcell c := rfl
/-- The cell numbered for a DMA semaphore is that semaphore's. -/
theorem kcell_dma (c : Dev nD) (q : Fin 45) (hq : 3 ≤ q.val) : kcell (c, dix q) = dcell c q := by
  have h := q.isLt
  have e : (q.val - 2) % 43 = q.val - 2 := Nat.mod_eq_of_lt (by omega)
  unfold kcell
  refine Prod.ext rfl ?_
  show (if (q.val - 2) % 43 = 0 then _ else _) = _
  rw [if_neg (by omega)]
  refine congrArg SemLoc.dma (Fin.ext ?_)
  show ((q.val - 2) % 43 + 2) % 45 = q.val
  omega

variable (X : Args F)

/-- Every cell's record, and that its first round is open. -/
def records (K : Dev nD × Fin 43 → ℕ) : sProp 𝕄 :=
  iprop((bigSep Finset.univ fun ck : Dev nD × Fin 43 => cellInv ER (sched X) (K ck) (kcell ck))
    ∗ bigSep Finset.univ fun ck : Dev nD × Fin 43 => reached ER (kcell ck) 0)
/-- The records may be used any number of times. -/
instance records_persistent (K : Dev nD × Fin 43 → ℕ) : BI.Persistent (records X K) := by unfold records; infer_instance

/-- Each cell is on record. -/
theorem one_inv (K : Dev nD × Fin 43 → ℕ) (ck : Dev nD × Fin 43) : records X K ⊢ cellInv ER (sched X) (K ck) (kcell ck) := by
  unfold records
  exact sep_elim_left.trans (bigSep_elim (Finset.mem_univ ck))
/-- The first round of each cell is open. -/
theorem one_open (K : Dev nD × Fin 43 → ℕ) (ck : Dev nD × Fin 43) : records X K ⊢ reached ER (kcell ck) 0 := by
  unfold records
  exact sep_elim_right.trans (bigSep_elim (Finset.mem_univ ck))
/-- The cell of the opening signals is on record. -/
theorem inv_bar (K : Dev nD × Fin 43 → ℕ) (c : Dev nD) : records X K ⊢ cellInv ER (sched X) (K (c, 0)) (bcell c) := one_inv X K (c, 0)
/-- The cell of each DMA semaphore is on record. -/
theorem inv_dma (K : Dev nD × Fin 43 → ℕ) (c : Dev nD) (q : Fin 45) (hq : 3 ≤ q.val) : records X K ⊢ cellInv ER (sched X) (K (c, dix q)) (dcell c q) := by
  rw [← kcell_dma c q hq]; exact one_inv X K (c, dix q)
/-- The first round of the opening signals is open. -/
theorem open_bar (K : Dev nD × Fin 43 → ℕ) (c : Dev nD) : records X K ⊢ reached ER (bcell c) 0 := one_open X K (c, 0)
/-- The first round of each DMA semaphore is open. -/
theorem open_dma (K : Dev nD × Fin 43 → ℕ) (c : Dev nD) (q : Fin 45) (hq : 3 ≤ q.val) : records X K ⊢ reached ER (dcell c q) 0 := by
  rw [← kcell_dma c q hq]; exact one_open X K (c, dix q)

/-- Departures are counted on the kernel's own semaphores. -/
theorem sIx_ge : ∀ t : Fin 28, 3 ≤ (sIx t).val := by decide
/-- Landings are counted on the kernel's own semaphores. -/
theorem rIx_ge : ∀ (c : Dev nD) (t : Fin 28), 3 ≤ (rIx c t).val := by decide +kernel

/-! ## Levels and debts -/

/-- The level of a DMA semaphore: landings of a later phase are higher. -/
def lvq (q : Fin 45) : ℕ :=
  if q.val < 13 then 0 else if q.val < 17 then 2 else if q.val < 21 then 3 else if q.val < 29 then 4 else if q.val < 37 then 5
  else if q.val < 41 then 6 else 7

/-- The semaphores that have a level: those of the devices' cores. -/
def L (g : GSem nD τ sig) : Finset Unit := if g.1.2 = .tc then {()} else ∅
/-- The level of a semaphore: a device may wait only below what it owes. -/
def lv (g : GSem nD τ sig) (_ : Unit) : ℕ := match g.2 with
  | .reg _ => 1
  | .dma q => lvq q
/-- Elsewhere no semaphore has a level. -/
theorem L_of_ne (g : GSem nD τ sig) (h : g.1.2 ≠ .tc) : L g = ∅ := if_neg h
/-- On a core every semaphore has one. -/
theorem L_tc (c : Dev nD) (sm : SemLoc sig) : L ((c : Thread nD τ), sm) = {()} := if_pos rfl

/-- The level of a landing is that of its copy's phase. -/
theorem lvq_land : ∀ (c : Dev nD) (t : Fin 28), lvq (rIx c t) = 2 + ph t := by decide +kernel

/-- The copies from number `n` on. -/
def sl (n : ℕ) : List (Fin 28) := (List.finRange 28).drop n
/-- The landings in the order in which a device waits for them. -/
def wl : List (Fin 28) := [0, 1, 2, 3, 4, 6, 5, 7, 8, 9, 10, 11, 12, 13, 14, 15, 16, 17, 18, 19, 20, 22, 21, 23, 24, 25, 26, 27]

/-- What the copies of a list will add at their receivers. -/
def Orem (c : Dev nD) : List (Fin 28) → CellTallies nD τ sig Unit
  | [] => 0
  | t :: l => Orem c l + tallyAt (rcell c t) () (Nt t)
/-- The same with opening signals still to be sent. -/
def Obar (c : Dev nD) : List (Fin 5) → CellTallies nD τ sig Unit
  | [] => Orem c (sl 0)
  | b :: l => Obar c l + tallyAt (bcell (nb b c)) () 1

/-- A debt to one cell is owed to that cell only. -/
theorem tally_pos {g h : GSem nD τ sig} {n : ℕ} {u : Unit} (hp : 0 < (tallyAt g () n : CellTallies nD τ sig Unit) h u) : h = g := by
  rw [tallyAt_apply] at hp
  by_contra hn
  rw [if_neg (fun h' => hn h'.1)] at hp
  exact Nat.lt_irrefl 0 hp

/-- What is owed for copies is owed where one of them lands. -/
theorem Orem_pos {c : Dev nD} {g : GSem nD τ sig} {u : Unit} : ∀ {l : List (Fin 28)}, 0 < Orem c l g u → ∃ t ∈ l, g = rcell c t
  | [], h => absurd h (Nat.lt_irrefl 0)
  | t :: l, h => by
    unfold Orem at h
    rw [Pi.add_apply, Finsupp.add_apply] at h
    rcases Nat.eq_zero_or_pos (Orem c l g u) with h0 | h0
    · rw [h0, Nat.zero_add] at h
      exact ⟨t, List.mem_cons_self, tally_pos h⟩
    · obtain ⟨u, hu, e⟩ := Orem_pos h0
      exact ⟨u, List.mem_cons_of_mem _ hu, e⟩
/-- What is owed at the start is owed where a copy lands or to a partner's opening semaphore. -/
theorem Obar_pos {c : Dev nD} {g : GSem nD τ sig} {u : Unit} : ∀ {l : List (Fin 5)}, 0 < Obar c l g u → (∃ t, g = rcell c t) ∨ ∃ b, g = bcell (nb b c)
  | [], h => by obtain ⟨t, -, e⟩ := Orem_pos h; exact Or.inl ⟨t, e⟩
  | b :: l, h => by
    unfold Obar at h
    rw [Pi.add_apply, Finsupp.add_apply] at h
    rcases Nat.eq_zero_or_pos (Obar c l g u) with h0 | h0
    · rw [h0, Nat.zero_add] at h
      exact Or.inr ⟨b, tally_pos h⟩
    · exact Obar_pos h0

/-- A DMA semaphore may be waited on when every landing still owed has a higher level. -/
theorem mayWait_dma (c : Dev nD) (q : Fin 45) (l : List (Fin 28)) (h : ∀ t ∈ l, lvq q < 2 + ph t) :
    (levAts L lv : sProp 𝕄) ⊢ MayWait (c : Thread nD τ) (.dma q) () (Orem c l) :=
  MayOwe.of_cut (L := L) (lev := lv) (lvq q) (fun p hp => by rw [Finset.mem_singleton.mp hp, L_tc]; exact Finset.mem_singleton_self _)
    (fun g u hg => by obtain ⟨t, -, rfl⟩ := Orem_pos hg; exact Finset.mem_singleton_self _)
    (fun p hp => by rw [Finset.mem_singleton.mp hp]; exact le_rfl)
    (fun g u hg => by
      obtain ⟨t, ht, rfl⟩ := Orem_pos hg
      show lvq q < lvq (rIx c t)
      rw [lvq_land]; exact h t ht)
/-- The opening signals may be waited for before any copy. -/
theorem mayWait_bar (c : Dev nD) (l : List (Fin 28)) : (levAts L lv : sProp 𝕄) ⊢ MayWait (c : Thread nD τ) (.reg barS) () (Orem c l) :=
  MayOwe.of_cut (L := L) (lev := lv) 1 (fun p hp => by rw [Finset.mem_singleton.mp hp, L_tc]; exact Finset.mem_singleton_self _)
    (fun g u hg => by obtain ⟨t, -, rfl⟩ := Orem_pos hg; exact Finset.mem_singleton_self _)
    (fun p hp => by rw [Finset.mem_singleton.mp hp]; exact le_rfl)
    (fun g u hg => by
      obtain ⟨t, ht, rfl⟩ := Orem_pos hg
      show 1 < lvq (rIx c t)
      rw [lvq_land]; omega)
/-- The staging semaphores may be waited on whatever is owed. -/
theorem mayWait_stage (c : Dev nD) (q : Fin 45) (hq : q.val < 3) (l : List (Fin 5)) (O : CellTallies nD τ sig Unit) (hO : O = Obar c l ∨ O = 0) :
    (levAts L lv : sProp 𝕄) ⊢ MayWait (c : Thread nD τ) (.dma q) () O := by
  have h0 : lvq q = 0 := if_pos (by omega)
  rcases hO with rfl | rfl
  · refine MayOwe.of_cut (L := L) (lev := lv) 0 (fun p hp => by rw [Finset.mem_singleton.mp hp, L_tc]; exact Finset.mem_singleton_self _)
      (fun g u hg => by rcases Obar_pos hg with ⟨t, rfl⟩ | ⟨t, rfl⟩ <;> exact Finset.mem_singleton_self _)
      (fun p hp => by rw [Finset.mem_singleton.mp hp]; exact le_of_eq h0)
      (fun g u hg => by
        rcases Obar_pos hg with ⟨t, rfl⟩ | ⟨t, rfl⟩
        · show 0 < lvq (rIx c t)
          rw [lvq_land]; omega
        · exact Nat.one_pos)
  · rw [MayWait_zero]; iintro -; iempintro

/-! ## The state between two operations -/

/-- What the copies of a list need: the right to signal at both ends, and the block to write. -/
def toks (c : Dev nD) : List (Fin 28) → sProp 𝕄
  | [] => iprop(emp)
  | t :: l => iprop((dutyTok ER (dcell c (sIx t)) (sRd t) t ∗ dutyTok ER (rcell c t) 0 t ∗ dstP c t) ∗ toks c l)
/-- Landings still to be waited for. -/
def rx (c : Dev nD) : List (Fin 28) → sProp 𝕄
  | [] => iprop(emp)
  | t :: l => iprop((atPos ER (dcell c (rIx (peer c t) t)) 0 ∅ 0 ∗ cred (tallyAt (dcell c (rIx (peer c t) t)) () (Nt t))) ∗ rx c l)
/-- Landing semaphores that are finished with, at zero. -/
def dn (c : Dev nD) : List (Fin 28) → sProp 𝕄
  | [] => iprop(emp)
  | t :: l => iprop(semVal (dcell c (rIx (peer c t) t)) 0 ∗ dn c l)

/-- What a list of copies needs, with the first one taken off. -/
theorem toks_cons (c : Dev nD) (t : Fin 28) (l : List (Fin 28)) :
    (toks c (t :: l) : sProp 𝕄) = iprop((dutyTok ER (dcell c (sIx t)) (sRd t) t ∗ dutyTok ER (rcell c t) 0 t ∗ dstP c t) ∗ toks c l) := rfl
/-- The landings still to be waited for, with the first one taken off. -/
theorem rx_cons (c : Dev nD) (t : Fin 28) (l : List (Fin 28)) :
    (rx c (t :: l) : sProp 𝕄) = iprop((atPos ER (dcell c (rIx (peer c t) t)) 0 ∅ 0 ∗ cred (tallyAt (dcell c (rIx (peer c t) t)) () (Nt t))) ∗ rx c l) := rfl
/-- The finished landing semaphores, with the first one taken off. -/
theorem dn_cons (c : Dev nD) (t : Fin 28) (l : List (Fin 28)) : (dn c (t :: l) : sProp 𝕄) = iprop(semVal (dcell c (rIx (peer c t) t)) 0 ∗ dn c l) := rfl

/-- Device `c` has issued `n` copies and waited for `k` landings. -/
def St (c : Dev nD) (n k : ℕ) : sProp 𝕄 :=
  iprop((∃ W : Waits sig Unit, owes (c : Thread nD τ) (Orem c (sl n)) W) ∗ toks c (sl n) ∗ rx c (wl.drop k) ∗ dn c (wl.take k).reverse)

/-- A departure semaphore between two copies, in round `r`. -/
def sc (c : Dev nD) (q : Fin 45) (r : ℕ) : sProp 𝕄 := iprop(atPos ER (dcell c q) r ∅ 0 ∗ reached ER (dcell c q) r)
/-- The departure semaphore of copy `t` while the copy is under way. -/
def pend (c : Dev nD) (t : Fin 28) : sProp 𝕄 := iprop(atPos ER (dcell c (sIx t)) (sRd t) ∅ 0 ∗ cred (tallyAt (dcell c (sIx t)) () (Nt t)))

/-- What every step may use. -/
def Env (K : Dev nD × Fin 43 → ℕ) : sProp 𝕄 := iprop(records X K ∗ levAts L lv)
/-- It may be used any number of times. -/
instance Env_persistent (K : Dev nD × Fin 43 → ℕ) : BI.Persistent (Env X K) := by unfold Env; infer_instance

/-! ## A copy -/

omit [FloatOps F] in
/-- A block as the points-to of a slice. -/
theorem slice_eq (b : Bf) (c : Dev nD) {S : Rect S1024x1024} {hs : ∀ a, S.stride a = 1} {r k h w : ℕ} (hS : S.set = blk r k h w) (q) (f : S1024x1024.Idx → Elt F .bf16) :
    (Pf b c r k h w q f : sProp 𝕄) = match b with
      | .acc => ((Mr .acc).slice S hs).view.loc (c : Thread nD τ) ↦[((Mr .acc).slice S hs).view.set]{q} f
      | .rcv => ((Mr .rcv).slice S hs).view.loc (c : Thread nD τ) ↦[((Mr .rcv).slice S hs).view.set]{q} f
      | .out => ((Mr .out).slice S hs).view.loc (c : Thread nD τ) ↦[((Mr .out).slice S hs).view.set]{q} f := by
  rw [← View.set_slice_whole cc0_scratch0 S] at hS
  cases b <;> (unfold Pf; dsimp only; rw [← hS]; try rfl)

/-- What a copy leaves: the tile that it read, at the place that it writes. -/
theorem landed_eq (c : Dev nD) (t : Fin 28) {off off' sz : Fin 2 → ℕ} {inb : ∀ a, off a + sz a ≤ S1024x1024.size a}
    {inb' : ∀ a, off' a + sz a ≤ S1024x1024.size a} (ho : off = ![srcRow c t, col t]) (ho' : off' = ![dstRow c t, col t]) (x : (⟨2, sz⟩ : Shape).Idx) :
    buf (recvG X c t) ((Rect.unit (s := S1024x1024) off' sz inb').emb x) = buf (srcG X c t) ((Rect.unit (s := S1024x1024) off sz inb).emb x) := by
  rw [read_rect (recvG X c t) ho' x, read_rect (srcG X c t) ho x]
  unfold tile recvG
  rw [Nat.add_sub_cancel_left, Nat.add_comm]

/-- Issuing copy `t`, over any two views of its two blocks. -/
theorem send_views (K : Dev nD × Fin 43 → ℕ) (c : Dev nD) (t : Fin 28) (l : List (Fin 28)) {s : Shape} {src dst : Memref sig .tc .vmem s .bf16} {q : PosShare TreeShare}
    (fs : Buf (Elt F) (src.view.loc (c : Thread nD τ))) (fd : Buf (Elt F) (dst.view.loc (peer c t : Thread nD τ)))
    {hsc : dst.view.ref.isScScratch = false} {hsrc : src.view.WordExact} {hdst : dst.view.WordExact}
    {hsem : DmaTarget.Typed .vmem (.dma (rIx c t)) (.remote (Dev.tc (peer c t) : Thread nD τ) dst (.dma (sIx t)) hsc)}
    (hN : dst.view.dmaCredit = Nt t)
    (hp : (src.view.loc (c : Thread nD τ) ↦[src.view.set]{q} fs : sProp 𝕄) ⊢ sendPay X c t)
    (hp' : (dst.view.loc (peer c t : Thread nD τ) ↦[dst.view.set]{fullShare} (dst.view.write (Elt F) fd (src.view.read (Elt F) fs) Finset.univ) : sProp 𝕄) ⊢ recvPay X (peer c t) t)
    {α : Type} {Q : α → sProp 𝕄} {kk : PUnit → Prog (TpuEff nD τ sig (Elt F) Λ₀ .tc) α} (W : Waits sig Unit) :
    iprop(cellInv ER (sched X) (K (c, dix (sIx t))) (dcell c (sIx t)) ∗ cellInv ER (sched X) (K (peer c t, dix (rIx c t))) (rcell c t)
        ∗ (src.view.loc (c : Thread nD τ) ↦[src.view.set]{q} fs) ∗ (dst.view.loc (peer c t : Thread nD τ) ↦[dst.view.set]{fullShare} fd)
        ∗ owes (c : Thread nD τ) (Orem c (t :: l)) W
        ∗ dutyTok ER (dcell c (sIx t)) (sRd t) t ∗ reached ER (dcell c (sIx t)) (sRd t)
        ∗ dutyTok ER (rcell c t) 0 t ∗ reached ER (rcell c t) 0)
      ⊢ iprop(((cred (tallyAt (dcell c (sIx t)) () (Nt t)) ∗ owes (c : Thread nD τ) (Orem c l) W)
            -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma src (.remote (Dev.tc (peer c t) : Thread nD τ) dst (.dma (sIx t)) hsc) (.dma (rIx c t)) hsrc hdst hsem) kk) Q) :=
  Rounds.wp_send_pointsTo 𝒱₀ ER (sched X) (c : Thread nD τ) none (κ₁ := K (c, dix (sIx t))) (κ₂ := K (peer c t, dix (rIx c t)))
    (r₁ := sRd t) (r₂ := 0) (d₁ := t) (d₂ := t) (fd := fd)
    (by rw [duties_send]; exact Finset.mem_singleton_self _) (by rw [duties_land]; exact Finset.mem_singleton_self _)
    () () (Nt t) (show View.amount dst.view (.dma (rIx c t)) = Nt t from hN) rfl rfl (Orem c l) rfl (W := W)
    (by rw [payload_send]; exact hp) (by rw [payload_land]; exact hp')

/-- Issuing copy `t`: the source block leaves with the departure semaphore, the block at the partner is
written, and one debt less remains. -/
theorem step_send (K : Dev nD × Fin 43 → ℕ) (c : Dev nD) (n n' k : ℕ) (t : Fin 28) (hl : sl n = t :: sl n') (b b' : Bf) (hb : sb t = b) (hb' : db t = b')
    {off off' sz : Fin 2 → ℕ} {inb : ∀ a, off a + sz a ≤ S1024x1024.size a} {inb' : ∀ a, off' a + sz a ≤ S1024x1024.size a}
    (ho : off = ![srcRow c t, col t]) (ho' : off' = ![dstRow c t, col t]) (hz : sz = ![hgt t, wid t])
    {nd : Dev nD} (hn : nd = peer c t) {sS sR : DmaSem sig} (hsS : sS = sIx t) (hsR : sR = rIx c t)
    {hst hst'}
    {hsc : (((Mr b').slice (Rect.unit (s := S1024x1024) off' sz inb') hst').view).ref.isScScratch = false}
    {hsrc : ((Mr b).slice (Rect.unit (s := S1024x1024) off sz inb) hst).view.WordExact} {hdst : ((Mr b').slice (Rect.unit (s := S1024x1024) off' sz inb') hst').view.WordExact}
    {hsem : DmaTarget.Typed .vmem (.dma sR) (.remote (Dev.tc nd : Thread nD τ) ((Mr b').slice (Rect.unit (s := S1024x1024) off' sz inb') hst') (.dma sS) hsc)}
    {α : Type} {Q : α → sProp 𝕄} {kk : PUnit → Prog (TpuEff nD τ sig (Elt F) Λ₀ .tc) α} :
    iprop(Env X K ∗ St c n k ∗ sc c (sIx t) (sRd t) ∗ sendPay X c t)
      ⊢ iprop(((St c n' k ∗ pend c t) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma ((Mr b).slice (Rect.unit (s := S1024x1024) off sz inb) hst)
            (.remote (Dev.tc nd : Thread nD τ) ((Mr b').slice (Rect.unit (s := S1024x1024) off' sz inb') hst') (.dma sS) hsc) (.dma sR) hsrc hdst hsem) kk) Q) := by
  subst hn hsS hsR
  have hS : (Rect.unit (s := S1024x1024) off sz inb).set = blk (srcRow c t) (col t) (hgt t) (wid t) := rect_blk ho hz
  have hD : (Rect.unit (s := S1024x1024) off' sz inb').set = blk (dstRow c t) (col t) (hgt t) (wid t) := rect_blk ho' hz
  have key : ∀ g : S1024x1024.Idx → Elt F .bf16,
      (∀ x, g ((Rect.unit (s := S1024x1024) off' sz inb').emb x) = buf (srcG X c t) ((Rect.unit (s := S1024x1024) off sz inb).emb x)) →
      Pf b' (peer c t) (dstRow c t) (col t) (hgt t) (wid t) fullShare g ⊢ recvPay X (peer c t) t := fun g hg => by
    unfold recvPay P
    rw [hb', peer_peer]
    have : ∀ i ∈ blk (dstRow c t) (col t) (hgt t) (wid t), g i = buf (recvG X c t) i := fun i hi => by
      rw [← hD, ← Rect.map_emb_univ] at hi
      obtain ⟨x, -, rfl⟩ := Finset.mem_map.mp hi
      rw [hg, landed_eq X c t (inb := inb) ho ho']
    cases b' <;> exact Entails.of_eq (pointsTo_congr this)
  have pay : Pf b c (srcRow c t) (col t) (hgt t) (wid t) (qs t) (buf (srcG X c t)) ⊢ sendPay X c t := by
    unfold sendPay P; rw [hb]
  have core : ∀ (fd : S1024x1024.Idx → Elt F .bf16) (W : Waits sig Unit),
      iprop(cellInv ER (sched X) (K (c, dix (sIx t))) (dcell c (sIx t)) ∗ cellInv ER (sched X) (K (peer c t, dix (rIx c t))) (rcell c t)
          ∗ Pf b c (srcRow c t) (col t) (hgt t) (wid t) (qs t) (buf (srcG X c t)) ∗ Pf b' (peer c t) (dstRow c t) (col t) (hgt t) (wid t) fullShare fd
          ∗ owes (c : Thread nD τ) (Orem c (t :: sl n')) W
          ∗ dutyTok ER (dcell c (sIx t)) (sRd t) t ∗ reached ER (dcell c (sIx t)) (sRd t)
          ∗ dutyTok ER (rcell c t) 0 t ∗ reached ER (rcell c t) 0)
        ⊢ iprop(((cred (tallyAt (dcell c (sIx t)) () (Nt t)) ∗ owes (c : Thread nD τ) (Orem c (sl n')) W)
              -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma ((Mr b).slice (Rect.unit (s := S1024x1024) off sz inb) hst)
            (.remote (Dev.tc (peer c t) : Thread nD τ) ((Mr b').slice (Rect.unit (s := S1024x1024) off' sz inb') hst') (.dma (sIx t)) hsc) (.dma (rIx c t)) hsrc hdst hsem) kk) Q) := by
    intro fd W
    have hN : RefSig.tileCredit (⟨2, sz⟩ : Shape) .bf16 = Nt t := by rw [hz]; rfl
    rw [slice_eq b c (hs := hst) hS] at pay ⊢
    have key' := fun (g : S1024x1024.Idx → Elt F .bf16) hg => (Entails.of_eq (slice_eq b' (peer c t) (hs := hst') hD fullShare g).symm).trans (key g hg)
    rw [slice_eq b' (peer c t) (hs := hst') hD]
    have hbb : (b = .acc ∧ b' = .rcv) ∨ (b = .out ∧ b' = .out) := by
      rw [← hb, ← hb']
      unfold sb db
      split <;> simp
    clear key
    rcases hbb with ⟨e1, e2⟩ | ⟨e1, e2⟩
    · subst e1 e2
      exact send_views X K c t (sl n') (src := (Mr .acc).slice (Rect.unit (s := S1024x1024) off sz inb) hst) (dst := (Mr .rcv).slice (Rect.unit (s := S1024x1024) off' sz inb') hst') _ fd hN pay
          (key' _ fun x => View.write_emb_of_mem _ _ (Finset.mem_univ x)) W
    · subst e1 e2
      exact send_views X K c t (sl n') (src := (Mr .out).slice (Rect.unit (s := S1024x1024) off sz inb) hst) (dst := (Mr .out).slice (Rect.unit (s := S1024x1024) off' sz inb') hst') _ fd hN pay
          (key' _ fun x => View.write_emb_of_mem _ _ (Finset.mem_univ x)) W
  unfold Env St sendPay sc pend P
  rw [hl, hb]
  rw [toks_cons]
  unfold dstP PE
  rw [hb']
  iintro ⟨⟨#HR, #Hlev⟩, ⟨⟨%W, HO⟩, ⟨⟨Ht1, Ht2, ⟨%fd, Hd⟩⟩, Htk⟩, Hrx, Hdn⟩, ⟨Hat, #Hre⟩, Hs⟩
  ihave #Hi1 := (inv_dma X K c (sIx t) (sIx_ge t)) $$ HR
  ihave #Hi2 := (inv_dma X K (peer c t) (rIx c t) (rIx_ge c t)) $$ HR
  ihave #Ho2 := (open_dma X K (peer c t) (rIx c t) (rIx_ge c t)) $$ HR
  iintro Hk
  iapply (core fd W) $$ [HO Ht1 Ht2 Hd Hs]
  · isplitr; · iexact Hi1
    isplitr; · iexact Hi2
    isplitl [Hs]; · iexact Hs
    isplitl [Hd]; · iexact Hd
    isplitl [HO]; · iexact HO
    isplitl [Ht1]; · iexact Ht1
    isplitr; · iexact Hre
    isplitl [Ht2]; · iexact Ht2
    iexact Ho2
  iintro ⟨Hc, HO⟩
  iapply Hk
  isplitr [Hat Hc]
  · isplitl [HO]; · iexists W; iexact HO
    isplitl [Htk]; · iexact Htk
    isplitl [Hrx]; · iexact Hrx
    iexact Hdn
  · isplitl [Hat]; · iexact Hat
    iexact Hc

/-- Waiting for the landing of copy `u` of the partner: the block comes, and its semaphore is done with. -/
theorem step_recv (K : Dev nD × Fin 43 → ℕ) (c : Dev nD) (n k k' : ℕ) (u : Fin 28) (hw : wl.drop k = u :: wl.drop k')
    (hw' : (wl.take k').reverse = u :: (wl.take k).reverse) (hlev : ∀ t ∈ sl n, ph u < ph t)
    {s s' : Shape} {e e' : EltTy} {src : Memref sig .tc .vmem s' e'} {dst : Memref sig .tc .vmem s e} {hsrc : src.view.WordExact} {hdst : dst.view.WordExact}
    {q : DmaSem sig} (hq : q = rIx (peer c u) u) (hN : dst.view.dmaCredit = Nt u)
    {α : Type} {Q : α → sProp 𝕄} {kk : PUnit → Prog (TpuEff nD τ sig (Elt F) Λ₀ .tc) α} :
    iprop(Env X K ∗ St c n k)
      ⊢ iprop(((St c n k' ∗ recvPay X c u) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst hsrc hdst) kk) Q) := by
  subst hq
  unfold Env St
  rw [hw, hw', rx_cons, dn_cons]
  iintro ⟨⟨#HR, #Hlev⟩, ⟨%W, HO⟩, Htk, ⟨⟨Hat, Hc⟩, Hrx⟩, Hdn⟩
  ihave #Hi := (inv_dma X K c (rIx (peer c u) u) (rIx_ge _ u)) $$ HR
  iintro Hk
  iapply (Rounds.wp_wait_rest_token 𝒱₀ ER (sched X) (c : Thread nD τ) none (κ := K (c, dix (rIx (peer c u) u)))
      (wpE_waitDma2_eq 𝒱₀ (c : Thread nD τ) none Set.univ) (Set.mem_univ _) () (O := Orem c (sl n)) (W := W) (R := 0) (m := 0) (T := ∅)
      (by rw [Nat.zero_add, expect_recv, hN])) $$ [Hc HO Hat]
  · isplitr; · iexact Hi
    isplitl [Hc]; · rw [hN]; iexact Hc
    isplitl [HO]; · iexact HO
    isplitr
    · iapply (mayWait_dma c (rIx (peer c u) u) (sl n) fun t ht => by rw [lvq_land]; exact Nat.add_lt_add_left (hlev t ht) 2)
      iexact Hlev
    iexact Hat
  iintro ⟨HO, Hat, -, Hpay⟩
  ihave Hp := (Entails.of_eq (rest_recv X c u)) $$ Hpay
  imod (Rounds.cell_close ER (sched X) (Set.mem_univ (K (c, dix (rIx (peer c u) u)))) (fun h => h) (R := 0 + 1) (later_recv X c u)) $$ [Hat] with Hz
  · isplitr; · iexact Hi
    iexact Hat
  iapply Hk
  isplitr [Hp]
  · isplitl [HO]; · iexists _; iexact HO
    isplitl [Htk]; · iexact Htk
    isplitl [Hrx]; · iexact Hrx
    isplitl [Hz]; · iexact Hz
    iexact Hdn
  · iexact Hp

/-- Waiting until copy `t` has left: its source block comes back. -/
theorem step_left (K : Dev nD × Fin 43 → ℕ) (c : Dev nD) (n k : ℕ) (t : Fin 28) {r : ℕ} (hr : sRd t + 1 = r)
    {s s' : Shape} {e e' : EltTy} {src : Memref sig .tc .vmem s' e'} {dst : Memref sig .tc .vmem s e} {hsrc : src.view.WordExact} {hdst : dst.view.WordExact}
    {q : DmaSem sig} (hq : q = sIx t) (hN : dst.view.dmaCredit = Nt t)
    {α : Type} {Q : α → sProp 𝕄} {kk : PUnit → Prog (TpuEff nD τ sig (Elt F) Λ₀ .tc) α} :
    iprop(Env X K ∗ St c n k ∗ pend c t)
      ⊢ iprop(((St c n k ∗ sc c (sIx t) r ∗ sendPay X c t) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst hsrc hdst) kk) Q) := by
  subst hq hr
  unfold Env St pend sc
  iintro ⟨⟨#HR, #Hlev⟩, ⟨⟨%W, HO⟩, Htk, Hrx, Hdn⟩, Hat, Hc⟩
  ihave #Hi := (inv_dma X K c (sIx t) (sIx_ge t)) $$ HR
  iintro Hk
  iapply (Rounds.wp_wait_rest_token 𝒱₀ ER (sched X) (c : Thread nD τ) none (κ := K (c, dix (sIx t)))
      (wpE_waitDma2_eq 𝒱₀ (c : Thread nD τ) none Set.univ) (Set.mem_univ _) () (O := Orem c (sl n)) (W := W) (R := sRd t) (m := 0) (T := ∅)
      (by rw [Nat.zero_add, expect_send, hN])) $$ [Hc HO Hat]
  · isplitr; · iexact Hi
    isplitl [Hc]; · rw [hN]; iexact Hc
    isplitl [HO]; · iexact HO
    isplitr
    · iapply (mayWait_dma c (sIx t) (sl n) fun u hu => by rw [(by decide +kernel : ∀ t, lvq (sIx t) = 0) t]; omega)
      iexact Hlev
    iexact Hat
  iintro ⟨HO, Hat, Hre, Hpay⟩
  ihave Hp := (Entails.of_eq (rest_send X c t)) $$ Hpay
  iapply Hk
  isplitl [HO Htk Hrx Hdn]
  · isplitl [HO]; · iexists _; iexact HO
    isplitl [Htk]; · iexact Htk
    isplitl [Hrx]; · iexact Hrx
    iexact Hdn
  isplitl [Hat Hre]
  · isplitl [Hat]; · iexact Hat
    iexact Hre
  · iexact Hp

end Cert.Butterfly

end
-- ==== Proof.Ops.lean ====
/-
# The operations of the program, one rule each

The rules of a signal, a copy, a wait, a load and a store, in the form in which the program's text uses
them: rectangles by offset, semaphores by number, blocks by row and column.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD) {α : Type}

/-! ## Copies and waits -/

/-- Issuing copy `t`: its source block is lent, and it becomes the next one under way. -/
theorem op_send (n n' k : ℕ) (t : Fin 28) (hl : sl n = t :: sl n') (b b' : Bf) (hb : sb t = b) (hb' : db t = b')
    {off off' sz : Fin 2 → ℕ} {inb : ∀ a, off a + sz a ≤ S1024x1024.size a} {inb' : ∀ a, off' a + sz a ≤ S1024x1024.size a}
    (ho : off = ![srcRow c t, col t]) (ho' : off' = ![dstRow c t, col t]) (hz : sz = ![hgt t, wid t])
    {nd : Dev nD} (hn : nd = peer c t) {sS sR : DmaSem sig} (hsS : sS = sIx t) (hsR : sR = rIx c t)
    {q : Fin 45} {r : ℕ} (hq : sIx t = q) (hr : sRd t = r) {S : sProp 𝕄} (hS : sendPay X c t = S)
    {hst hst'}
    {hsc : (((Mr b').slice (Rect.unit (s := S1024x1024) off' sz inb') hst').view).ref.isScScratch = false}
    {hsrc : ((Mr b).slice (Rect.unit (s := S1024x1024) off sz inb) hst).view.WordExact} {hdst : ((Mr b').slice (Rect.unit (s := S1024x1024) off' sz inb') hst').view.WordExact}
    {hsem : DmaTarget.Typed .vmem (.dma sR) (.remote (Dev.tc nd : Thread nD τ) ((Mr b').slice (Rect.unit (s := S1024x1024) off' sz inb') hst') (.dma sS) hsc)}
    {Q : α → sProp 𝕄} {kk : PUnit → Prog (TpuEff nD τ sig (Elt F) Λ₀ .tc) α} :
    Env X K ⊢ iprop(St c n k -∗ sc c q r -∗ S
        -∗ ((St c n' k ∗ pend c t) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma ((Mr b).slice (Rect.unit (s := S1024x1024) off sz inb) hst)
            (.remote (Dev.tc nd : Thread nD τ) ((Mr b').slice (Rect.unit (s := S1024x1024) off' sz inb') hst') (.dma sS) hsc) (.dma sR) hsrc hdst hsem) kk) Q) := by
  subst hq hr hS
  iintro HE H1 H2 H3
  iapply (step_send X K c n n' k t hl b b' hb hb' ho ho' hz hn hsS hsR)
  isplitl [HE]; · iexact HE
  isplitl [H1]; · iexact H1
  isplitl [H2]; · iexact H2
  iexact H3

/-- Waiting for landing `u`: its block arrives, and its semaphore is finished with. -/
theorem op_recv (n k k' : ℕ) (u : Fin 28) (hw : wl.drop k = u :: wl.drop k')
    (hw' : (wl.take k').reverse = u :: (wl.take k).reverse) (hlev : ∀ t ∈ sl n, ph u < ph t)
    {s s' : Shape} {e e' : EltTy} {src : Memref sig .tc .vmem s' e'} {dst : Memref sig .tc .vmem s e} {hsrc : src.view.WordExact} {hdst : dst.view.WordExact}
    {q : DmaSem sig} (hq : q = rIx (peer c u) u) (hN : dst.view.dmaCredit = Nt u) {S : sProp 𝕄} (hS : recvPay X c u = S)
    {Q : α → sProp 𝕄} {kk : PUnit → Prog (TpuEff nD τ sig (Elt F) Λ₀ .tc) α} :
    Env X K ⊢ iprop(St c n k
        -∗ ((St c n k' ∗ S) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst hsrc hdst) kk) Q) := by
  subst hS
  iintro HE H1
  iapply (step_recv X K c n k k' u hw hw' hlev hq hN)
  isplitl [HE]; · iexact HE
  iexact H1

/-- Waiting for the departure of copy `t`: its source block comes back, and the semaphore is free again. -/
theorem op_left (n k : ℕ) (t : Fin 28) {q : Fin 45} {r : ℕ} (hq' : sIx t = q) (hr : sRd t + 1 = r)
    {s s' : Shape} {e e' : EltTy} {src : Memref sig .tc .vmem s' e'} {dst : Memref sig .tc .vmem s e} {hsrc : src.view.WordExact} {hdst : dst.view.WordExact}
    {sS : DmaSem sig} (hq : sS = sIx t) (hN : dst.view.dmaCredit = Nt t) {S : sProp 𝕄} (hS : sendPay X c t = S)
    {Q : α → sProp 𝕄} {kk : PUnit → Prog (TpuEff nD τ sig (Elt F) Λ₀ .tc) α} :
    Env X K ⊢ iprop(St c n k -∗ pend c t
        -∗ ((St c n k ∗ sc c q r ∗ S) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sS src dst hsrc hdst) kk) Q) := by
  subst hq' hS
  iintro HE H1 H2
  iapply (step_left X K c n k t hr hq hN)
  isplitl [HE]; · iexact HE
  isplitl [H1]; · iexact H1
  iexact H2

/-! ## Opening signals -/

/-- What is left of the opening: the debts, and for each signal still to be sent the right to send it and
the blocks that go with it. -/
def Bar (l : List (Fin 5)) : sProp 𝕄 :=
  iprop((∃ W : Waits sig Unit, owes (c : Thread nD τ) (Obar c l) W)
    ∗ (l.foldr (fun b H => iprop((dutyTok ER (bcell (nb b c)) 0 (⟨b.val, by omega⟩ : Fin 28) ∗ barPay (nb b c) ⟨b.val, by omega⟩) ∗ H)) iprop(emp)))

/-- Sending the opening signal to the partner of class `b`, with the blocks that it may write. -/
theorem op_signal (b : Fin 5) (l : List (Fin 5)) {nd : Dev nD} (hn : nd = nb b c)
    {Q : α → sProp 𝕄} {kk : PUnit → Prog (TpuEff nD τ sig (Elt F) Λ₀ .tc) α} :
    Env X K ⊢ iprop(Bar c (b :: l)
        -∗ (Bar c l -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (nd, Proc.tc) barS (1#32).toInt) kk) Q) := by
  subst hn
  unfold Env
  iintro ⟨#HR, #Hlev⟩ HB Hk
  unfold Bar
  rw [List.foldr_cons]
  icases HB with ⟨⟨%W, HO⟩, ⟨Ht, Hp⟩, Hl⟩
  ihave #Hi := (inv_bar X K (nb b c)) $$ HR
  ihave #Ho := (open_bar X K (nb b c)) $$ HR
  iapply (Rounds.wp_signal 𝒱₀ ER (sched X) (c : Thread nD τ) none (dst := (nb b c : Thread nD τ)) (κ := K (nb b c, 0)) (d := ⟨b.val, by omega⟩) (r := 0)
      (by rw [duties_bar]; exact Finset.mem_filter.mpr ⟨Finset.mem_univ _, b.isLt⟩) rfl () (Obar c l) rfl) $$ [HO Ht Hp]
  · isplitr; · iexact Hi
    isplitl [HO]; · iexact HO
    isplitl [Ht]; · iexact Ht
    isplitl [Hp]
    · rw [show (sched X).payload (bcell (nb b c)) 0 (⟨b.val, by omega⟩ : Fin 28) = barPay (nb b c) ⟨b.val, by omega⟩ from rfl]; iexact Hp
    iexact Ho
  iintro HO
  iapply Hk
  isplitl [HO]; · iexists W; iexact HO
  iexact Hl

/-- Waiting for the five opening signals: they bring every block that the device's copies will write. -/
theorem op_bar {Q : α → sProp 𝕄} {kk : PUnit → Prog (TpuEff nD τ sig (Elt F) Λ₀ .tc) α} :
    Env X K ⊢ iprop(Bar c [] -∗ atPos ER (bcell c) 0 ∅ 0 -∗ cred (tallyAt (bcell c) () 5)
        -∗ (((∃ W : Waits sig Unit, owes (c : Thread nD τ) (Orem c (sl 0)) W) ∗ semVal (bcell c) 0 ∗ bigSep Finset.univ (dstP c)) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS (5#32).toInt) kk) Q) := by
  unfold Env
  iintro ⟨#HR, #Hlev⟩ HB Hat Hc Hk
  unfold Bar
  icases HB with ⟨⟨%W, HO⟩, -⟩
  ihave #Hi := (inv_bar X K c) $$ HR
  iapply (Rounds.wp_wait_rest_token 𝒱₀ ER (sched X) (c : Thread nD τ) none (κ := K (c, 0))
      (wpE_semWait_eq 𝒱₀ (c : Thread nD τ) none Set.univ) (Set.mem_univ _) () (O := Orem c (sl 0)) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c (sl 0)); iexact Hlev
    iexact Hat
  iintro ⟨HO, Hat, -, Hpay⟩
  ihave Hp := (Entails.of_eq (rest_bar X c)) $$ Hpay
  imod (Rounds.cell_close ER (sched X) (Set.mem_univ (K (c, 0))) (fun h => h) (R := 0 + 1) (later_bar X c)) $$ [Hat] with Hz
  · isplitr; · iexact Hi
    iexact Hat
  iapply Hk
  isplitl [HO]; · iexists _; iexact HO
  isplitl [Hz]; · iexact Hz
  iexact Hp

/-! ## Loads and stores -/

/-- The left block of the device, staged. -/
def stA : sProp 𝕄 := ((c : Thread nD τ).loc cc0_stg0_0) ↦{fullShare} X.a c
/-- The right block of the device, staged. -/
def stB : sProp 𝕄 := ((c : Thread nD τ).loc cc0_stg1_0) ↦{fullShare} X.b c

/-- Loading a block of the left argument. -/
theorem op_loadA (r k : ℕ) {off sz : Fin 2 → ℕ} {inb : ∀ a, off a + sz a ≤ S1024x512.size a} {hl} (ho : off = ![r, k])
    {Q : α → sProp 𝕄} {kk : ((⟨2, sz⟩ : Shape).Idx → Elt F .bf16) → Prog (TpuEff nD τ sig (Elt F) Λ₀ .tc) α} :
    stA X c ⊢ iprop((stA X c -∗ wp frame (wpE (defs₀ (F := F)) 𝒱₀ (c : Thread nD τ) none) Set.univ (kk (tile sz r k (conA (X.a c)))) Q)
      -∗ wp frame (wpE (defs₀ (F := F)) 𝒱₀ (c : Thread nD τ) none) Set.univ
        (.op (.load (Memref.whole cc0_stg0_0) (Rect.unit (s := S1024x512) off sz inb).toLoadRect hl) kk) Q) := by
  have e : (fun x : (⟨2, sz⟩ : Shape).Idx => X.a c ((Rect.unit (s := S1024x512) off sz inb).emb x)) = tile sz r k (conA (X.a c)) := funext fun x => load_conA (X.a c) ho x
  rw [← e]
  exact wp_load_rect 𝒱₀ (c : Thread nD τ) none Set.univ (m := Memref.whole cc0_stg0_0) (r := Rect.unit (s := S1024x512) off sz inb) (Finset.subset_univ _)
/-- Loading a block of the right argument. -/
theorem op_loadB (r k : ℕ) {off sz : Fin 2 → ℕ} {inb : ∀ a, off a + sz a ≤ S512x1024.size a} {hl} (ho : off = ![r, k])
    {Q : α → sProp 𝕄} {kk : ((⟨2, sz⟩ : Shape).Idx → Elt F .bf16) → Prog (TpuEff nD τ sig (Elt F) Λ₀ .tc) α} :
    stB X c ⊢ iprop((stB X c -∗ wp frame (wpE (defs₀ (F := F)) 𝒱₀ (c : Thread nD τ) none) Set.univ (kk (tile sz r k (conB (X.b c)))) Q)
      -∗ wp frame (wpE (defs₀ (F := F)) 𝒱₀ (c : Thread nD τ) none) Set.univ
        (.op (.load (Memref.whole cc0_stg1_0) (Rect.unit (s := S512x1024) off sz inb).toLoadRect hl) kk) Q) := by
  have e : (fun x : (⟨2, sz⟩ : Shape).Idx => X.b c ((Rect.unit (s := S512x1024) off sz inb).emb x)) = tile sz r k (conB (X.b c)) := funext fun x => load_conB (X.b c) ho x
  rw [← e]
  exact wp_load_rect 𝒱₀ (c : Thread nD τ) none Set.univ (m := Memref.whole cc0_stg1_0) (r := Rect.unit (s := S512x1024) off sz inb) (Finset.subset_univ _)

/-- Loading a block whose contents are known. -/
theorem op_load (b : Bf) (r k h w : ℕ) {q} {G : Con F} {off sz : Fin 2 → ℕ} {inb : ∀ a, off a + sz a ≤ S1024x1024.size a}
    {hl : (Mr b).view.LoadsAt (Rect.unit (s := S1024x1024) off sz inb).toLoadRect} (ho : off = ![r, k]) (hz : sz = ![h, w])
    {Q : α → sProp 𝕄} {kk : ((⟨2, sz⟩ : Shape).Idx → Elt F .bf16) → Prog (TpuEff nD τ sig (Elt F) Λ₀ .tc) α} :
    P b c r k h w q G ⊢ iprop((P b c r k h w q G -∗ wp frame (wpE (defs₀ (F := F)) 𝒱₀ (c : Thread nD τ) none) Set.univ (kk (tile sz r k G)) Q)
      -∗ wp frame (wpE (defs₀ (F := F)) 𝒱₀ (c : Thread nD τ) none) Set.univ
        (.op (.load (Mr b) (Rect.unit (s := S1024x1024) off sz inb).toLoadRect hl) kk) Q) :=
  wp_loadP c b _ (rect_blk ho hz) (read_rect G ho)
/-- Loading a block of any contents: some vector comes back. -/
theorem op_peek (b : Bf) (r k h w : ℕ) {off sz : Fin 2 → ℕ} {inb : ∀ a, off a + sz a ≤ S1024x1024.size a}
    {hl : (Mr b).view.LoadsAt (Rect.unit (s := S1024x1024) off sz inb).toLoadRect} (ho : off = ![r, k]) (hz : sz = ![h, w])
    {Q : α → sProp 𝕄} {kk : ((⟨2, sz⟩ : Shape).Idx → Elt F .bf16) → Prog (TpuEff nD τ sig (Elt F) Λ₀ .tc) α} :
    PE b c r k h w ⊢ iprop((∀ v, PE b c r k h w -∗ wp frame (wpE (defs₀ (F := F)) 𝒱₀ (c : Thread nD τ) none) Set.univ (kk v) Q)
      -∗ wp frame (wpE (defs₀ (F := F)) 𝒱₀ (c : Thread nD τ) none) Set.univ
        (.op (.load (Mr b) (Rect.unit (s := S1024x1024) off sz inb).toLoadRect hl) kk) Q) :=
  wp_loadPE c b (rect_blk ho hz)
/-- Storing over a block of any contents. -/
theorem op_store (b : Bf) (r k h w : ℕ) (G : Con F) {off sz : Fin 2 → ℕ} {inb : ∀ a, off a + sz a ≤ S1024x1024.size a} {v : (⟨2, sz⟩ : Shape).Idx → Elt F .bf16}
    {hx : ((Mr b).access (Rect.unit (s := S1024x1024) off sz inb)).Stores Finset.univ} {hm} (ho : off = ![r, k]) (hz : sz = ![h, w]) (hv : ∀ x, tile sz r k G x = v x)
    {Q : α → sProp 𝕄} {kk : PUnit → Prog (TpuEff nD τ sig (Elt F) Λ₀ .tc) α} :
    PE b c r k h w ⊢ iprop((P b c r k h w fullShare G -∗ wp frame (wpE (defs₀ (F := F)) 𝒱₀ (c : Thread nD τ) none) Set.univ (kk ⟨⟩) Q)
      -∗ wp frame (wpE (defs₀ (F := F)) 𝒱₀ (c : Thread nD τ) none) Set.univ
        (.op (.store (Mr b) (Rect.unit (s := S1024x1024) off sz inb) v Finset.univ hx hm) kk) Q) :=
  wp_storeP c b G (rect_blk ho hz) fun x => (read_rect G ho x).trans (hv x)
/-- A store over a block whose contents are known. -/
theorem op_restore (b : Bf) (r k h w : ℕ) (G' G : Con F) {off sz : Fin 2 → ℕ} {inb : ∀ a, off a + sz a ≤ S1024x1024.size a} {v : (⟨2, sz⟩ : Shape).Idx → Elt F .bf16}
    {hx : ((Mr b).access (Rect.unit (s := S1024x1024) off sz inb)).Stores Finset.univ} {hm} (ho : off = ![r, k]) (hz : sz = ![h, w]) (hv : ∀ x, tile sz r k G x = v x)
    {Q : α → sProp 𝕄} {kk : PUnit → Prog (TpuEff nD τ sig (Elt F) Λ₀ .tc) α} :
    P b c r k h w fullShare G' ⊢ iprop((P b c r k h w fullShare G -∗ wp frame (wpE (defs₀ (F := F)) 𝒱₀ (c : Thread nD τ) none) Set.univ (kk ⟨⟩) Q)
      -∗ wp frame (wpE (defs₀ (F := F)) 𝒱₀ (c : Thread nD τ) none) Set.univ
        (.op (.store (Mr b) (Rect.unit (s := S1024x1024) off sz inb) v Finset.univ hx hm) kk) Q) :=
  (P_forget b c r k h w G').trans (op_store c b r k h w G ho hz hv)

end Cert.Butterfly

end
-- ==== Proof.Offsets.lean ====
/-
# The offsets and the numbers that the program computes

Each offset, device number and semaphore of the program's text, as the block, the partner and the
semaphore of the copy that it belongs to.
-/
module

public import proofs.«01_k».proof.Proof.Ops

@[expose] public section

noncomputable section

namespace Cert.Butterfly

open Cert.KernelIdeal Cert.KernelIdeal.Gen
open Idealize.ShloMosaic
open Idealize.ShloMosaic.TcCoe

/-! ## Semaphores -/

/-- Entry `i` of the departure semaphores is semaphore `3 + i`. -/
theorem sem5 (i : ℕ) {off : Fin 1 → ℕ} {inb : ∀ a, off a + S1.size a ≤ S10.size a} (ho : off = ![i]) (q : Fin 45) (hq : q.val = 3 + i) :
    ((cc0_scratch2.slice (Rect.unit (s := S10) off S1.size inb)).squeeze S_ squeezes_S1_S_).sem = q := by
  subst ho
  have hi : i + 1 ≤ 10 := inb 0
  have key : ∀ i : Fin 10, ((cc0_scratch2.slice (Rect.unit (s := S10) ![i.val] S1.size (fun a => by rw [Subsingleton.elim a 0]; exact i.isLt))).squeeze S_ squeezes_S1_S_).sem.val = 3 + i.val := by
    decide +kernel
  exact Fin.ext ((key ⟨i, hi⟩).trans hq.symm)
/-- Entry `i` of the landing semaphores of the reducing part is semaphore `13 + i`. -/
theorem sem6 (i : ℕ) {off : Fin 1 → ℕ} {inb : ∀ a, off a + S1.size a ≤ S16.size a} (ho : off = ![i]) (q : Fin 45) (hq : q.val = 13 + i) :
    ((cc0_scratch3.slice (Rect.unit (s := S16) off S1.size inb)).squeeze S_ squeezes_S1_S_).sem = q := by
  subst ho
  have hi : i + 1 ≤ 16 := inb 0
  have key : ∀ i : Fin 16, ((cc0_scratch3.slice (Rect.unit (s := S16) ![i.val] S1.size (fun a => by rw [Subsingleton.elim a 0]; exact i.isLt))).squeeze S_ squeezes_S1_S_).sem.val = 13 + i.val := by
    decide +kernel
  exact Fin.ext ((key ⟨i, hi⟩).trans hq.symm)
/-- Entry `i` of the landing semaphores of the gathering part is semaphore `29 + i`. -/
theorem sem7 (i : ℕ) {off : Fin 1 → ℕ} {inb : ∀ a, off a + S1.size a ≤ S16.size a} (ho : off = ![i]) (q : Fin 45) (hq : q.val = 29 + i) :
    ((cc0_scratch4.slice (Rect.unit (s := S16) off S1.size inb)).squeeze S_ squeezes_S1_S_).sem = q := by
  subst ho
  have hi : i + 1 ≤ 16 := inb 0
  have key : ∀ i : Fin 16, ((cc0_scratch4.slice (Rect.unit (s := S16) ![i.val] S1.size (fun a => by rw [Subsingleton.elim a 0]; exact i.isLt))).squeeze S_ squeezes_S1_S_).sem.val = 29 + i.val := by
    decide +kernel
  exact Fin.ext ((key ⟨i, hi⟩).trans hq.symm)

/-! ## Partners -/

/-- The device that opening signal 0 goes to. -/
theorem dev1 : ∀ c : Dev nD, (⟨k0_dev1 c, k0_dev1_lt c⟩ : Dev nD) = nb 0 c := by decide +kernel
/-- The device that opening signal 1 goes to. -/
theorem dev2 : ∀ c : Dev nD, (⟨k0_dev2 c, k0_dev2_lt c⟩ : Dev nD) = nb 1 c := by decide +kernel
/-- The device that opening signal 2 goes to. -/
theorem dev3 : ∀ c : Dev nD, (⟨k0_dev3 c, k0_dev3_lt c⟩ : Dev nD) = nb 2 c := by decide +kernel
/-- The device that opening signal 3 goes to. -/
theorem dev4 : ∀ c : Dev nD, (⟨k0_dev4 c, k0_dev4_lt c⟩ : Dev nD) = nb 3 c := by decide +kernel
/-- The device that opening signal 4 goes to. -/
theorem dev5 : ∀ c : Dev nD, (⟨k0_dev5 c, k0_dev5_lt c⟩ : Dev nD) = nb 4 c := by decide +kernel
/-- The device that copy 0 goes to. -/
theorem dev6 : ∀ c : Dev nD, (⟨k0_dev6 c, k0_dev6_lt c⟩ : Dev nD) = peer c 0 := by decide +kernel
/-- The device that copy 1 goes to. -/
theorem dev7 : ∀ c : Dev nD, (⟨k0_dev7 c, k0_dev7_lt c⟩ : Dev nD) = peer c 1 := by decide +kernel
/-- The device that copy 2 goes to. -/
theorem dev8 : ∀ c : Dev nD, (⟨k0_dev8 c, k0_dev8_lt c⟩ : Dev nD) = peer c 2 := by decide +kernel
/-- The device that copy 3 goes to. -/
theorem dev9 : ∀ c : Dev nD, (⟨k0_dev9 c, k0_dev9_lt c⟩ : Dev nD) = peer c 3 := by decide +kernel
/-- The device that copy 4 goes to. -/
theorem dev10 : ∀ c : Dev nD, (⟨k0_dev10 c, k0_dev10_lt c⟩ : Dev nD) = peer c 4 := by decide +kernel
/-- The device that copy 5 goes to. -/
theorem dev11 : ∀ c : Dev nD, (⟨k0_dev11 c, k0_dev11_lt c⟩ : Dev nD) = peer c 5 := by decide +kernel
/-- The device that copy 6 goes to. -/
theorem dev12 : ∀ c : Dev nD, (⟨k0_dev12 c, k0_dev12_lt c⟩ : Dev nD) = peer c 6 := by decide +kernel
/-- The device that copy 7 goes to. -/
theorem dev13 : ∀ c : Dev nD, (⟨k0_dev13 c, k0_dev13_lt c⟩ : Dev nD) = peer c 7 := by decide +kernel
/-- The device that copy 8 goes to. -/
theorem dev14 : ∀ c : Dev nD, (⟨k0_dev14 c, k0_dev14_lt c⟩ : Dev nD) = peer c 8 := by decide +kernel
/-- The device that copy 9 goes to. -/
theorem dev15 : ∀ c : Dev nD, (⟨k0_dev15 c, k0_dev15_lt c⟩ : Dev nD) = peer c 9 := by decide +kernel
/-- The device that copy 10 goes to. -/
theorem dev16 : ∀ c : Dev nD, (⟨k0_dev16 c, k0_dev16_lt c⟩ : Dev nD) = peer c 10 := by decide +kernel
/-- The device that copy 11 goes to. -/
theorem dev17 : ∀ c : Dev nD, (⟨k0_dev17 c, k0_dev17_lt c⟩ : Dev nD) = peer c 11 := by decide +kernel
/-- The device that copy 12 goes to. -/
theorem dev18 : ∀ c : Dev nD, (⟨k0_dev18 c, k0_dev18_lt c⟩ : Dev nD) = peer c 12 := by decide +kernel
/-- The device that copy 13 goes to. -/
theorem dev19 : ∀ c : Dev nD, (⟨k0_dev19 c, k0_dev19_lt c⟩ : Dev nD) = peer c 13 := by decide +kernel
/-- The device that copy 14 goes to. -/
theorem dev20 : ∀ c : Dev nD, (⟨k0_dev20 c, k0_dev20_lt c⟩ : Dev nD) = peer c 14 := by decide +kernel
/-- The device that copy 15 goes to. -/
theorem dev21 : ∀ c : Dev nD, (⟨k0_dev21 c, k0_dev21_lt c⟩ : Dev nD) = peer c 15 := by decide +kernel
/-- The device that copy 16 goes to. -/
theorem dev22 : ∀ c : Dev nD, (⟨k0_dev22 c, k0_dev22_lt c⟩ : Dev nD) = peer c 16 := by decide +kernel
/-- The device that copy 17 goes to. -/
theorem dev23 : ∀ c : Dev nD, (⟨k0_dev23 c, k0_dev23_lt c⟩ : Dev nD) = peer c 17 := by decide +kernel
/-- The device that copy 18 goes to. -/
theorem dev24 : ∀ c : Dev nD, (⟨k0_dev24 c, k0_dev24_lt c⟩ : Dev nD) = peer c 18 := by decide +kernel
/-- The device that copy 19 goes to. -/
theorem dev25 : ∀ c : Dev nD, (⟨k0_dev25 c, k0_dev25_lt c⟩ : Dev nD) = peer c 19 := by decide +kernel
/-- The device that copy 20 goes to. -/
theorem dev26 : ∀ c : Dev nD, (⟨k0_dev26 c, k0_dev26_lt c⟩ : Dev nD) = peer c 20 := by decide +kernel
/-- The device that copy 21 goes to. -/
theorem dev27 : ∀ c : Dev nD, (⟨k0_dev27 c, k0_dev27_lt c⟩ : Dev nD) = peer c 21 := by decide +kernel
/-- The device that copy 22 goes to. -/
theorem dev28 : ∀ c : Dev nD, (⟨k0_dev28 c, k0_dev28_lt c⟩ : Dev nD) = peer c 22 := by decide +kernel
/-- The device that copy 23 goes to. -/
theorem dev29 : ∀ c : Dev nD, (⟨k0_dev29 c, k0_dev29_lt c⟩ : Dev nD) = peer c 23 := by decide +kernel
/-- The device that copy 24 goes to. -/
theorem dev30 : ∀ c : Dev nD, (⟨k0_dev30 c, k0_dev30_lt c⟩ : Dev nD) = peer c 24 := by decide +kernel
/-- The device that copy 25 goes to. -/
theorem dev31 : ∀ c : Dev nD, (⟨k0_dev31 c, k0_dev31_lt c⟩ : Dev nD) = peer c 25 := by decide +kernel
/-- The device that copy 26 goes to. -/
theorem dev32 : ∀ c : Dev nD, (⟨k0_dev32 c, k0_dev32_lt c⟩ : Dev nD) = peer c 26 := by decide +kernel
/-- The device that copy 27 goes to. -/
theorem dev33 : ∀ c : Dev nD, (⟨k0_dev33 c, k0_dev33_lt c⟩ : Dev nD) = peer c 27 := by decide +kernel

/-! ## Offsets -/

/-- The rows of the left argument that make the block of copy 0. -/
theorem off1 : ∀ c : Dev nD, k0_off1 c = ![srcRow c 0, 0] := by decide +kernel
/-- The first row and column of the block that copy 0 borrows. -/
theorem off2 : ∀ c : Dev nD, k0_off2 c = ![srcRow c 0, col 0] := by decide +kernel
/-- The first row and column of the block that copy 0 borrows. -/
theorem off3 : ∀ c : Dev nD, k0_off3 c = ![srcRow c 0, col 0] := by decide +kernel
/-- The rows of the left argument that make the block of copy 1. -/
theorem off4 : ∀ c : Dev nD, k0_off4 c = ![srcRow c 1, 0] := by decide +kernel
/-- The first row and column of the block that copy 1 borrows. -/
theorem off5 : ∀ c : Dev nD, k0_off5 c = ![srcRow c 1, col 1] := by decide +kernel
/-- The first row and column of the block that copy 1 borrows. -/
theorem off6 : ∀ c : Dev nD, k0_off6 c = ![srcRow c 1, col 1] := by decide +kernel
/-- The first row and column of the block that copy 2 borrows. -/
theorem off7 : ∀ c : Dev nD, k0_off7 c = ![srcRow c 2, col 2] := by decide +kernel
/-- The first row and column of the block that copy 2 borrows. -/
theorem off8 : ∀ c : Dev nD, k0_off8 c = ![srcRow c 2, col 2] := by decide +kernel
/-- The first row and column of the block that copy 3 borrows. -/
theorem off9 : ∀ c : Dev nD, k0_off9 c = ![srcRow c 3, col 3] := by decide +kernel
/-- The first row and column of the block that copy 3 borrows. -/
theorem off10 : ∀ c : Dev nD, k0_off10 c = ![srcRow c 3, col 3] := by decide +kernel
/-- The first row and column of the half kept of stream 0. -/
theorem off11 : ∀ c : Dev nD, k0_off11 c = ![k1 c 0, 0] := by decide +kernel
/-- The first row and column of the half kept of stream 0. -/
theorem off12 : ∀ c : Dev nD, k0_off12 c = ![k1 c 0, 0] := by decide +kernel
/-- The rows of the left argument that make the half kept of stream 1. -/
theorem off13 : ∀ c : Dev nD, k0_off13 c = ![k1 c 1, 0] := by decide +kernel
/-- The first row and column of the half kept of stream 1. -/
theorem off14 : ∀ c : Dev nD, k0_off14 c = ![k1 c 1, 512] := by decide +kernel
/-- The first row and column of the block that copy 0 of the partner is added to. -/
theorem off15 : ∀ c : Dev nD, k0_off15 c = ![addRow c 0, col 0] := by decide +kernel
/-- The first row and column of the block that copy 4 borrows. -/
theorem off16 : ∀ c : Dev nD, k0_off16 c = ![srcRow c 4, col 4] := by decide +kernel
/-- The first row and column of the block that copy 1 of the partner is added to. -/
theorem off17 : ∀ c : Dev nD, k0_off17 c = ![addRow c 1, col 1] := by decide +kernel
/-- The first row and column of the block that copy 5 borrows. -/
theorem off18 : ∀ c : Dev nD, k0_off18 c = ![srcRow c 5, col 5] := by decide +kernel
/-- The first row and column of the block that copy 2 of the partner is added to. -/
theorem off19 : ∀ c : Dev nD, k0_off19 c = ![addRow c 2, col 2] := by decide +kernel
/-- The first row and column of the block that copy 6 borrows. -/
theorem off20 : ∀ c : Dev nD, k0_off20 c = ![srcRow c 6, col 6] := by decide +kernel
/-- The first row and column of the block that copy 3 of the partner is added to. -/
theorem off21 : ∀ c : Dev nD, k0_off21 c = ![addRow c 3, col 3] := by decide +kernel
/-- The first row and column of the block that copy 7 borrows. -/
theorem off22 : ∀ c : Dev nD, k0_off22 c = ![srcRow c 7, col 7] := by decide +kernel
/-- The first row and column of the block that copy 4 of the partner is added to. -/
theorem off23 : ∀ c : Dev nD, k0_off23 c = ![addRow c 4, col 4] := by decide +kernel
/-- The first row and column of the block that copy 6 of the partner is added to. -/
theorem off24 : ∀ c : Dev nD, k0_off24 c = ![addRow c 6, col 6] := by decide +kernel
/-- The first row and column of the block that copy 5 of the partner is added to. -/
theorem off28 : ∀ c : Dev nD, k0_off28 c = ![addRow c 5, col 5] := by decide +kernel
/-- The first row and column of the block that copy 7 of the partner is added to. -/
theorem off29 : ∀ c : Dev nD, k0_off29 c = ![addRow c 7, col 7] := by decide +kernel
/-- The first row and column of the rows of stream 0 that the device finishes. -/
theorem off34 : ∀ c : Dev nD, k0_off34 c = ![k4 c 0, 0] := by decide +kernel
/-- The first row and column of the rows of stream 0 that the device finishes. -/
theorem off36 : ∀ c : Dev nD, k0_off36 c = ![k4 c 0, 0] := by decide +kernel
/-- The first row and column of the rows of stream 1 that the device finishes. -/
theorem off38 : ∀ c : Dev nD, k0_off38 c = ![k4 c 1, 512] := by decide +kernel
/-- The first row and column of the rows of stream 1 that the device finishes. -/
theorem off40 : ∀ c : Dev nD, k0_off40 c = ![k4 c 1, 512] := by decide +kernel
/-- The first row and column of the block that copy 20 borrows. -/
theorem off41 : ∀ c : Dev nD, k0_off41 c = ![srcRow c 20, col 20] := by decide +kernel
/-- The first row and column of the block that copy 21 borrows. -/
theorem off42 : ∀ c : Dev nD, k0_off42 c = ![srcRow c 21, col 21] := by decide +kernel
/-- The first row and column of the block that copy 22 borrows. -/
theorem off43 : ∀ c : Dev nD, k0_off43 c = ![srcRow c 22, col 22] := by decide +kernel
/-- The first row and column of the block that copy 23 borrows. -/
theorem off44 : ∀ c : Dev nD, k0_off44 c = ![srcRow c 23, col 23] := by decide +kernel
/-- The first row and column of the block that copy 24 borrows. -/
theorem off45 : ∀ c : Dev nD, k0_off45 c = ![srcRow c 24, col 24] := by decide +kernel
/-- The first row and column of the block that copy 25 borrows. -/
theorem off46 : ∀ c : Dev nD, k0_off46 c = ![srcRow c 25, col 25] := by decide +kernel
/-- The first row and column of the block that copy 26 borrows. -/
theorem off47 : ∀ c : Dev nD, k0_off47 c = ![srcRow c 26, col 26] := by decide +kernel
/-- The first row and column of the block that copy 27 borrows. -/
theorem off48 : ∀ c : Dev nD, k0_off48 c = ![srcRow c 27, col 27] := by decide +kernel
/-- Where the device's copies of stream 0 land at its third-axis partners. -/
theorem off26 : ∀ c : Dev nD, k0_off26 c = ![768 + zc c * 64, 0] := by decide +kernel
/-- Where the device's copies of stream 1 land at its third-axis partners. -/
theorem off30 : ∀ c : Dev nD, k0_off30 c = ![768 + zc c * 64, 512] := by decide +kernel
/-- The landing semaphore that the device's third-axis copies count on. -/
theorem off25 : ∀ (c : Dev nD) (i : Fin 4), k0_off25 c (BitVec.ofNat 32 (4 * i.val)) = ![4 * i.val + zc c] := by decide +kernel
/-- The rows of stream 0 that a third-axis partner finishes. -/
theorem off27 : ∀ (c : Dev nD) (r : Fin 3), k0_off27 c (BitVec.ofNat 32 (r.val + 1)) = ![k2 c 0 + zo (zx c r), 0] := by decide +kernel
/-- The rows of stream 1 that a third-axis partner finishes. -/
theorem off31 : ∀ (c : Dev nD) (r : Fin 3), k0_off31 c (BitVec.ofNat 32 (r.val + 1)) = ![k2 c 1 + zo (zx c r), 512] := by decide +kernel
/-- The landing semaphore that a third-axis partner's copy counts on. -/
theorem off32 : ∀ (c : Dev nD) (i : Fin 4) (r : Fin 3), k0_off32 c (BitVec.ofNat 32 (4 * i.val)) (BitVec.ofNat 32 (r.val + 1)) = ![4 * i.val + zx c r] := by decide +kernel
/-- Where the copies of stream 0 of the third-axis partners land. -/
theorem off33 : ∀ (c : Dev nD) (r : Fin 3), k0_off33 c (BitVec.ofNat 32 (r.val + 1)) = ![768 + zx c r * 64, 0] := by decide +kernel
/-- Where the copies of stream 0 of the third-axis partners land. -/
theorem off35 : ∀ (c : Dev nD) (r : Fin 3), k0_off35 c (BitVec.ofNat 32 (r.val + 1)) = ![768 + zx c r * 64, 0] := by decide +kernel
/-- Where the copies of stream 1 of the third-axis partners land. -/
theorem off37 : ∀ (c : Dev nD) (r : Fin 3), k0_off37 c (BitVec.ofNat 32 (r.val + 1)) = ![768 + zx c r * 64, 512] := by decide +kernel
/-- Where the copies of stream 1 of the third-axis partners land. -/
theorem off39 : ∀ (c : Dev nD) (r : Fin 3), k0_off39 c (BitVec.ofNat 32 (r.val + 1)) = ![768 + zx c r * 64, 512] := by decide +kernel

/-- The third-axis coordinate of a third-axis partner. -/
theorem zc_peer : ∀ (c : Dev nD) (t : Fin 28), 8 ≤ t.val → t.val < 20 → zc (peer c t) = zx c (dz t) := by decide +kernel
/-- Where the copies of the third exchange land, as the receiver sees it. -/
theorem dst_third : ∀ (c : Dev nD) (t : Fin 28), 8 ≤ t.val → t.val < 14 → dstRow (peer c t) t = 768 + zx c (dz t) * 64 := by decide +kernel

end Cert.Butterfly

end
-- ==== Proof.Shapes.lean ====
/-
# How the buffers are cut

Every buffer is cut the same way: two column streams; in each the half that a device does not keep, the
quarter that it does not keep, and the remaining quarter in four strips of 64 rows. The equations here
cut and rejoin a buffer, whatever it holds.
-/
module

public import proofs.«01_k».proof.Proof.Offsets

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Things held side by side may be listed in any order and grouped in any way: as equalities, so that
such rearrangements are found. -/
instance sepComm : _root_.Std.Commutative (α := sProp 𝕄) BIBase.sep := ⟨fun _ _ => equiv_iff.mp ⟨BI.sep_comm, BI.sep_comm⟩⟩
/-- The same for the grouping. -/
instance sepAssoc : _root_.Std.Associative (α := sProp 𝕄) BIBase.sep := ⟨fun _ _ _ => equiv_iff.mp ⟨BI.sep_assoc, BI.sep_assoc'⟩⟩

/-- Something held of every block, that splits by rows and by columns. -/
structure Splits (Z : ℕ → ℕ → ℕ → ℕ → sProp 𝕄) : Prop where
  rows : ∀ r k h h' w, Z r k (h + h') w = iprop(Z r k h w ∗ Z (r + h) k h' w)
  cols : ∀ r k h w w', Z r k h (w + w') = iprop(Z r k h w ∗ Z r (k + w) h w')

omit [FloatOps F] in
/-- Holding the same both ways is being equal. -/
theorem eq_of_bi {P Q : sProp 𝕄} (h : P ⊣⊢ Q) : P = Q := equiv_iff.mp ⟨h.1, h.2⟩

omit [FloatOps F] in
/-- Blocks of any contents split so. -/
theorem splits_PE (b : Bf) (c : Dev nD) : Splits (F := F) (PE b c) :=
  ⟨fun r k h h' w => eq_of_bi (PE_rows b c r k h h' w), fun r k h w w' => eq_of_bi (PE_cols b c r k h w w')⟩
omit [FloatOps F] in
/-- Blocks with known contents split so. -/
theorem splits_P (b : Bf) (c : Dev nD) (q : PosShare TreeShare) (G : Con F) : Splits (fun r k h w => P b c r k h w q G) :=
  ⟨fun r k h h' w => eq_of_bi (P_rows b c r k h h' w q G), fun r k h w w' => eq_of_bi (P_cols b c r k h w w' q G)⟩

omit [FloatOps F] in
/-- Two halves, the one of number `β` first. -/
theorem halves {Z : ℕ → ℕ → ℕ → ℕ → sProp 𝕄} (hZ : Splits Z) (β : ℕ) (hβ : β < 2) (r k h w : ℕ) : Z r k (h + h) w = iprop(Z (r + β * h) k h w ∗ Z (r + (1 - β) * h) k h w) := by
  rw [hZ.rows]
  have : β = 0 ∨ β = 1 := by omega
  rcases this with rfl | rfl
  · simp only [Nat.zero_mul, Nat.add_zero, Nat.sub_zero, Nat.one_mul]
  · simp only [Nat.zero_mul, Nat.add_zero, Nat.sub_self, Nat.one_mul]; ac_rfl

omit [FloatOps F] in
/-- Four things indexed by third-axis coordinates, from the view of coordinate `z`. -/
theorem four (z : ℕ) (hz : z < 4) (f : ℕ → sProp 𝕄) :
    iprop(f 0 ∗ f 1 ∗ f 2 ∗ f 3) = iprop(f z ∗ f (z ^^^ 1) ∗ f (z ^^^ 2) ∗ f (z ^^^ 3)) := by
  have : z = 0 ∨ z = 1 ∨ z = 2 ∨ z = 3 := by omega
  rcases this with rfl | rfl | rfl | rfl
  · rfl
  · show _ = iprop(f 1 ∗ f 0 ∗ f 3 ∗ f 2); ac_rfl
  · show _ = iprop(f 2 ∗ f 3 ∗ f 0 ∗ f 1); ac_rfl
  · show _ = iprop(f 3 ∗ f 2 ∗ f 1 ∗ f 0); ac_rfl

omit [FloatOps F] in
/-- A quarter in strips of 64 rows: the device's own, then those of its third-axis partners. -/
theorem strips {Z : ℕ → ℕ → ℕ → ℕ → sProp 𝕄} (hZ : Splits Z) (c : Dev nD) (r k w : ℕ) : Z r k 256 w
    = iprop(Z (r + zo (zc c)) k 64 w ∗ Z (r + zo (zx c 0)) k 64 w ∗ Z (r + zo (zx c 1)) k 64 w ∗ Z (r + zo (zx c 2)) k 64 w) := by
  have h := four (zc c) (by revert c; decide) (fun z => Z (r + zo z) k 64 w)
  refine Eq.trans ?_ h
  show Z r k (64 + (64 + (64 + 64))) w = iprop(Z r k 64 w ∗ Z (r + 128) k 64 w ∗ Z (r + 64) k 64 w ∗ Z (r + 192) k 64 w)
  rw [hZ.rows, hZ.rows, hZ.rows, Nat.add_assoc, Nat.add_assoc]
  ac_rfl

omit [FloatOps F] in
/-- The same strips in the order of the third-axis coordinates, as they land. -/
theorem slots {Z : ℕ → ℕ → ℕ → ℕ → sProp 𝕄} (hZ : Splits Z) (c : Dev nD) (r k w : ℕ) : Z r k 256 w
    = iprop(Z (r + zc c * 64) k 64 w ∗ Z (r + zx c 0 * 64) k 64 w ∗ Z (r + zx c 1 * 64) k 64 w ∗ Z (r + zx c 2 * 64) k 64 w) := by
  have h := four (zc c) (by revert c; decide) (fun z => Z (r + z * 64) k 64 w)
  refine Eq.trans ?_ h
  show Z r k (64 + (64 + (64 + 64))) w = iprop(Z (r + 0 * 64) k 64 w ∗ Z (r + 1 * 64) k 64 w ∗ Z (r + 2 * 64) k 64 w ∗ Z (r + 3 * 64) k 64 w)
  rw [hZ.rows, hZ.rows, hZ.rows, Nat.add_assoc, Nat.add_assoc]
  simp only [Nat.zero_mul, Nat.add_zero]

omit [FloatOps F] in
/-- A stream as the half kept and the half not kept, the latter in two column chunks. -/
theorem cut_half {Z : ℕ → ℕ → ℕ → ℕ → sProp 𝕄} (hZ : Splits Z) (c : Dev nD) (s : ℕ) (k : ℕ) : Z 0 k 1024 512
    = iprop(Z (k1 c s) k 512 512 ∗ Z ((1 - b1 c s) * 512) k 512 256 ∗ Z ((1 - b1 c s) * 512) (k + 256) 512 256) := by
  have hb : b1 c s < 2 := by unfold b1 hx hy; split <;> omega
  refine (halves hZ (b1 c s) hb 0 k 512 512).trans ?_
  rw [Nat.zero_add, Nat.zero_add, hZ.cols ((1 - b1 c s) * 512) k 512 256 256]
  rfl
omit [FloatOps F] in
/-- A kept half as the quarter kept and the quarter not kept, for columns of any width. -/
theorem cut_quarter {Z : ℕ → ℕ → ℕ → ℕ → sProp 𝕄} (hZ : Splits Z) (c : Dev nD) (s : ℕ) (k w : ℕ) : Z (k1 c s) k 512 w
    = iprop(Z (k2 c s) k 256 w ∗ Z (k1 c s + (1 - b2 c s) * 256) k 256 w) := by
  have hb : b2 c s < 2 := by unfold b2 hx hy; split <;> omega
  exact halves hZ (b2 c s) hb (k1 c s) k 256 w
omit [FloatOps F] in
/-- A stream, cut all the way. -/
theorem cut_stream {Z : ℕ → ℕ → ℕ → ℕ → sProp 𝕄} (hZ : Splits Z) (c : Dev nD) (s : ℕ) (k : ℕ) : Z 0 k 1024 512
    = iprop((Z ((1 - b1 c s) * 512) k 512 256 ∗ Z ((1 - b1 c s) * 512) (k + 256) 512 256)
      ∗ (Z (k1 c s + (1 - b2 c s) * 256) k 256 256 ∗ Z (k1 c s + (1 - b2 c s) * 256) (k + 256) 256 256)
      ∗ (Z (k2 c s + zo (zx c 0)) k 64 512 ∗ Z (k2 c s + zo (zx c 1)) k 64 512 ∗ Z (k2 c s + zo (zx c 2)) k 64 512)
      ∗ Z (k4 c s) k 64 512) := by
  rw [cut_half hZ c s k, cut_quarter hZ c s k 512, strips hZ c (k2 c s) k 512, hZ.cols (k1 c s + (1 - b2 c s) * 256) k 256 256 256]
  unfold k4
  ac_rfl
omit [FloatOps F] in
/-- The landing buffer, cut all the way. -/
theorem cut_landing {Z : ℕ → ℕ → ℕ → ℕ → sProp 𝕄} (hZ : Splits Z) (c : Dev nD) : Z 0 0 1024 1024
    = iprop((Z 0 0 512 256 ∗ Z 0 512 512 256 ∗ Z 0 256 512 256 ∗ Z 0 768 512 256)
      ∗ (Z 512 0 256 256 ∗ Z 512 512 256 256 ∗ Z 512 256 256 256 ∗ Z 512 768 256 256)
      ∗ (Z (768 + zx c 0 * 64) 0 64 512 ∗ Z (768 + zx c 1 * 64) 0 64 512 ∗ Z (768 + zx c 2 * 64) 0 64 512)
      ∗ (Z (768 + zx c 0 * 64) 512 64 512 ∗ Z (768 + zx c 1 * 64) 512 64 512 ∗ Z (768 + zx c 2 * 64) 512 64 512)
      ∗ Z (768 + zc c * 64) 0 64 512 ∗ Z (768 + zc c * 64) 512 64 512) := by
  have e : ∀ r h, Z r 0 h 1024 = iprop((Z r 0 h 256 ∗ Z r 256 h 256) ∗ Z r 512 h 256 ∗ Z r 768 h 256) := fun r h => by
    show Z r 0 h ((256 + 256) + (256 + 256)) = _
    rw [hZ.cols, hZ.cols, hZ.cols]
  have e' : Z 768 0 256 1024 = iprop(Z 768 0 256 512 ∗ Z 768 512 256 512) := hZ.cols 768 0 256 512 512
  have e0 : Z 0 0 1024 1024 = iprop(Z 0 0 512 1024 ∗ Z 512 0 256 1024 ∗ Z 768 0 256 1024) := by
    show Z 0 0 (512 + (256 + 256)) 1024 = _
    rw [hZ.rows, hZ.rows]
  rw [e0, e, e, e', slots hZ c 768 0 512, slots hZ c 768 512 512]
  ac_rfl
end Cert.Butterfly

end
-- ==== Proof.Phases.lean ====
/-
# The copies, phase by phase

What each copy borrows and brings, in the terms of its phase; what the sums store; and how the blocks of
one phase become the blocks of the next.
-/
module

public import proofs.«01_k».proof.Proof.Shapes
public import Idealize.ShloMosaic.Lib.Pipeline.Value

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Args F) (c : Dev nD) (t : Fin 28)

/-! ## What a copy borrows -/

/-- In the first exchange a copy borrows half of the partial products. -/
theorem send0 (ht : t.val < 4) : sendPay X c t = P .acc c (srcRow c t) (col t) 512 256 fullShare (acc0 X c) := by
  have h := (by decide : ∀ t : Fin 28, t.val < 4 → hgt t = 512 ∧ wid t = 256 ∧ ph t = 0) t ht
  unfold sendPay sb qs srcG
  rw [h.1, h.2.1, if_pos (by omega), if_pos (by omega), if_pos h.2.2]
/-- In the second exchange a copy borrows a quarter, as it is after the first. -/
theorem send1 (h4 : 4 ≤ t.val) (ht : t.val < 8) : sendPay X c t = P .acc c (srcRow c t) (col t) 256 256 fullShare (acc1 X c) := by
  have h := (by decide : ∀ t : Fin 28, 4 ≤ t.val → t.val < 8 → hgt t = 256 ∧ wid t = 256 ∧ ph t ≠ 0 ∧ ph t = 1) t h4 ht
  unfold sendPay sb qs srcG
  rw [h.1, h.2.1, if_pos (by omega), if_pos (by omega), if_neg h.2.2.1, if_pos h.2.2.2]
/-- Along the third axis a copy borrows 64 rows, as they are after the second exchange. -/
theorem send2 (h4 : 8 ≤ t.val) (ht : t.val < 14) : sendPay X c t = P .acc c (srcRow c t) (col t) 64 512 fullShare (acc2 X c) := by
  have h := (by decide : ∀ t : Fin 28, 8 ≤ t.val → t.val < 14 → hgt t = 64 ∧ wid t = 512 ∧ ph t ≠ 0 ∧ ph t ≠ 1 ∧ ph t = 2) t h4 ht
  unfold sendPay sb qs srcG
  rw [h.1, h.2.1, if_pos (by omega), if_pos (by omega), if_neg h.2.2.1, if_neg h.2.2.2.1, if_pos h.2.2.2.2]
/-- Handing out along the third axis, a copy borrows a share of the device's finished rows. -/
theorem send3 (h4 : 14 ≤ t.val) (ht : t.val < 20) : sendPay X c t = P .out c (srcRow c t) (col t) 64 512 (qs t) (outF X) := by
  have h := (by decide : ∀ t : Fin 28, 14 ≤ t.val → t.val < 20 → hgt t = 64 ∧ wid t = 512 ∧ ph t ≠ 0 ∧ ph t ≠ 1 ∧ ph t ≠ 2) t h4 ht
  unfold sendPay sb srcG
  rw [h.1, h.2.1, if_neg (by omega), if_neg h.2.2.1, if_neg h.2.2.2.1, if_neg h.2.2.2.2]
/-- Handing out quarters, a copy borrows a share of the finished quarter. -/
theorem send4 (h4 : 20 ≤ t.val) (ht : t.val < 24) : sendPay X c t = P .out c (srcRow c t) (col t) 256 256 fullShare.left (outF X) := by
  have h := (by decide : ∀ t : Fin 28, 20 ≤ t.val → t.val < 24 → hgt t = 256 ∧ wid t = 256 ∧ ph t ≠ 0 ∧ ph t ≠ 1 ∧ ph t ≠ 2) t h4 ht
  unfold sendPay sb qs srcG
  rw [h.1, h.2.1, if_neg (by omega), if_neg (by omega), if_neg (by omega), if_neg h.2.2.1, if_neg h.2.2.2.1, if_neg h.2.2.2.2]
/-- Handing out halves, a copy borrows a share of the finished half. -/
theorem send5 (h4 : 24 ≤ t.val) : sendPay X c t = P .out c (srcRow c t) (col t) 512 256 fullShare.left (outF X) := by
  have h := (by decide : ∀ t : Fin 28, 24 ≤ t.val → hgt t = 512 ∧ wid t = 256 ∧ ph t ≠ 0 ∧ ph t ≠ 1 ∧ ph t ≠ 2) t h4
  unfold sendPay sb qs srcG
  rw [h.1, h.2.1, if_neg (by omega), if_neg (by omega), if_neg (by omega), if_neg h.2.2.1, if_neg h.2.2.2.1, if_neg h.2.2.2.2]

/-! ## What a copy brings -/

/-- A copy of the first exchange lands in the first 512 rows of the landing buffer. -/
theorem recv0 (ht : t.val < 4) : recvPay X c t = P .rcv c 0 (col t) 512 256 fullShare (recvG X (peer c t) t) := by
  have h := (by decide : ∀ t : Fin 28, t.val < 4 → hgt t = 512 ∧ wid t = 256 ∧ ph t = 0) t ht
  unfold recvPay db
  rw [h.1, h.2.1, if_pos (by omega), show dstRow (peer c t) t = 0 from if_pos h.2.2]
/-- A copy of the second exchange lands in the 256 rows after those. -/
theorem recv1 (h4 : 4 ≤ t.val) (ht : t.val < 8) : recvPay X c t = P .rcv c 512 (col t) 256 256 fullShare (recvG X (peer c t) t) := by
  have h := (by decide : ∀ t : Fin 28, 4 ≤ t.val → t.val < 8 → hgt t = 256 ∧ wid t = 256 ∧ ph t ≠ 0 ∧ ph t = 1) t h4 ht
  unfold recvPay db
  rw [h.1, h.2.1, if_pos (by omega), show dstRow (peer c t) t = 512 from (if_neg h.2.2.1).trans (if_pos h.2.2.2)]
/-- A copy along the third axis lands in the 64 rows that belong to its sender. -/
theorem recv2 (h4 : 8 ≤ t.val) (ht : t.val < 14) :
    recvPay X c t = P .rcv c (768 + zx c (dz t) * 64) (col t) 64 512 fullShare (recvG X (peer c t) t) := by
  have h := (by decide : ∀ t : Fin 28, 8 ≤ t.val → t.val < 14 → hgt t = 64 ∧ wid t = 512) t h4 ht
  have hd := (by decide +kernel : ∀ (c : Dev nD) (t : Fin 28), 8 ≤ t.val → t.val < 14 → dstRow (peer c t) t = 768 + zx c (dz t) * 64) c t h4 ht
  unfold recvPay db
  rw [h.1, h.2, if_pos (by omega), hd]

/-- The rows that a gathering copy writes are its source's, and hold the result. -/
theorem recv_out (h4 : 14 ≤ t.val) : recvPay X c t = P .out c (srcRow (peer c t) t) (col t) (hgt t) (wid t) fullShare (outF X) := by
  have hd := (by decide +kernel : ∀ (c : Dev nD) (t : Fin 28), 14 ≤ t.val → dstRow c t = srcRow c t) (peer c t) t h4
  unfold recvPay db
  rw [if_neg (by omega), hd]
  exact P_congr _ _ _ _ _ _ _ fun i j hi _ _ _ => recvG_gather X (peer c t) t h4 i j hi
/-- A copy that hands out finished rows brings those of a third-axis partner. -/
theorem recv3 (h4 : 14 ≤ t.val) (ht : t.val < 20) :
    recvPay X c t = P .out c (k2 c (stm t) + zo (zx c (dz t))) (col t) 64 512 fullShare (outF X) := by
  have h := (by decide : ∀ t : Fin 28, 14 ≤ t.val → t.val < 20 → hgt t = 64 ∧ wid t = 512) t h4 ht
  have hd := (by decide +kernel : ∀ (c : Dev nD) (t : Fin 28), 14 ≤ t.val → t.val < 20 → srcRow (peer c t) t = k2 c (stm t) + zo (zx c (dz t))) c t h4 ht
  rw [recv_out X c t h4, h.1, h.2, hd]
/-- A copy that hands out a quarter brings the quarter that the device sent away. -/
theorem recv4 (h4 : 20 ≤ t.val) (ht : t.val < 24) :
    recvPay X c t = P .out c (k1 c (stm t) + (1 - b2 c (stm t)) * 256) (col t) 256 256 fullShare (outF X) := by
  have h := (by decide : ∀ t : Fin 28, 20 ≤ t.val → t.val < 24 → hgt t = 256 ∧ wid t = 256) t h4 ht
  have hd := (by decide +kernel : ∀ (c : Dev nD) (t : Fin 28), 20 ≤ t.val → t.val < 24 → srcRow (peer c t) t = k1 c (stm t) + (1 - b2 c (stm t)) * 256) c t h4 ht
  rw [recv_out X c t (by omega), h.1, h.2, hd]
/-- A copy that hands out a half brings the half that the device sent away. -/
theorem recv5 (h4 : 24 ≤ t.val) : recvPay X c t = P .out c ((1 - b1 c (stm t)) * 512) (col t) 512 256 fullShare (outF X) := by
  have h := (by decide : ∀ t : Fin 28, 24 ≤ t.val → hgt t = 512 ∧ wid t = 256) t h4
  have hd := (by decide +kernel : ∀ (c : Dev nD) (t : Fin 28), 24 ≤ t.val → srcRow (peer c t) t = (1 - b1 c (stm t)) * 512) c t h4
  rw [recv_out X c t (by omega), h.1, h.2, hd]

/-! ## What the sums store -/

/-- The half that is sent. -/
theorem val_sent (ht : t.val < 4) (x : (⟨2, ![512, 256]⟩ : Shape).Idx) :
    tile ![512, 256] (srcRow c t) (col t) (acc0 X c) x = k0_pay3 (tile ![512, 512] (srcRow c t) 0 (conA (X.a c))) (tile ![512, 256] 0 (col t) (conB (X.b c))) x :=
  acc0_sent X c t ht x
/-- The half that is kept. -/
theorem val_kept (s : Fin 2) (x : (⟨2, ![512, 512]⟩ : Shape).Idx) :
    tile ![512, 512] (k1 c s) (s.val * 512) (acc0 X c) x = k0_pay8 (tile ![512, 512] (k1 c s) 0 (conA (X.a c))) (tile ![512, 512] 0 (s.val * 512) (conB (X.b c))) x :=
  acc0_kept X c s x
/-- After the first exchange. -/
theorem val1 (ht : t.val < 4) (x : (⟨2, ![512, 256]⟩ : Shape).Idx) :
    tile ![512, 256] (addRow c t) (col t) (acc1 X c) x
      = k0_pay10 (tile ![512, 256] (addRow c t) (col t) (acc0 X c)) (tile ![512, 256] 0 (col t) (recvG X (peer c t) t)) x := by
  have h := (by decide : ∀ t : Fin 28, t.val < 4 → ph t = 0) t ht
  unfold k0_pay10
  rw [shapeCast_self]
  refine (acc1_sum X c t ht (x 0).val (x 1).val (x 1).isLt).trans ?_
  rw [show dstRow (peer c t) t = 0 from if_pos h]
  rfl
/-- After the second exchange. -/
theorem val2 (h4 : 4 ≤ t.val) (ht : t.val < 8) (x : (⟨2, ![256, 256]⟩ : Shape).Idx) :
    tile ![256, 256] (addRow c t) (col t) (acc2 X c) x
      = k0_pay15 (tile ![256, 256] (addRow c t) (col t) (acc1 X c)) (tile ![256, 256] 512 (col t) (recvG X (peer c t) t)) x := by
  have h := (by decide : ∀ t : Fin 28, 4 ≤ t.val → t.val < 8 → ph t ≠ 0 ∧ ph t = 1) t h4 ht
  unfold k0_pay15
  rw [shapeCast_self]
  refine (acc2_sum X c t h4 ht (x 0).val (x 1).val (x 1).isLt).trans ?_
  rw [show dstRow (peer c t) t = 512 from (if_neg h.1).trans (if_pos h.2)]
  rfl
/-- What lands along the third axis, as the sums of the partner of class `b`. -/
theorem land3 (h8 : 8 ≤ t.val) (ht : t.val < 14) (x : (⟨2, ![64, 512]⟩ : Shape).Idx) :
    tile ![64, 512] (768 + zx c (dz t) * 64) (col t) (recvG X (peer c t) t) x = acc2 X (nb (grp t) c) (k4 c (stm t) + (x 0).val) (col t + (x 1).val) := by
  have hd := (by decide +kernel : ∀ (c : Dev nD) (t : Fin 28), 8 ≤ t.val → t.val < 14 →
    dstRow (peer c t) t = 768 + zx c (dz t) * 64 ∧ addRow c t = k4 c (stm t)) c t h8 ht
  rw [← hd.2]
  refine Eq.trans ?_ (recvG_third X c t h8 ht (x 0).val (col t + (x 1).val))
  rw [hd.1]; rfl
/-- One more sum along the third axis. -/
theorem val3 {G G' : Con F} (h8 : 8 ≤ t.val) (ht : t.val < 14)
    (hG : ∀ i j, G' i j = FloatOps.addf (φ := .bf16) (G i j) (acc2 X (nb (grp t) c) i j)) (x : (⟨2, ![64, 512]⟩ : Shape).Idx) :
    tile ![64, 512] (k4 c (stm t)) (col t) G' x
      = k0_pay20 (tile ![64, 512] (k4 c (stm t)) (col t) G) (tile ![64, 512] (768 + zx c (dz t) * 64) (col t) (recvG X (peer c t) t)) x := by
  unfold k0_pay20
  rw [shapeCast_self]
  show G' _ _ = FloatOps.addf (φ := .bf16) _ _
  rw [land3 X c t h8 ht, hG]
  rfl
/-- The finished rows. -/
theorem val_out (s : ℕ) (k : ℕ) (x : (⟨2, ![64, 512]⟩ : Shape).Idx) :
    tile ![64, 512] (k4 c s) k (outG X c) x = k0_pay24 (tile ![64, 512] (k4 c s) k (acc5 X c)) x := rfl

/-! ## From one phase to the next -/

/-- The partial products kept, as the columns of the first exchange. -/
theorem kept_cols (k : ℕ) (G : Con F) : P .acc c (k1 c k) (k * 512) 512 512 fullShare G
    = iprop(P .acc c (k1 c k) (k * 512) 512 256 fullShare G ∗ P .acc c (k1 c k) (k * 512 + 256) 512 256 fullShare G) :=
  (splits_P .acc c fullShare G).cols (k1 c k) (k * 512) 512 256 256
/-- The half kept, as the quarter to send on and the quarter to keep. -/
theorem half_quarters (s k : ℕ) (G : Con F) : P .acc c (k1 c s) k 512 256 fullShare G
    = iprop(P .acc c (k2 c s) k 256 256 fullShare G ∗ P .acc c (k1 c s + (1 - b2 c s) * 256) k 256 256 fullShare G) :=
  cut_quarter (splits_P .acc c fullShare G) c s k 256
/-- The half kept of copy `t`'s columns, as the quarter that copy `u` sends on and the quarter that is kept. -/
theorem half_pieces (u : Fin 28) (ht : t.val < 4) (hu : u.val = t.val + 4) (G : Con F) : P .acc c (addRow c t) (col t) 512 256 fullShare G
    = iprop(P .acc c (addRow c u) (col u) 256 256 fullShare G ∗ P .acc c (srcRow c u) (col u) 256 256 fullShare G) := by
  have h := (by decide +kernel : ∀ (c : Dev nD) (t u : Fin 28), t.val < 4 → u.val = t.val + 4 → addRow c t = k1 c (stm t) ∧ col u = col t
    ∧ addRow c u = k2 c (stm t) ∧ srcRow c u = k1 c (stm t) + (1 - b2 c (stm t)) * 256) c t u ht hu
  rw [h.1, h.2.1, h.2.2.1, h.2.2.2, half_quarters]
/-- The quarter kept, as its four strips. -/
theorem quarter_strips (s k : ℕ) (G : Con F) :
    iprop(P .acc c (k2 c s) k 256 256 fullShare G ∗ P .acc c (k2 c s) (k + 256) 256 256 fullShare G)
      = iprop(P .acc c (k4 c s) k 64 512 fullShare G ∗ P .acc c (k2 c s + zo (zx c 0)) k 64 512 fullShare G
        ∗ P .acc c (k2 c s + zo (zx c 1)) k 64 512 fullShare G ∗ P .acc c (k2 c s + zo (zx c 2)) k 64 512 fullShare G) :=
  ((splits_P .acc c fullShare G).cols (k2 c s) k 256 256 256).symm.trans (strips (splits_P .acc c fullShare G) c (k2 c s) k 512)

omit [FloatOps F] in
/-- A share of a block as two. -/
theorem share_eq (b : Bf) (r k h w : ℕ) (q : PosShare TreeShare) (G : Con F) :
    P b c r k h w q G = iprop(P b c r k h w q.left G ∗ P b c r k h w q.right G) := eq_of_bi (P_share b c r k h w q G)

/-- The finished rows, lent to three copies with one share left over. -/
theorem own_shares (s : Fin 2) : P .out c (k4 c s) (s.val * 512) 64 512 fullShare (outG X c)
    = iprop(P .out c (k4 c s) (s.val * 512) 64 512 fullShare.left (outF X)
      ∗ P .out c (k4 c s) (s.val * 512) 64 512 fullShare.right.left (outF X)
      ∗ P .out c (k4 c s) (s.val * 512) 64 512 fullShare.right.right.left (outF X)
      ∗ P .out c (k4 c s) (s.val * 512) 64 512 fullShare.right.right.right (outF X)) := by
  have e : P .out c (k4 c s) (s.val * 512) 64 512 fullShare (outG X c) = P .out c (k4 c s) (s.val * 512) 64 512 fullShare (outF X) :=
    P_congr _ _ _ _ _ _ _ fun i j h1 h2 h3 h4 => by
      have := outF_own X c s (i - k4 c s) (j - s.val * 512) (by omega) (by omega)
      rw [Nat.add_sub_cancel' h1, Nat.add_sub_cancel' h3] at this
      exact this.symm
  rw [e, share_eq c .out _ _ _ _ fullShare, share_eq c .out _ _ _ _ fullShare.right, share_eq c .out _ _ _ _ fullShare.right.right]

/-- A quarter at one share, from the strips. -/
theorem strips_quarter (s k : ℕ) (q : PosShare TreeShare) (G : Con F) :
    iprop(P .out c (k4 c s) k 64 512 q G ∗ P .out c (k2 c s + zo (zx c 0)) k 64 512 q G
        ∗ P .out c (k2 c s + zo (zx c 1)) k 64 512 q G ∗ P .out c (k2 c s + zo (zx c 2)) k 64 512 q G)
      = iprop(P .out c (k2 c s) k 256 256 q G ∗ P .out c (k2 c s) (k + 256) 256 256 q G) :=
  (strips (splits_P .out c q G) c (k2 c s) k 512).symm.trans ((splits_P .out c q G).cols (k2 c s) k 256 256 256)
/-- A half at one share, from its quarters. -/
theorem quarters_half (s k : ℕ) (q : PosShare TreeShare) (G : Con F) :
    iprop(P .out c (k2 c s) k 256 256 q G ∗ P .out c (k1 c s + (1 - b2 c s) * 256) k 256 256 q G) = P .out c (k1 c s) k 512 256 q G :=
  (cut_quarter (splits_P .out c q G) c s k 256).symm

end Cert.Butterfly

end
-- ==== Proof.Run.lean ====
/-
# Running a part of the body

What the theorems about the parts of the body are stated with, and what a device holds once the opening
signals are in.
-/
module

public import proofs.«01_k».proof.Proof.Phases

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- A program of device `c`, run to a postcondition. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part of the body, at the buffers and semaphores that the body is given. -/
abbrev here {β : Type _} (f : (a0 : Memref sig .tc .vmem S1024x512 .bf16) → a0.IsWhole → (a1 : Memref sig .tc .vmem S512x1024 .bf16) → a1.IsWhole
    → (a2 : Memref sig .tc .vmem S1024x1024 .bf16) → a2.IsWhole → (a3 : Memref sig .tc .vmem S1024x1024 .bf16) → a3.IsWhole
    → (a4 : Memref sig .tc .vmem S1024x1024 .bf16) → a4.IsWhole → DmaSems sig S10 → DmaSems sig S16 → DmaSems sig S16 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) cc0_scratch2 cc0_scratch3 cc0_scratch4

/-- What the partner's opening signal leaves out of the right to issue a copy. -/
def tok2 (t : Fin 28) : sProp 𝕄 := iprop(dutyTok ER (dcell c (sIx t)) (sRd t) t ∗ dutyTok ER (rcell c t) 0 t)

/-- The rights to issue the copies of a list, from what each needs. -/
theorem toks_list (l : List (Fin 28)) (hl : l.Nodup) : toks c l = bigSep l.toFinset (fun t => iprop(tok2 c t ∗ dstP (F := F) c t)) := by
  induction l with
  | nil => rfl
  | cons t l ih =>
    have hn := List.nodup_cons.mp hl
    rw [toks_cons, List.toFinset_cons, bigSep_insert (by rw [List.mem_toFinset]; exact hn.1), ih hn.2]
    have e : ∀ A B D R : sProp 𝕄, iprop((A ∗ B ∗ D) ∗ R) = iprop(((A ∗ B) ∗ D) ∗ R) := fun A B D R => by ac_rfl
    exact e _ _ _ _
/-- The rights to issue all copies. -/
theorem toks_all : toks (F := F) c (sl 0) = iprop(bigSep Finset.univ (tok2 c) ∗ bigSep Finset.univ (dstP c)) := by
  rw [toks_list c (sl 0) (by decide), show (sl 0).toFinset = Finset.univ by decide]
  exact bigSep_sep Finset.univ (tok2 c) (dstP c)

/-- The landing semaphores of the third axis, at the sender. -/
theorem rIx_out2 : ∀ (c : Dev nD) (t : Fin 28), 8 ≤ t.val → t.val < 14 → (rIx c t).val = 13 + (4 * (stm t + 2) + zc c) := by decide +kernel
/-- The same for the copies that hand out finished rows along the third axis. -/
theorem rIx_out3 : ∀ (c : Dev nD) (t : Fin 28), 14 ≤ t.val → t.val < 20 → (rIx c t).val = 29 + (4 * stm t + zc c) := by decide +kernel
/-- The same at the receiver. -/
theorem rIx_in2 : ∀ (c : Dev nD) (t : Fin 28), 8 ≤ t.val → t.val < 14 → (rIx (peer c t) t).val = 13 + (4 * (stm t + 2) + zx c (dz t)) := by decide +kernel
/-- The same at the receiver. -/
theorem rIx_in3 : ∀ (c : Dev nD) (t : Fin 28), 14 ≤ t.val → t.val < 20 → (rIx (peer c t) t).val = 29 + (4 * stm t + zx c (dz t)) := by decide +kernel

end Cert.Butterfly

end
-- ==== Proof.PartA.lean ====
/-
# The first exchange

The opening signals, the partial products, and the first exchange: parts 1 to 8 of the body.
-/
module

public import proofs.«01_k».proof.Proof.Run

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- Four of the opening signals. -/
theorem part1 {Q} : Env X K ⊢ iprop(Bar c [0, 1, 2, 3, 4]
      -∗ (∀ v2, ∀ v5, ∀ v6, ∀ v8, ∀ v10, ∀ v11, ∀ v12, ∀ v25, Bar c [4] -∗ Q ⟨c, v2, v5, v6, v8, v10, v11, v12, SemArray.scalar (sig.barrier 0 rfl), v25, 0#32⟩)
      -∗ run c (here (k0_part1 (F := F))) Q) := by
  iintro #HE HB Hk
  unfold run here
  rw [k0_part1_eq_skeleton]
  unfold k0_part1_skel
  simp only [semSignalWord, Prog.lift, Prog.bind_op, Prog.bind_ret, Prog.pure_eq_ret, wp_deviceId]
  iapply (op_signal X K c 0 [1, 2, 3, 4] (dev1 c)) $$ HE HB
  iintro HB
  iapply (op_signal X K c 1 [2, 3, 4] (dev2 c)) $$ HE HB
  iintro HB
  iapply (op_signal X K c 2 [3, 4] (dev3 c)) $$ HE HB
  iintro HB
  iapply (op_signal X K c 3 [4] (dev4 c)) $$ HE HB
  iintro HB
  rw [wp_ret]; imodintro
  iapply Hk
  iexact HB

/-- The last opening signal and the wait for all of them, then the first product. -/
theorem part2 (v5 v6 v8 v10 v25 z : BitVec 32) {Q} :
    Env X K ⊢ iprop(Bar c [4] -∗ atPos ER (bcell c) 0 ∅ 0 -∗ cred (tallyAt (bcell c) () 5) -∗ bigSep Finset.univ (tok2 c) -∗ rx c wl
      -∗ stA X c -∗ stB X c -∗ PE .acc c (srcRow c 0) (col 0) 512 256
      -∗ (∀ v28, ∀ v31, ∀ v33, ∀ v37, ∀ v40, ∀ v43, ∀ v45, ∀ v49, (St c 0 0 ∗ semVal (bcell c) 0 ∗ stA X c ∗ stB X c ∗ PE .acc c (srcRow c 0) (col 0) 512 256)
        -∗ Q ⟨v28, v31, v33, v37, v40, v43, v45, v49, k0_pay1 (tile ![512, 512] (srcRow c 0) 0 (conA (X.a c))) (tile ![512, 256] 0 (col 0) (conB (X.b c)))⟩)
      -∗ run c (here (k0_part2 (F := F)) c v5 v6 v8 v10 (SemArray.scalar (sig.barrier 0 rfl)) v25 z) Q) := by
  iintro #HE HB Hat Hcr Ht Hrx HA HBb H0 Hk
  unfold run here
  rw [k0_part2_eq_skeleton]
  unfold k0_part2_skel
  simp only [semSignalWord, semWaitWord, Prog.lift, Prog.bind_op, Prog.bind_ret, Prog.pure_eq_ret]
  iapply (op_signal X K c 4 [] (dev5 c)) $$ HE HB
  iintro HB
  iapply (op_bar X K c) $$ HE HB Hat Hcr
  iintro ⟨HO, Hz, Hd⟩
  iapply (op_loadA X c (srcRow c 0) 0 (off1 c)) $$ HA
  iintro HA
  iapply (op_loadB X c 0 (col 0) rfl) $$ HBb
  iintro HBb
  iapply (op_peek c .acc (srcRow c 0) (col 0) 512 256 (off2 c) rfl) $$ H0
  iintro %_ H0
  rw [wp_ret]; imodintro
  iapply Hk
  isplitl [HO Ht Hd Hrx]
  · unfold St
    isplitl [HO]; · iexact HO
    isplitl [Ht Hd]
    · rw [toks_all]; iframe Ht Hd
    isplitl [Hrx]; · iexact Hrx
    iempintro
  iframe Hz HA HBb H0

/-- The two products of the first stream to be sent, sent; operands of the third. -/
theorem part3 (v11 v12 v28 v40 : BitVec 32) {Q} :
    Env X K ⊢ iprop(St c 0 0 -∗ sc c 3 0 -∗ sc c 5 0 -∗ stA X c -∗ stB X c
      -∗ PE .acc c (srcRow c 0) (col 0) 512 256 -∗ PE .acc c (srcRow c 1) (col 1) 512 256
      -∗ ((St c 2 0 ∗ pend c 0 ∗ pend c 1 ∗ stA X c ∗ stB X c)
        -∗ Q ⟨k0_pay4 (tile ![512, 512] (srcRow c 2) 0 (conA (X.a c))), k0_pay5 (tile ![512, 256] 0 (col 2) (conB (X.b c))), constant S512x256 .f32 0x00000000#32⟩)
      -∗ run c (here (k0_part3 (F := F)) c v11 v12 v28 v40
          (k0_pay1 (tile ![512, 512] (srcRow c 0) 0 (conA (X.a c))) (tile ![512, 256] 0 (col 0) (conB (X.b c))))) Q) := by
  iintro #HE HSt Hs3 Hs5 HA HB H0 H1 Hk
  unfold run here
  rw [k0_part3_eq_skeleton]
  unfold k0_part3_skel
  simp only [Prog.lift, Prog.bind_op, Prog.bind_ret, Prog.pure_eq_ret]
  iapply (op_store c .acc (srcRow c 0) (col 0) 512 256 (acc0 X c) (off2 c) rfl (val_sent X c 0 (by decide))) $$ H0
  iintro H0
  iapply (op_send X K c 0 1 0 0 (off' := ![0, 0]) (sz := ![512, 256]) (r := 0) rfl .acc .rcv rfl rfl (off3 c) rfl rfl (dev6 c) (sem5 0 rfl _ rfl) (sem6 0 rfl _ rfl) (q := 3) rfl rfl (send0 X c 0 (by decide))) $$ HE HSt Hs3 H0
  iintro ⟨HSt, Hd0⟩
  iapply (op_loadA X c (srcRow c 1) 0 (off4 c)) $$ HA
  iintro HA
  iapply (op_loadB X c 0 (col 1) rfl) $$ HB
  iintro HB
  iapply (op_peek c .acc (srcRow c 1) (col 1) 512 256 (off5 c) rfl) $$ H1
  iintro %_ H1
  iapply (op_store c .acc (srcRow c 1) (col 1) 512 256 (acc0 X c) (off5 c) rfl (val_sent X c 1 (by decide))) $$ H1
  iintro H1
  iapply (op_send X K c 1 2 0 1 (off' := ![0, 512]) (sz := ![512, 256]) (r := 0) rfl .acc .rcv rfl rfl (off6 c) rfl rfl (dev7 c) (sem5 2 rfl _ rfl) (sem6 2 rfl _ rfl) (q := 5) rfl rfl (send0 X c 1 (by decide))) $$ HE HSt Hs5 H1
  iintro ⟨HSt, Hd1⟩
  iapply (op_loadA X c (srcRow c 2) 0 (off1 c)) $$ HA
  iintro HA
  iapply (op_loadB X c 0 (col 2) rfl) $$ HB
  iintro HB
  rw [wp_ret]; imodintro
  iapply Hk
  iframe HSt Hd0 Hd1 HA HB

/-- The other two products to be sent, sent. -/
theorem part4 (v11 v12 v28 v31 v40 : BitVec 32) {Q} :
    Env X K ⊢ iprop(St c 2 0 -∗ sc c 4 0 -∗ sc c 6 0 -∗ stA X c -∗ stB X c
      -∗ PE .acc c (srcRow c 2) (col 2) 512 256 -∗ PE .acc c (srcRow c 3) (col 3) 512 256
      -∗ ((St c 4 0 ∗ pend c 2 ∗ pend c 3 ∗ stA X c ∗ stB X c) -∗ Q (tile ![512, 512] (k1 c 0) 0 (conA (X.a c))))
      -∗ run c (here (k0_part4 (F := F)) c v11 v12 v28 v31 v40
          (k0_pay4 (tile ![512, 512] (srcRow c 2) 0 (conA (X.a c)))) (k0_pay5 (tile ![512, 256] 0 (col 2) (conB (X.b c)))) (constant S512x256 .f32 0x00000000#32)) Q) := by
  iintro #HE HSt Hs4 Hs6 HA HB H2 H3 Hk
  unfold run here
  rw [k0_part4_eq_skeleton]
  unfold k0_part4_skel
  simp only [Prog.lift, Prog.bind_op, Prog.bind_ret, Prog.pure_eq_ret]
  iapply (op_peek c .acc (srcRow c 2) (col 2) 512 256 (off7 c) rfl) $$ H2
  iintro %_ H2
  iapply (op_store c .acc (srcRow c 2) (col 2) 512 256 (acc0 X c) (off7 c) rfl (val_sent X c 2 (by decide))) $$ H2
  iintro H2
  iapply (op_send X K c 2 3 0 2 (off' := ![0, 256]) (sz := ![512, 256]) (r := 0) rfl .acc .rcv rfl rfl (off8 c) rfl rfl (dev8 c) (sem5 1 rfl _ rfl) (sem6 1 rfl _ rfl) (q := 4) rfl rfl (send0 X c 2 (by decide))) $$ HE HSt Hs4 H2
  iintro ⟨HSt, Hd2⟩
  iapply (op_loadA X c (srcRow c 3) 0 (off4 c)) $$ HA
  iintro HA
  iapply (op_loadB X c 0 (col 3) rfl) $$ HB
  iintro HB
  iapply (op_peek c .acc (srcRow c 3) (col 3) 512 256 (off9 c) rfl) $$ H3
  iintro %_ H3
  iapply (op_store c .acc (srcRow c 3) (col 3) 512 256 (acc0 X c) (off9 c) rfl (val_sent X c 3 (by decide))) $$ H3
  iintro H3
  iapply (op_send X K c 3 4 0 3 (off' := ![0, 768]) (sz := ![512, 256]) (r := 0) rfl .acc .rcv rfl rfl (off10 c) rfl rfl (dev9 c) (sem5 3 rfl _ rfl) (sem6 3 rfl _ rfl) (q := 6) rfl rfl (send0 X c 3 (by decide))) $$ HE HSt Hs6 H3
  iintro ⟨HSt, Hd3⟩
  iapply (op_loadA X c (k1 c 0) 0 (off11 c)) $$ HA
  iintro HA
  rw [wp_ret]; imodintro
  iapply Hk
  iframe HSt Hd2 Hd3 HA HB

/-- The products kept; the first piece of the exchange has arrived. -/
theorem part5 (v11 v31 v43 : BitVec 32) {Q} :
    Env X K ⊢ iprop(St c 4 0 -∗ pend c 0 -∗ stA X c -∗ stB X c -∗ PE .acc c (k1 c 0) 0 512 512 -∗ PE .acc c (k1 c 1) 512 512 512
      -∗ ((St c 4 1 ∗ sc c 3 1 ∗ stA X c ∗ stB X c
          ∗ P .acc c (srcRow c 0) (col 0) 512 256 fullShare (acc0 X c) ∗ P .rcv c 0 (col 0) 512 256 fullShare (recvG X (peer c 0) 0)
          ∗ P .acc c (addRow c 0) (col 0) 512 256 fullShare (acc0 X c) ∗ P .acc c (addRow c 2) (col 2) 512 256 fullShare (acc0 X c)
          ∗ P .acc c (addRow c 1) (col 1) 512 256 fullShare (acc0 X c) ∗ P .acc c (addRow c 3) (col 3) 512 256 fullShare (acc0 X c))
        -∗ Q (tile ![512, 256] (addRow c 0) (col 0) (acc0 X c)))
      -∗ run c (here (k0_part5 (F := F)) c v11 v31 v43 (tile ![512, 512] (k1 c 0) 0 (conA (X.a c)))) Q) := by
  iintro #HE HSt Hd0 HA HB H0 H1 Hk
  unfold run here
  rw [k0_part5_eq_skeleton]
  unfold k0_part5_skel
  simp only [Prog.lift, Prog.bind_op, Prog.bind_ret, Prog.pure_eq_ret]
  iapply (op_loadB X c 0 0 rfl) $$ HB
  iintro HB
  iapply (op_peek c .acc (k1 c 0) 0 512 512 (off12 c) rfl) $$ H0
  iintro %_ H0
  iapply (op_store c .acc (k1 c 0) 0 512 512 (acc0 X c) (off12 c) rfl (val_kept X c 0)) $$ H0
  iintro H0
  iapply (op_loadA X c (k1 c 1) 0 (off13 c)) $$ HA
  iintro HA
  iapply (op_loadB X c 0 512 rfl) $$ HB
  iintro HB
  iapply (op_peek c .acc (k1 c 1) 512 512 512 (off14 c) rfl) $$ H1
  iintro %_ H1
  iapply (op_store c .acc (k1 c 1) 512 512 512 (acc0 X c) (off14 c) rfl (val_kept X c 1)) $$ H1
  iintro H1
  iapply (op_left X K c 4 0 0 (q := 3) (r := 1) rfl rfl (sem5 0 rfl _ rfl) rfl (send0 X c 0 (by decide))) $$ HE HSt Hd0
  iintro ⟨HSt, Hs3, Hb0⟩
  iapply (op_recv X K c 4 0 1 0 rfl rfl (by decide) (sem6 0 rfl _ rfl) rfl (recv0 X c 0 (by decide))) $$ HE HSt
  iintro ⟨HSt, Hr0⟩
  ihave H0 := (Entails.of_eq (show P .acc c (k1 c 0) 0 512 512 fullShare (acc0 X c)
    = iprop(P .acc c (addRow c 0) (col 0) 512 256 fullShare (acc0 X c) ∗ P .acc c (addRow c 2) (col 2) 512 256 fullShare (acc0 X c)) from kept_cols c 0 _)) $$ H0
  icases H0 with ⟨H0, H2⟩
  ihave H1 := (Entails.of_eq (show P .acc c (k1 c 1) 512 512 512 fullShare (acc0 X c)
    = iprop(P .acc c (addRow c 1) (col 1) 512 256 fullShare (acc0 X c) ∗ P .acc c (addRow c 3) (col 3) 512 256 fullShare (acc0 X c)) from kept_cols c 1 _)) $$ H1
  icases H1 with ⟨H1, H3⟩
  iapply (op_load c .acc (addRow c 0) (col 0) 512 256 (off15 c) rfl) $$ H0
  iintro H0
  rw [wp_ret]; imodintro
  iapply Hk
  iframe HSt Hs3 HA HB Hb0 Hr0 H0 H2 H1 H3

end Cert.Butterfly

end
-- ==== Proof.PartB.lean ====
/-
# The second exchange

The first sums, and the second exchange of the first stream: parts 6 to 10 of the body.
-/
module

public import proofs.«01_k».proof.Proof.PartA

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- The first sum, sent on as far as it is not kept; operands of the second. -/
theorem part6 (v12 v31 v43 : BitVec 32) {Q} :
    Env X K ⊢ iprop(St c 4 1 -∗ sc c 3 1 -∗ pend c 1
      -∗ P .acc c (addRow c 0) (col 0) 512 256 fullShare (acc0 X c) -∗ P .rcv c 0 (col 0) 512 256 fullShare (recvG X (peer c 0) 0)
      -∗ P .acc c (addRow c 1) (col 1) 512 256 fullShare (acc0 X c)
      -∗ ((St c 5 2 ∗ pend c 4 ∗ sc c 5 1
          ∗ P .acc c (srcRow c 1) (col 1) 512 256 fullShare (acc0 X c) ∗ P .rcv c 0 (col 0) 512 256 fullShare (recvG X (peer c 0) 0)
          ∗ P .rcv c 0 (col 1) 512 256 fullShare (recvG X (peer c 1) 1)
          ∗ P .acc c (addRow c 1) (col 1) 512 256 fullShare (acc0 X c) ∗ P .acc c (addRow c 4) (col 4) 256 256 fullShare (acc1 X c))
        -∗ Q ⟨k0_pay11 (tile ![512, 256] (addRow c 1) (col 1) (acc0 X c)) (tile ![512, 256] 0 (col 1) (recvG X (peer c 1) 1)), tile ![512, 256] (addRow c 1) (col 1) (acc0 X c)⟩)
      -∗ run c (here (k0_part6 (F := F)) c v12 v31 v43 (tile ![512, 256] (addRow c 0) (col 0) (acc0 X c))) Q) := by
  iintro #HE HSt Hs3 Hd1 H0 Hr0 H1 Hk
  unfold run here
  rw [k0_part6_eq_skeleton]
  unfold k0_part6_skel
  simp only [Prog.lift, Prog.bind_op, Prog.bind_ret, Prog.pure_eq_ret]
  iapply (op_load c .rcv 0 (col 0) 512 256 rfl rfl) $$ Hr0
  iintro Hr0
  iapply (op_load c .acc (addRow c 0) (col 0) 512 256 (off15 c) rfl) $$ H0
  iintro H0
  iapply (op_restore c .acc (addRow c 0) (col 0) 512 256 (acc0 X c) (acc1 X c) (off15 c) rfl (val1 X c 0 (by decide))) $$ H0
  iintro H0
  ihave H0 := (Entails.of_eq (half_pieces c 0 4 (by decide) rfl (acc1 X c))) $$ H0
  icases H0 with ⟨H0, H4⟩
  iapply (op_send X K c 4 5 1 4 (off' := ![512, 0]) (sz := ![256, 256]) (r := 1) rfl .acc .rcv rfl rfl (off16 c) rfl rfl (dev10 c) (sem5 0 rfl _ rfl) (sem6 4 rfl _ rfl) (q := 3) rfl rfl (send1 X c 4 (by decide) (by decide))) $$ HE HSt Hs3 H4
  iintro ⟨HSt, Hd4⟩
  iapply (op_left X K c 5 1 1 (q := 5) (r := 1) rfl rfl (sem5 2 rfl _ rfl) rfl (send0 X c 1 (by decide))) $$ HE HSt Hd1
  iintro ⟨HSt, Hs5, Hb1⟩
  iapply (op_recv X K c 5 1 2 1 rfl rfl (by decide) (sem6 2 rfl _ rfl) rfl (recv0 X c 1 (by decide))) $$ HE HSt
  iintro ⟨HSt, Hr1⟩
  iapply (op_load c .acc (addRow c 1) (col 1) 512 256 (off17 c) rfl) $$ H1
  iintro H1
  iapply (op_load c .rcv 0 (col 1) 512 256 rfl rfl) $$ Hr1
  iintro Hr1
  iapply (op_load c .acc (addRow c 1) (col 1) 512 256 (off17 c) rfl) $$ H1
  iintro H1
  rw [wp_ret]; imodintro
  iapply Hk
  iframe HSt Hd4 Hs5 Hb1 Hr0 Hr1 H1 H0

/-- The second sum, sent on, and the third. -/
theorem part7 (v11 v31 : BitVec 32) (w : Vec F S512x256 .bf16) {Q} :
    Env X K ⊢ iprop(St c 5 2 -∗ sc c 5 1 -∗ pend c 2
      -∗ P .acc c (addRow c 1) (col 1) 512 256 fullShare (acc0 X c) -∗ P .acc c (addRow c 2) (col 2) 512 256 fullShare (acc0 X c)
      -∗ (∀ v, (St c 6 3 ∗ pend c 5 ∗ sc c 4 1
          ∗ P .acc c (srcRow c 2) (col 2) 512 256 fullShare (acc0 X c) ∗ P .rcv c 0 (col 2) 512 256 fullShare (recvG X (peer c 2) 2)
          ∗ P .acc c (addRow c 5) (col 5) 256 256 fullShare (acc1 X c)
          ∗ P .acc c (addRow c 6) (col 6) 256 256 fullShare (acc1 X c) ∗ P .acc c (srcRow c 6) (col 6) 256 256 fullShare (acc1 X c)) -∗ Q v)
      -∗ run c (here (k0_part7 (F := F)) c v11 v31
          (k0_pay11 (tile ![512, 256] (addRow c 1) (col 1) (acc0 X c)) (tile ![512, 256] 0 (col 1) (recvG X (peer c 1) 1))) w) Q) := by
  iintro #HE HSt Hs5 Hd2 H1 H2 Hk
  unfold run here
  rw [k0_part7_eq_skeleton]
  unfold k0_part7_skel
  simp only [Prog.lift, Prog.bind_op, Prog.bind_ret, Prog.pure_eq_ret]
  iapply (op_restore c .acc (addRow c 1) (col 1) 512 256 (acc0 X c) (acc1 X c) (off17 c) rfl (val1 X c 1 (by decide))) $$ H1
  iintro H1
  ihave H1 := (Entails.of_eq (half_pieces c 1 5 (by decide) rfl (acc1 X c))) $$ H1
  icases H1 with ⟨H1, H5⟩
  iapply (op_send X K c 5 6 2 5 (off' := ![512, 512]) (sz := ![256, 256]) (r := 1) rfl .acc .rcv rfl rfl (off18 c) rfl rfl (dev11 c) (sem5 2 rfl _ rfl) (sem6 6 rfl _ rfl) (q := 5) rfl rfl (send1 X c 5 (by decide) (by decide))) $$ HE HSt Hs5 H5
  iintro ⟨HSt, Hd5⟩
  iapply (op_left X K c 6 2 2 (q := 4) (r := 1) rfl rfl (sem5 1 rfl _ rfl) rfl (send0 X c 2 (by decide))) $$ HE HSt Hd2
  iintro ⟨HSt, Hs4, Hb2⟩
  iapply (op_recv X K c 6 2 3 2 rfl rfl (by decide) (sem6 1 rfl _ rfl) rfl (recv0 X c 2 (by decide))) $$ HE HSt
  iintro ⟨HSt, Hr2⟩
  iapply (op_load c .acc (addRow c 2) (col 2) 512 256 (off19 c) rfl) $$ H2
  iintro H2
  iapply (op_load c .rcv 0 (col 2) 512 256 rfl rfl) $$ Hr2
  iintro Hr2
  iapply (op_load c .acc (addRow c 2) (col 2) 512 256 (off19 c) rfl) $$ H2
  iintro H2
  iapply (op_restore c .acc (addRow c 2) (col 2) 512 256 (acc0 X c) (acc1 X c) (off19 c) rfl (val1 X c 2 (by decide))) $$ H2
  iintro H2
  ihave H2 := (Entails.of_eq (half_pieces c 2 6 (by decide) rfl (acc1 X c))) $$ H2
  icases H2 with ⟨H2, H6⟩
  rw [wp_ret]; imodintro
  iapply Hk
  iframe HSt Hd5 Hs4 Hb2 Hr2 H1 H2 H6

/-- The third sum sent on, and the fourth. -/
theorem part8 (v11 v12 v43 z : BitVec 32) {Q} :
    Env X K ⊢ iprop(St c 6 3 -∗ sc c 4 1 -∗ pend c 3
      -∗ P .acc c (srcRow c 6) (col 6) 256 256 fullShare (acc1 X c) -∗ P .acc c (addRow c 3) (col 3) 512 256 fullShare (acc0 X c)
      -∗ ((St c 7 4 ∗ pend c 6 ∗ sc c 6 1
          ∗ P .acc c (srcRow c 3) (col 3) 512 256 fullShare (acc0 X c) ∗ P .rcv c 0 (col 3) 512 256 fullShare (recvG X (peer c 3) 3)
          ∗ P .acc c (addRow c 7) (col 7) 256 256 fullShare (acc1 X c) ∗ P .acc c (srcRow c 7) (col 7) 256 256 fullShare (acc1 X c)) -∗ Q ⟨⟩)
      -∗ run c (here (k0_part8 (F := F)) c v11 v12 v43 z) Q) := by
  iintro #HE HSt Hs4 Hd3 H6 H3 Hk
  unfold run here
  rw [k0_part8_eq_skeleton]
  unfold k0_part8_skel
  simp only [Prog.lift, Prog.bind_op, Prog.bind_ret, Prog.pure_eq_ret]
  iapply (op_send X K c 6 7 3 6 (off' := ![512, 256]) (sz := ![256, 256]) (r := 1) rfl .acc .rcv rfl rfl (off20 c) rfl rfl (dev12 c) (sem5 1 rfl _ rfl) (sem6 5 rfl _ rfl) (q := 4) rfl rfl (send1 X c 6 (by decide) (by decide))) $$ HE HSt Hs4 H6
  iintro ⟨HSt, Hd6⟩
  iapply (op_left X K c 7 3 3 (q := 6) (r := 1) rfl rfl (sem5 3 rfl _ rfl) rfl (send0 X c 3 (by decide))) $$ HE HSt Hd3
  iintro ⟨HSt, Hs6, Hb3⟩
  iapply (op_recv X K c 7 3 4 3 rfl rfl (by decide) (sem6 3 rfl _ rfl) rfl (recv0 X c 3 (by decide))) $$ HE HSt
  iintro ⟨HSt, Hr3⟩
  iapply (op_load c .acc (addRow c 3) (col 3) 512 256 (off21 c) rfl) $$ H3
  iintro H3
  iapply (op_load c .rcv 0 (col 3) 512 256 rfl rfl) $$ Hr3
  iintro Hr3
  iapply (op_load c .acc (addRow c 3) (col 3) 512 256 (off21 c) rfl) $$ H3
  iintro H3
  iapply (op_restore c .acc (addRow c 3) (col 3) 512 256 (acc0 X c) (acc1 X c) (off21 c) rfl (val1 X c 3 (by decide))) $$ H3
  iintro H3
  ihave H3 := (Entails.of_eq (half_pieces c 3 7 (by decide) rfl (acc1 X c))) $$ H3
  icases H3 with ⟨H3, H7⟩
  rw [wp_ret]; imodintro
  iapply Hk
  iframe HSt Hd6 Hs6 Hb3 Hr3 H3 H7

/-- The fourth sum sent on; the first piece of the second exchange has arrived and is added. -/
theorem part9 (v2 v12 v33 : BitVec 32) {Q} :
    Env X K ⊢ iprop(St c 7 4 -∗ sc c 6 1 -∗ pend c 4 -∗ pend c 6
      -∗ P .acc c (srcRow c 7) (col 7) 256 256 fullShare (acc1 X c) -∗ P .acc c (addRow c 4) (col 4) 256 256 fullShare (acc1 X c)
      -∗ (∀ v, (St c 8 5 ∗ pend c 7 ∗ sc c 3 2 ∗ sc c 4 2
          ∗ P .acc c (srcRow c 4) (col 4) 256 256 fullShare (acc1 X c) ∗ P .rcv c 512 (col 4) 256 256 fullShare (recvG X (peer c 4) 4)
          ∗ P .acc c (srcRow c 6) (col 6) 256 256 fullShare (acc1 X c)
          ∗ P .acc c (addRow c 4) (col 4) 256 256 fullShare (acc2 X c)) -∗ Q v)
      -∗ run c (here (k0_part9 (F := F)) c v2 v12 v33) Q) := by
  iintro #HE HSt Hs6 Hd4 Hd6 H7 H4 Hk
  unfold run here
  rw [k0_part9_eq_skeleton]
  unfold k0_part9_skel
  simp only [Prog.lift, Prog.bind_op, Prog.bind_ret, Prog.pure_eq_ret]
  iapply (op_send X K c 7 8 4 7 (off' := ![512, 768]) (sz := ![256, 256]) (r := 1) rfl .acc .rcv rfl rfl (off22 c) rfl rfl (dev13 c) (sem5 3 rfl _ rfl) (sem6 7 rfl _ rfl) (q := 6) rfl rfl (send1 X c 7 (by decide) (by decide))) $$ HE HSt Hs6 H7
  iintro ⟨HSt, Hd7⟩
  iapply (op_left X K c 8 4 4 (q := 3) (r := 2) rfl rfl (sem5 0 rfl _ rfl) rfl (send1 X c 4 (by decide) (by decide))) $$ HE HSt Hd4
  iintro ⟨HSt, Hs3, Hb4⟩
  iapply (op_recv X K c 8 4 5 4 rfl rfl (by decide) (sem6 4 rfl _ rfl) rfl (recv1 X c 4 (by decide) (by decide))) $$ HE HSt
  iintro ⟨HSt, Hr4⟩
  iapply (op_load c .acc (addRow c 4) (col 4) 256 256 (off23 c) rfl) $$ H4
  iintro H4
  iapply (op_load c .rcv 512 (col 4) 256 256 rfl rfl) $$ Hr4
  iintro Hr4
  iapply (op_load c .acc (addRow c 4) (col 4) 256 256 (off23 c) rfl) $$ H4
  iintro H4
  iapply (op_restore c .acc (addRow c 4) (col 4) 256 256 (acc1 X c) (acc2 X c) (off23 c) rfl (val2 X c 4 (by decide) (by decide))) $$ H4
  iintro H4
  iapply (op_left X K c 8 5 6 (q := 4) (r := 2) rfl rfl (sem5 1 rfl _ rfl) rfl (send1 X c 6 (by decide) (by decide))) $$ HE HSt Hd6
  iintro ⟨HSt, Hs4, Hb6⟩
  rw [wp_ret]; imodintro
  iapply Hk
  iframe HSt Hd7 Hs3 Hs4 Hb4 Hr4 Hb6 H4

/-- The second exchange of the first stream is done; its quarter in strips. -/
theorem part10 (v2 v12 v33 v254 : BitVec 32) {Q} :
    Env X K ⊢ iprop(St c 8 5
      -∗ P .acc c (addRow c 4) (col 4) 256 256 fullShare (acc2 X c) -∗ P .acc c (addRow c 6) (col 6) 256 256 fullShare (acc1 X c)
      -∗ ((St c 8 6 ∗ P .rcv c 512 (col 6) 256 256 fullShare (recvG X (peer c 6) 6)
          ∗ P .acc c (k4 c 0) 0 64 512 fullShare (acc2 X c) ∗ P .acc c (srcRow c 8) (col 8) 64 512 fullShare (acc2 X c)
          ∗ P .acc c (srcRow c 9) (col 9) 64 512 fullShare (acc2 X c) ∗ P .acc c (srcRow c 10) (col 10) 64 512 fullShare (acc2 X c)) -∗ Q ⟨⟩)
      -∗ run c (here (k0_part10 (F := F)) c v2 v12 v33 v254) Q) := by
  iintro #HE HSt H4 H6 Hk
  unfold run here
  rw [k0_part10_eq_skeleton]
  unfold k0_part10_skel
  simp only [Prog.lift, Prog.bind_op, Prog.bind_ret, Prog.pure_eq_ret]
  iapply (op_recv X K c 8 5 6 6 rfl rfl (by decide) (sem6 5 rfl _ rfl) rfl (recv1 X c 6 (by decide) (by decide))) $$ HE HSt
  iintro ⟨HSt, Hr6⟩
  iapply (op_load c .acc (addRow c 6) (col 6) 256 256 (off24 c) rfl) $$ H6
  iintro H6
  iapply (op_load c .rcv 512 (col 6) 256 256 rfl rfl) $$ Hr6
  iintro Hr6
  iapply (op_load c .acc (addRow c 6) (col 6) 256 256 (off24 c) rfl) $$ H6
  iintro H6
  iapply (op_restore c .acc (addRow c 6) (col 6) 256 256 (acc1 X c) (acc2 X c) (off24 c) rfl (val2 X c 6 (by decide) (by decide))) $$ H6
  iintro H6
  ihave H := (Entails.of_eq (show iprop(P .acc c (addRow c 4) (col 4) 256 256 fullShare (acc2 X c) ∗ P .acc c (addRow c 6) (col 6) 256 256 fullShare (acc2 X c))
    = iprop(P .acc c (k4 c 0) 0 64 512 fullShare (acc2 X c) ∗ P .acc c (srcRow c 8) (col 8) 64 512 fullShare (acc2 X c)
          ∗ P .acc c (srcRow c 9) (col 9) 64 512 fullShare (acc2 X c) ∗ P .acc c (srcRow c 10) (col 10) 64 512 fullShare (acc2 X c))
    from quarter_strips c 0 0 (acc2 X c))) $$ [H4 H6]
  · iframe H4 H6
  rw [wp_ret]; imodintro
  iapply Hk
  iframe HSt Hr6 H

end Cert.Butterfly

end
-- ==== Proof.PartC.lean ====
/-
# The third exchange

The strips go out along the third axis, while the second exchange of the other stream finishes: parts 11
to 15 of the body.
-/
module

public import proofs.«01_k».proof.Proof.PartB

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- Two strips of the first stream go out. -/
theorem part11 (v2 v33 v254 : BitVec 32) {Q} :
    Env X K ⊢ iprop(St c 8 6 -∗ sc c 7 0 -∗ sc c 8 0
      -∗ P .acc c (srcRow c 8) (col 8) 64 512 fullShare (acc2 X c) -∗ P .acc c (srcRow c 9) (col 9) 64 512 fullShare (acc2 X c)
      -∗ (∀ v, (St c 10 6 ∗ pend c 8 ∗ pend c 9) -∗ Q v)
      -∗ run c (here (k0_part11 (F := F)) c v2 v33 v254) Q) := by
  iintro #HE HSt Hs7 Hs8 H8 H9 Hk
  unfold run here
  rw [k0_part11_eq_skeleton]
  unfold k0_part11_skel
  simp only [Prog.lift, Prog.bind_op, Prog.bind_ret, Prog.pure_eq_ret]
  iapply (op_send X K c 8 9 6 8 (sz := ![64, 512]) (r := 0) rfl .acc .rcv rfl rfl (show k0_off27 c 1#32 = _ from off27 c 0) (off26 c) rfl (dev14 c) (sem5 4 rfl _ rfl)
    (sem6 (4 * 2 + zc c) (show k0_off25 c 8#32 = _ from off25 c 2) _ (rIx_out2 c 8 (by decide) (by decide))) (q := 7) rfl rfl (send2 X c 8 (by decide) (by decide))) $$ HE HSt Hs7 H8
  iintro ⟨HSt, Hd8⟩
  iapply (op_send X K c 9 10 6 9 (sz := ![64, 512]) (r := 0) rfl .acc .rcv rfl rfl (show k0_off27 c 2#32 = _ from off27 c 1) (off26 c) rfl (dev15 c) (sem5 5 rfl _ rfl)
    (sem6 (4 * 2 + zc c) (show k0_off25 c 8#32 = _ from off25 c 2) _ (rIx_out2 c 9 (by decide) (by decide))) (q := 8) rfl rfl (send2 X c 9 (by decide) (by decide))) $$ HE HSt Hs8 H9
  iintro ⟨HSt, Hd9⟩
  rw [wp_ret]; imodintro
  iapply Hk
  iframe HSt Hd8 Hd9

/-- The third strip goes out; operands of a sum of the second exchange. -/
theorem part12 (v2 v11 v45 v254 v335 z : BitVec 32) {Q} :
    Env X K ⊢ iprop(St c 10 6 -∗ sc c 9 0 -∗ pend c 5
      -∗ P .acc c (srcRow c 10) (col 10) 64 512 fullShare (acc2 X c) -∗ P .acc c (addRow c 5) (col 5) 256 256 fullShare (acc1 X c)
      -∗ ((St c 11 7 ∗ pend c 10 ∗ sc c 5 2
          ∗ P .acc c (srcRow c 5) (col 5) 256 256 fullShare (acc1 X c) ∗ P .rcv c 512 (col 5) 256 256 fullShare (recvG X (peer c 5) 5)
          ∗ P .acc c (addRow c 5) (col 5) 256 256 fullShare (acc1 X c))
        -∗ Q (k0_pay17 (tile ![256, 256] (addRow c 5) (col 5) (acc1 X c)) (tile ![256, 256] 512 (col 5) (recvG X (peer c 5) 5))))
      -∗ run c (here (k0_part12 (F := F)) c v2 v11 v45 v254 v335 z) Q) := by
  iintro #HE HSt Hs9 Hd5 H10 H5 Hk
  unfold run here
  rw [k0_part12_eq_skeleton]
  unfold k0_part12_skel
  simp only [Prog.lift, Prog.bind_op, Prog.bind_ret, Prog.pure_eq_ret]
  iapply (op_send X K c 10 11 6 10 (sz := ![64, 512]) (r := 0) rfl .acc .rcv rfl rfl (show k0_off27 c 3#32 = _ from off27 c 2) (off26 c) rfl (dev16 c) (sem5 6 rfl _ rfl)
    (sem6 (4 * 2 + zc c) (show k0_off25 c 8#32 = _ from off25 c 2) _ (rIx_out2 c 10 (by decide) (by decide))) (q := 9) rfl rfl (send2 X c 10 (by decide) (by decide))) $$ HE HSt Hs9 H10
  iintro ⟨HSt, Hd10⟩
  iapply (op_left X K c 11 6 5 (q := 5) (r := 2) rfl rfl (sem5 2 rfl _ rfl) rfl (send1 X c 5 (by decide) (by decide))) $$ HE HSt Hd5
  iintro ⟨HSt, Hs5, Hb5⟩
  iapply (op_recv X K c 11 6 7 5 rfl rfl (by decide) (sem6 6 rfl _ rfl) rfl (recv1 X c 5 (by decide) (by decide))) $$ HE HSt
  iintro ⟨HSt, Hr5⟩
  iapply (op_load c .acc (addRow c 5) (col 5) 256 256 (off28 c) rfl) $$ H5
  iintro H5
  iapply (op_load c .rcv 512 (col 5) 256 256 rfl rfl) $$ Hr5
  iintro Hr5
  iapply (op_load c .acc (addRow c 5) (col 5) 256 256 (off28 c) rfl) $$ H5
  iintro H5
  rw [wp_ret]; imodintro
  iapply Hk
  iframe HSt Hd10 Hs5 Hb5 Hr5 H5

/-- The second exchange of the second stream is done; its quarter in strips. -/
theorem part13 (v11 v45 v254 : BitVec 32) {Q} :
    Env X K ⊢ iprop(St c 11 7 -∗ pend c 7
      -∗ P .acc c (addRow c 5) (col 5) 256 256 fullShare (acc1 X c) -∗ P .acc c (addRow c 7) (col 7) 256 256 fullShare (acc1 X c)
      -∗ (∀ v, (St c 11 8 ∗ sc c 6 2
          ∗ P .acc c (srcRow c 7) (col 7) 256 256 fullShare (acc1 X c) ∗ P .rcv c 512 (col 7) 256 256 fullShare (recvG X (peer c 7) 7)
          ∗ P .acc c (k4 c 1) 512 64 512 fullShare (acc2 X c) ∗ P .acc c (srcRow c 11) (col 11) 64 512 fullShare (acc2 X c)
          ∗ P .acc c (srcRow c 12) (col 12) 64 512 fullShare (acc2 X c) ∗ P .acc c (srcRow c 13) (col 13) 64 512 fullShare (acc2 X c)) -∗ Q v)
      -∗ run c (here (k0_part13 (F := F)) c v11 v45 v254
          (k0_pay17 (tile ![256, 256] (addRow c 5) (col 5) (acc1 X c)) (tile ![256, 256] 512 (col 5) (recvG X (peer c 5) 5)))) Q) := by
  iintro #HE HSt Hd7 H5 H7 Hk
  unfold run here
  rw [k0_part13_eq_skeleton]
  unfold k0_part13_skel
  simp only [Prog.lift, Prog.bind_op, Prog.bind_ret, Prog.pure_eq_ret]
  iapply (op_restore c .acc (addRow c 5) (col 5) 256 256 (acc1 X c) (acc2 X c) (off28 c) rfl (val2 X c 5 (by decide) (by decide))) $$ H5
  iintro H5
  iapply (op_left X K c 11 7 7 (q := 6) (r := 2) rfl rfl (sem5 3 rfl _ rfl) rfl (send1 X c 7 (by decide) (by decide))) $$ HE HSt Hd7
  iintro ⟨HSt, Hs6, Hb7⟩
  iapply (op_recv X K c 11 7 8 7 rfl rfl (by decide) (sem6 7 rfl _ rfl) rfl (recv1 X c 7 (by decide) (by decide))) $$ HE HSt
  iintro ⟨HSt, Hr7⟩
  iapply (op_load c .acc (addRow c 7) (col 7) 256 256 (off29 c) rfl) $$ H7
  iintro H7
  iapply (op_load c .rcv 512 (col 7) 256 256 rfl rfl) $$ Hr7
  iintro Hr7
  iapply (op_load c .acc (addRow c 7) (col 7) 256 256 (off29 c) rfl) $$ H7
  iintro H7
  iapply (op_restore c .acc (addRow c 7) (col 7) 256 256 (acc1 X c) (acc2 X c) (off29 c) rfl (val2 X c 7 (by decide) (by decide))) $$ H7
  iintro H7
  ihave H := (Entails.of_eq (show iprop(P .acc c (addRow c 5) (col 5) 256 256 fullShare (acc2 X c) ∗ P .acc c (addRow c 7) (col 7) 256 256 fullShare (acc2 X c))
    = iprop(P .acc c (k4 c 1) 512 64 512 fullShare (acc2 X c) ∗ P .acc c (srcRow c 11) (col 11) 64 512 fullShare (acc2 X c)
          ∗ P .acc c (srcRow c 12) (col 12) 64 512 fullShare (acc2 X c) ∗ P .acc c (srcRow c 13) (col 13) 64 512 fullShare (acc2 X c))
    from quarter_strips c 1 512 (acc2 X c))) $$ [H5 H7]
  · iframe H5 H7
  rw [wp_ret]; imodintro
  iapply Hk
  iframe HSt Hs6 Hb7 Hr7 H

/-- Two strips of the second stream go out. -/
theorem part14 (v2 v45 v254 v393 : BitVec 32) {Q} :
    Env X K ⊢ iprop(St c 11 8 -∗ sc c 10 0 -∗ sc c 11 0
      -∗ P .acc c (srcRow c 11) (col 11) 64 512 fullShare (acc2 X c) -∗ P .acc c (srcRow c 12) (col 12) 64 512 fullShare (acc2 X c)
      -∗ (∀ v, (St c 13 8 ∗ pend c 11 ∗ pend c 12) -∗ Q v)
      -∗ run c (here (k0_part14 (F := F)) c v2 v45 v254 v393) Q) := by
  iintro #HE HSt Hs10 Hs11 H11 H12 Hk
  unfold run here
  rw [k0_part14_eq_skeleton]
  unfold k0_part14_skel
  simp only [Prog.lift, Prog.bind_op, Prog.bind_ret, Prog.pure_eq_ret]
  iapply (op_send X K c 11 12 8 11 (sz := ![64, 512]) (r := 0) rfl .acc .rcv rfl rfl (show k0_off31 c 1#32 = _ from off31 c 0) (off30 c) rfl (dev17 c) (sem5 7 rfl _ rfl)
    (sem6 (4 * 3 + zc c) (show k0_off25 c 12#32 = _ from off25 c 3) _ (rIx_out2 c 11 (by decide) (by decide))) (q := 10) rfl rfl (send2 X c 11 (by decide) (by decide))) $$ HE HSt Hs10 H11
  iintro ⟨HSt, Hd11⟩
  iapply (op_send X K c 12 13 8 12 (sz := ![64, 512]) (r := 0) rfl .acc .rcv rfl rfl (show k0_off31 c 2#32 = _ from off31 c 1) (off30 c) rfl (dev18 c) (sem5 8 rfl _ rfl)
    (sem6 (4 * 3 + zc c) (show k0_off25 c 12#32 = _ from off25 c 3) _ (rIx_out2 c 12 (by decide) (by decide))) (q := 11) rfl rfl (send2 X c 12 (by decide) (by decide))) $$ HE HSt Hs11 H12
  iintro ⟨HSt, Hd12⟩
  rw [wp_ret]; imodintro
  iapply Hk
  iframe HSt Hd11 Hd12

/-- The last strip of the second stream goes out. -/
theorem part15 (v2 v45 v254 v437 : BitVec 32) {Q} :
    Env X K ⊢ iprop(St c 13 8 -∗ sc c 12 0 -∗ P .acc c (srcRow c 13) (col 13) 64 512 fullShare (acc2 X c)
      -∗ ((St c 14 8 ∗ pend c 13) -∗ Q ⟨⟩)
      -∗ run c (here (k0_part15 (F := F)) c v2 v45 v254 v437) Q) := by
  iintro #HE HSt Hs12 H13 Hk
  unfold run here
  rw [k0_part15_eq_skeleton]
  unfold k0_part15_skel
  simp only [Prog.lift, Prog.bind_op, Prog.bind_ret, Prog.pure_eq_ret]
  iapply (op_send X K c 13 14 8 13 (sz := ![64, 512]) (r := 0) rfl .acc .rcv rfl rfl (show k0_off31 c 3#32 = _ from off31 c 2) (off30 c) rfl (dev19 c) (sem5 9 rfl _ rfl)
    (sem6 (4 * 3 + zc c) (show k0_off25 c 12#32 = _ from off25 c 3) _ (rIx_out2 c 13 (by decide) (by decide))) (q := 12) rfl rfl (send2 X c 13 (by decide) (by decide))) $$ HE HSt Hs12 H13
  iintro ⟨HSt, Hd13⟩
  rw [wp_ret]; imodintro
  iapply Hk
  iframe HSt Hd13

end Cert.Butterfly

end
-- ==== Proof.PartD.lean ====
/-
# The sums along the third axis

The strips arrive and are added; the finished rows of each stream start out along the third axis: parts
16 to 23 of the body.
-/
module

public import proofs.«01_k».proof.Proof.PartC

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- A strip as it arrives at device `c` from its partner of copy `t`. -/
abbrev strip (t : Fin 28) : sProp 𝕄 := P .rcv c (768 + zx c (dz t) * 64) (col t) 64 512 fullShare (recvG X (peer c t) t)
/-- The strip of device `c` itself in stream `s`, holding partial sums. -/
abbrev mine (s k : ℕ) (G : Con F) : sProp 𝕄 := P .acc c (k4 c s) k 64 512 fullShare G

/-- The first sum along the third axis of the first stream; operands of the second. -/
theorem part16 (v2 v37 v254 : BitVec 32) {Q} :
    Env X K ⊢ iprop(St c 14 8 -∗ mine c 0 0 (acc2 X c)
      -∗ ((St c 14 10 ∗ strip X c 8 ∗ strip X c 9 ∗ mine c 0 0 (acc3 X c))
        -∗ Q (k0_pay21 (tile ![64, 512] (k4 c 0) 0 (acc3 X c)) (tile ![64, 512] (768 + zx c (dz 9) * 64) (col 9) (recvG X (peer c 9) 9))))
      -∗ run c (here (k0_part16 (F := F)) c v2 v37 v254) Q) := by
  iintro #HE HSt H Hk
  unfold run here mine strip
  rw [k0_part16_eq_skeleton]
  unfold k0_part16_skel
  simp only [Prog.lift, Prog.bind_op, Prog.bind_ret, Prog.pure_eq_ret]
  iapply (op_recv X K c 14 8 9 8 rfl rfl (by decide)
    (sem6 (4 * 2 + zx c 0) (show k0_off32 c 8#32 1#32 = _ from off32 c 2 0) _ (rIx_in2 c 8 (by decide) (by decide))) rfl (recv2 X c 8 (by decide) (by decide))) $$ HE HSt
  iintro ⟨HSt, Hr8⟩
  iapply (op_load c .acc (k4 c 0) 0 64 512 (off34 c) rfl) $$ H
  iintro H
  iapply (op_load c .rcv (768 + zx c (dz 8) * 64) (col 8) 64 512 (show k0_off35 c 1#32 = _ from off35 c 0) rfl) $$ Hr8
  iintro Hr8
  iapply (op_load c .acc (k4 c 0) 0 64 512 (off34 c) rfl) $$ H
  iintro H
  iapply (op_restore c .acc (k4 c 0) 0 64 512 (acc2 X c) (acc3 X c) (off34 c) rfl (val3 X c 8 (by decide) (by decide) fun _ _ => rfl)) $$ H
  iintro H
  iapply (op_recv X K c 14 9 10 9 rfl rfl (by decide)
    (sem6 (4 * 2 + zx c 1) (show k0_off32 c 8#32 2#32 = _ from off32 c 2 1) _ (rIx_in2 c 9 (by decide) (by decide))) rfl (recv2 X c 9 (by decide) (by decide))) $$ HE HSt
  iintro ⟨HSt, Hr9⟩
  iapply (op_load c .acc (k4 c 0) 0 64 512 (off34 c) rfl) $$ H
  iintro H
  iapply (op_load c .rcv (768 + zx c (dz 9) * 64) (col 9) 64 512 (show k0_off35 c 2#32 = _ from off35 c 1) rfl) $$ Hr9
  iintro Hr9
  rw [wp_ret]; imodintro
  iapply Hk
  iframe HSt Hr8 Hr9 H

/-- The remaining sums of the first stream, and its finished rows. -/
theorem part17 (v2 v37 v254 : BitVec 32) {Q} :
    Env X K ⊢ iprop(St c 14 10 -∗ mine c 0 0 (acc3 X c) -∗ PE .out c (k4 c 0) 0 64 512
      -∗ ((St c 14 11 ∗ strip X c 10 ∗ mine c 0 0 (acc5 X c) ∗ P .out c (k4 c 0) 0 64 512 fullShare (outG X c)) -∗ Q ⟨⟩)
      -∗ run c (here (k0_part17 (F := F)) c v2 v37 v254
          (k0_pay21 (tile ![64, 512] (k4 c 0) 0 (acc3 X c)) (tile ![64, 512] (768 + zx c (dz 9) * 64) (col 9) (recvG X (peer c 9) 9)))) Q) := by
  iintro #HE HSt H Ho Hk
  unfold run here mine strip
  rw [k0_part17_eq_skeleton]
  unfold k0_part17_skel
  simp only [Prog.lift, Prog.bind_op, Prog.bind_ret, Prog.pure_eq_ret]
  iapply (op_load c .acc (k4 c 0) 0 64 512 (off34 c) rfl) $$ H
  iintro H
  iapply (op_restore c .acc (k4 c 0) 0 64 512 (acc3 X c) (acc4 X c) (off34 c) rfl (val3 X c 9 (by decide) (by decide) fun _ _ => rfl)) $$ H
  iintro H
  iapply (op_recv X K c 14 10 11 10 rfl rfl (by decide)
    (sem6 (4 * 2 + zx c 2) (show k0_off32 c 8#32 3#32 = _ from off32 c 2 2) _ (rIx_in2 c 10 (by decide) (by decide))) rfl (recv2 X c 10 (by decide) (by decide))) $$ HE HSt
  iintro ⟨HSt, Hr10⟩
  iapply (op_load c .acc (k4 c 0) 0 64 512 (off34 c) rfl) $$ H
  iintro H
  iapply (op_load c .rcv (768 + zx c (dz 10) * 64) (col 10) 64 512 (show k0_off35 c 3#32 = _ from off35 c 2) rfl) $$ Hr10
  iintro Hr10
  iapply (op_load c .acc (k4 c 0) 0 64 512 (off34 c) rfl) $$ H
  iintro H
  iapply (op_restore c .acc (k4 c 0) 0 64 512 (acc4 X c) (acc5 X c) (off34 c) rfl (val3 X c 10 (by decide) (by decide) fun _ _ => rfl)) $$ H
  iintro H
  iapply (op_load c .acc (k4 c 0) 0 64 512 (off34 c) rfl) $$ H
  iintro H
  iapply (op_peek c .out (k4 c 0) 0 64 512 (off34 c) rfl) $$ Ho
  iintro %_ Ho
  iapply (op_store c .out (k4 c 0) 0 64 512 (outG X c) (off34 c) rfl (val_out X c 0 0)) $$ Ho
  iintro Ho
  rw [wp_ret]; imodintro
  iapply Hk
  iframe HSt Hr10 H Ho

/-- The first copy of the finished rows of the first stream. -/
theorem part18 (v2 v254 : BitVec 32) {Q} :
    Env X K ⊢ iprop(St c 14 11 -∗ pend c 8 -∗ pend c 9 -∗ P .out c (srcRow c 14) (col 14) 64 512 (qs 14) (outF X)
      -∗ ((St c 15 11 ∗ pend c 14 ∗ sc c 8 1
          ∗ P .acc c (srcRow c 8) (col 8) 64 512 fullShare (acc2 X c) ∗ P .acc c (srcRow c 9) (col 9) 64 512 fullShare (acc2 X c)) -∗ Q ⟨⟩)
      -∗ run c (here (k0_part18 (F := F)) c v2 v254) Q) := by
  iintro #HE HSt Hd8 Hd9 Ho Hk
  unfold run here
  rw [k0_part18_eq_skeleton]
  unfold k0_part18_skel
  simp only [Prog.lift, Prog.bind_op, Prog.bind_ret, Prog.pure_eq_ret]
  iapply (op_left X K c 14 11 8 (q := 7) (r := 1) rfl rfl (sem5 4 rfl _ rfl) rfl (send2 X c 8 (by decide) (by decide))) $$ HE HSt Hd8
  iintro ⟨HSt, Hs7, Hb8⟩
  iapply (op_send X K c 14 15 11 14 (sz := ![64, 512]) (r := 1) rfl .out .out rfl rfl (off36 c) (off36 c) rfl (dev20 c) (sem5 4 rfl _ rfl)
    (sem7 (4 * 0 + zc c) (show k0_off25 c 0#32 = _ from off25 c 0) _ (rIx_out3 c 14 (by decide) (by decide))) (q := 7) rfl rfl (send3 X c 14 (by decide) (by decide))) $$ HE HSt Hs7 Ho
  iintro ⟨HSt, Hd14⟩
  iapply (op_left X K c 15 11 9 (q := 8) (r := 1) rfl rfl (sem5 5 rfl _ rfl) rfl (send2 X c 9 (by decide) (by decide))) $$ HE HSt Hd9
  iintro ⟨HSt, Hs8, Hb9⟩
  rw [wp_ret]; imodintro
  iapply Hk
  iframe HSt Hd14 Hs8 Hb8 Hb9

/-- The other two copies; the first strip of the second stream has arrived. -/
theorem part19 (v2 v254 : BitVec 32) {Q} :
    Env X K ⊢ iprop(St c 15 11 -∗ sc c 8 1 -∗ pend c 10
      -∗ P .out c (srcRow c 15) (col 15) 64 512 (qs 15) (outF X) -∗ P .out c (srcRow c 16) (col 16) 64 512 (qs 16) (outF X)
      -∗ ((St c 17 12 ∗ pend c 15 ∗ pend c 16 ∗ P .acc c (srcRow c 10) (col 10) 64 512 fullShare (acc2 X c) ∗ strip X c 11) -∗ Q ⟨⟩)
      -∗ run c (here (k0_part19 (F := F)) c v2 v254) Q) := by
  iintro #HE HSt Hs8 Hd10 H15 H16 Hk
  unfold run here strip
  rw [k0_part19_eq_skeleton]
  unfold k0_part19_skel
  simp only [Prog.lift, Prog.bind_op, Prog.bind_ret, Prog.pure_eq_ret]
  iapply (op_send X K c 15 16 11 15 (sz := ![64, 512]) (r := 1) rfl .out .out rfl rfl (off36 c) (off36 c) rfl (dev21 c) (sem5 5 rfl _ rfl)
    (sem7 (4 * 0 + zc c) (show k0_off25 c 0#32 = _ from off25 c 0) _ (rIx_out3 c 15 (by decide) (by decide))) (q := 8) rfl rfl (send3 X c 15 (by decide) (by decide))) $$ HE HSt Hs8 H15
  iintro ⟨HSt, Hd15⟩
  iapply (op_left X K c 16 11 10 (q := 9) (r := 1) rfl rfl (sem5 6 rfl _ rfl) rfl (send2 X c 10 (by decide) (by decide))) $$ HE HSt Hd10
  iintro ⟨HSt, Hs9, Hb10⟩
  iapply (op_send X K c 16 17 11 16 (sz := ![64, 512]) (r := 1) rfl .out .out rfl rfl (off36 c) (off36 c) rfl (dev22 c) (sem5 6 rfl _ rfl)
    (sem7 (4 * 0 + zc c) (show k0_off25 c 0#32 = _ from off25 c 0) _ (rIx_out3 c 16 (by decide) (by decide))) (q := 9) rfl rfl (send3 X c 16 (by decide) (by decide))) $$ HE HSt Hs9 H16
  iintro ⟨HSt, Hd16⟩
  iapply (op_recv X K c 17 11 12 11 rfl rfl (by decide)
    (sem6 (4 * 3 + zx c 0) (show k0_off32 c 12#32 1#32 = _ from off32 c 3 0) _ (rIx_in2 c 11 (by decide) (by decide))) rfl (recv2 X c 11 (by decide) (by decide))) $$ HE HSt
  iintro ⟨HSt, Hr11⟩
  rw [wp_ret]; imodintro
  iapply Hk
  iframe HSt Hd15 Hd16 Hb10 Hr11

/-- The first sum along the third axis of the second stream; operands of the second. -/
theorem part20 (v2 v49 v254 : BitVec 32) {Q} :
    Env X K ⊢ iprop(St c 17 12 -∗ strip X c 11 -∗ mine c 1 512 (acc2 X c)
      -∗ ((St c 17 13 ∗ strip X c 11 ∗ strip X c 12 ∗ mine c 1 512 (acc3 X c))
        -∗ Q ⟨k0_pay26 (tile ![64, 512] (k4 c 1) 512 (acc3 X c)) (tile ![64, 512] (768 + zx c (dz 12) * 64) (col 12) (recvG X (peer c 12) 12)), tile ![64, 512] (k4 c 1) 512 (acc3 X c)⟩)
      -∗ run c (here (k0_part20 (F := F)) c v2 v49 v254) Q) := by
  iintro #HE HSt Hr11 H Hk
  unfold run here mine strip
  rw [k0_part20_eq_skeleton]
  unfold k0_part20_skel
  simp only [Prog.lift, Prog.bind_op, Prog.bind_ret, Prog.pure_eq_ret]
  iapply (op_load c .acc (k4 c 1) 512 64 512 (off38 c) rfl) $$ H
  iintro H
  iapply (op_load c .rcv (768 + zx c (dz 11) * 64) (col 11) 64 512 (show k0_off39 c 1#32 = _ from off39 c 0) rfl) $$ Hr11
  iintro Hr11
  iapply (op_load c .acc (k4 c 1) 512 64 512 (off38 c) rfl) $$ H
  iintro H
  iapply (op_restore c .acc (k4 c 1) 512 64 512 (acc2 X c) (acc3 X c) (off38 c) rfl (val3 X c 11 (by decide) (by decide) fun _ _ => rfl)) $$ H
  iintro H
  iapply (op_recv X K c 17 12 13 12 rfl rfl (by decide)
    (sem6 (4 * 3 + zx c 1) (show k0_off32 c 12#32 2#32 = _ from off32 c 3 1) _ (rIx_in2 c 12 (by decide) (by decide))) rfl (recv2 X c 12 (by decide) (by decide))) $$ HE HSt
  iintro ⟨HSt, Hr12⟩
  iapply (op_load c .acc (k4 c 1) 512 64 512 (off38 c) rfl) $$ H
  iintro H
  iapply (op_load c .rcv (768 + zx c (dz 12) * 64) (col 12) 64 512 (show k0_off39 c 2#32 = _ from off39 c 1) rfl) $$ Hr12
  iintro Hr12
  iapply (op_load c .acc (k4 c 1) 512 64 512 (off38 c) rfl) $$ H
  iintro H
  rw [wp_ret]; imodintro
  iapply Hk
  iframe HSt Hr11 Hr12 H

/-- The remaining sums of the second stream, and its finished rows. -/
theorem part21 (v2 v49 v254 : BitVec 32) (w : Vec F S64x512 .bf16) {Q} :
    Env X K ⊢ iprop(St c 17 13 -∗ mine c 1 512 (acc3 X c) -∗ PE .out c (k4 c 1) 512 64 512
      -∗ ((St c 17 14 ∗ strip X c 13 ∗ mine c 1 512 (acc5 X c) ∗ P .out c (k4 c 1) 512 64 512 fullShare (outG X c)) -∗ Q ⟨⟩)
      -∗ run c (here (k0_part21 (F := F)) c v2 v49 v254
          (k0_pay26 (tile ![64, 512] (k4 c 1) 512 (acc3 X c)) (tile ![64, 512] (768 + zx c (dz 12) * 64) (col 12) (recvG X (peer c 12) 12))) w) Q) := by
  iintro #HE HSt H Ho Hk
  unfold run here mine strip
  rw [k0_part21_eq_skeleton]
  unfold k0_part21_skel
  simp only [Prog.lift, Prog.bind_op, Prog.bind_ret, Prog.pure_eq_ret]
  iapply (op_restore c .acc (k4 c 1) 512 64 512 (acc3 X c) (acc4 X c) (off38 c) rfl (val3 X c 12 (by decide) (by decide) fun _ _ => rfl)) $$ H
  iintro H
  iapply (op_recv X K c 17 13 14 13 rfl rfl (by decide)
    (sem6 (4 * 3 + zx c 2) (show k0_off32 c 12#32 3#32 = _ from off32 c 3 2) _ (rIx_in2 c 13 (by decide) (by decide))) rfl (recv2 X c 13 (by decide) (by decide))) $$ HE HSt
  iintro ⟨HSt, Hr13⟩
  iapply (op_load c .acc (k4 c 1) 512 64 512 (off38 c) rfl) $$ H
  iintro H
  iapply (op_load c .rcv (768 + zx c (dz 13) * 64) (col 13) 64 512 (show k0_off39 c 3#32 = _ from off39 c 2) rfl) $$ Hr13
  iintro Hr13
  iapply (op_load c .acc (k4 c 1) 512 64 512 (off38 c) rfl) $$ H
  iintro H
  iapply (op_restore c .acc (k4 c 1) 512 64 512 (acc4 X c) (acc5 X c) (off38 c) rfl (val3 X c 13 (by decide) (by decide) fun _ _ => rfl)) $$ H
  iintro H
  iapply (op_load c .acc (k4 c 1) 512 64 512 (off38 c) rfl) $$ H
  iintro H
  iapply (op_peek c .out (k4 c 1) 512 64 512 (off38 c) rfl) $$ Ho
  iintro %_ Ho
  iapply (op_store c .out (k4 c 1) 512 64 512 (outG X c) (off38 c) rfl (val_out X c 1 512)) $$ Ho
  iintro Ho
  rw [wp_ret]; imodintro
  iapply Hk
  iframe HSt Hr13 H Ho

/-- The first copy of the finished rows of the second stream. -/
theorem part22 (v2 v254 : BitVec 32) {Q} :
    Env X K ⊢ iprop(St c 17 14 -∗ pend c 11 -∗ pend c 12 -∗ P .out c (srcRow c 17) (col 17) 64 512 (qs 17) (outF X)
      -∗ ((St c 18 14 ∗ pend c 17 ∗ sc c 11 1
          ∗ P .acc c (srcRow c 11) (col 11) 64 512 fullShare (acc2 X c) ∗ P .acc c (srcRow c 12) (col 12) 64 512 fullShare (acc2 X c)) -∗ Q ⟨⟩)
      -∗ run c (here (k0_part22 (F := F)) c v2 v254) Q) := by
  iintro #HE HSt Hd11 Hd12 Ho Hk
  unfold run here
  rw [k0_part22_eq_skeleton]
  unfold k0_part22_skel
  simp only [Prog.lift, Prog.bind_op, Prog.bind_ret, Prog.pure_eq_ret]
  iapply (op_left X K c 17 14 11 (q := 10) (r := 1) rfl rfl (sem5 7 rfl _ rfl) rfl (send2 X c 11 (by decide) (by decide))) $$ HE HSt Hd11
  iintro ⟨HSt, Hs10, Hb11⟩
  iapply (op_send X K c 17 18 14 17 (sz := ![64, 512]) (r := 1) rfl .out .out rfl rfl (off40 c) (off40 c) rfl (dev23 c) (sem5 7 rfl _ rfl)
    (sem7 (4 * 1 + zc c) (show k0_off25 c 4#32 = _ from off25 c 1) _ (rIx_out3 c 17 (by decide) (by decide))) (q := 10) rfl rfl (send3 X c 17 (by decide) (by decide))) $$ HE HSt Hs10 Ho
  iintro ⟨HSt, Hd17⟩
  iapply (op_left X K c 18 14 12 (q := 11) (r := 1) rfl rfl (sem5 8 rfl _ rfl) rfl (send2 X c 12 (by decide) (by decide))) $$ HE HSt Hd12
  iintro ⟨HSt, Hs11, Hb12⟩
  rw [wp_ret]; imodintro
  iapply Hk
  iframe HSt Hd17 Hs11 Hb11 Hb12

/-- The other two copies. -/
theorem part23 (v2 v33 v254 : BitVec 32) {Q} :
    Env X K ⊢ iprop(St c 18 14 -∗ sc c 11 1 -∗ pend c 13
      -∗ P .out c (srcRow c 18) (col 18) 64 512 (qs 18) (outF X) -∗ P .out c (srcRow c 19) (col 19) 64 512 (qs 19) (outF X)
      -∗ ((St c 20 14 ∗ pend c 18 ∗ pend c 19 ∗ P .acc c (srcRow c 13) (col 13) 64 512 fullShare (acc2 X c)) -∗ Q ⟨⟩)
      -∗ run c (here (k0_part23 (F := F)) c v2 v33 v254) Q) := by
  iintro #HE HSt Hs11 Hd13 H18 H19 Hk
  unfold run here
  rw [k0_part23_eq_skeleton]
  unfold k0_part23_skel
  simp only [Prog.lift, Prog.bind_op, Prog.bind_ret, Prog.pure_eq_ret]
  iapply (op_send X K c 18 19 14 18 (sz := ![64, 512]) (r := 1) rfl .out .out rfl rfl (off40 c) (off40 c) rfl (dev24 c) (sem5 8 rfl _ rfl)
    (sem7 (4 * 1 + zc c) (show k0_off25 c 4#32 = _ from off25 c 1) _ (rIx_out3 c 18 (by decide) (by decide))) (q := 11) rfl rfl (send3 X c 18 (by decide) (by decide))) $$ HE HSt Hs11 H18
  iintro ⟨HSt, Hd18⟩
  iapply (op_left X K c 19 14 13 (q := 12) (r := 1) rfl rfl (sem5 9 rfl _ rfl) rfl (send2 X c 13 (by decide) (by decide))) $$ HE HSt Hd13
  iintro ⟨HSt, Hs12, Hb13⟩
  iapply (op_send X K c 19 20 14 19 (sz := ![64, 512]) (r := 1) rfl .out .out rfl rfl (off40 c) (off40 c) rfl (dev25 c) (sem5 9 rfl _ rfl)
    (sem7 (4 * 1 + zc c) (show k0_off25 c 4#32 = _ from off25 c 1) _ (rIx_out3 c 19 (by decide) (by decide))) (q := 12) rfl rfl (send3 X c 19 (by decide) (by decide))) $$ HE HSt Hs12 H19
  iintro ⟨HSt, Hd19⟩
  rw [wp_ret]; imodintro
  iapply Hk
  iframe HSt Hd18 Hd19 Hb13

end Cert.Butterfly

end
-- ==== Proof.PartE.lean ====
/-
# The gathering

The finished rows come back along the third axis, then along the two axes of the square, with blocks that
double: parts 24 to 31 of the body.
-/
module

public import proofs.«01_k».proof.Proof.PartD

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- The right shares of the strips that came along the third axis. -/
def rest3 (s k : ℕ) : sProp 𝕄 := iprop(P .out c (k2 c s + zo (zx c 0)) k 64 512 fullShare.right (outF X)
  ∗ P .out c (k2 c s + zo (zx c 1)) k 64 512 fullShare.right (outF X) ∗ P .out c (k2 c s + zo (zx c 2)) k 64 512 fullShare.right (outF X))
/-- The right share of a quarter that came from the partner. -/
def rest4 (s k : ℕ) : sProp 𝕄 := P .out c (k1 c s + (1 - b2 c s) * 256) k 256 256 fullShare.right (outF X)
/-- A strip of the result that came along the third axis. -/
abbrev got3 (t : Fin 28) : sProp 𝕄 := P .out c (k2 c (stm t) + zo (zx c (dz t))) (col t) 64 512 fullShare (outF X)
/-- A half of the result that came from the partner. -/
abbrev got5 (t : Fin 28) : sProp 𝕄 := P .out c ((1 - b1 c (stm t)) * 512) (col t) 512 256 fullShare (outF X)

/-- The left share of the device's quarter, from its own strip and the three that came. -/
theorem quarter_ready (s k : ℕ) : iprop(P .out c (k4 c s) k 64 512 fullShare.left (outF X)
      ∗ P .out c (k2 c s + zo (zx c 0)) k 64 512 fullShare (outF X) ∗ P .out c (k2 c s + zo (zx c 1)) k 64 512 fullShare (outF X)
      ∗ P .out c (k2 c s + zo (zx c 2)) k 64 512 fullShare (outF X))
    = iprop((P .out c (k2 c s) k 256 256 fullShare.left (outF X) ∗ P .out c (k2 c s) (k + 256) 256 256 fullShare.left (outF X)) ∗ rest3 X c s k) := by
  unfold rest3
  rw [← strips_quarter, share_eq c .out (k2 c s + zo (zx c 0)) k 64 512 fullShare, share_eq c .out (k2 c s + zo (zx c 1)) k 64 512 fullShare,
    share_eq c .out (k2 c s + zo (zx c 2)) k 64 512 fullShare]
  generalize P .out c (k4 c s) k 64 512 fullShare.left (outF X) = A
  have e : ∀ B B' D D' E E' : sProp 𝕄, iprop(A ∗ (B ∗ B') ∗ (D ∗ D') ∗ E ∗ E') = iprop((A ∗ B ∗ D ∗ E) ∗ B' ∗ D' ∗ E') := fun B B' D D' E E' => by ac_rfl
  exact e _ _ _ _ _ _

/-- The left share of the device's half, from its quarter and the one that came. -/
theorem half_ready (s k : ℕ) : iprop(P .out c (k2 c s) k 256 256 fullShare.left (outF X) ∗ P .out c (k1 c s + (1 - b2 c s) * 256) k 256 256 fullShare (outF X))
    = iprop(P .out c (k1 c s) k 512 256 fullShare.left (outF X) ∗ rest4 X c s k) := by
  unfold rest4
  rw [← quarters_half, share_eq c .out (k1 c s + (1 - b2 c s) * 256) k 256 256 fullShare]
  have e : ∀ A B D : sProp 𝕄, iprop(A ∗ B ∗ D) = iprop((A ∗ B) ∗ D) := fun A B D => by ac_rfl
  exact e _ _ _

/-- Two strips of the first stream have come. -/
theorem part24 (v2 v33 v254 : BitVec 32) {Q} :
    Env X K ⊢ iprop(St c 20 14 -∗ (∀ v, (St c 20 16 ∗ got3 X c 14 ∗ got3 X c 15) -∗ Q v)
      -∗ run c (here (k0_part24 (F := F)) c v2 v33 v254) Q) := by
  iintro #HE HSt Hk
  unfold run here got3
  rw [k0_part24_eq_skeleton]
  unfold k0_part24_skel
  simp only [Prog.lift, Prog.bind_op, Prog.bind_ret, Prog.pure_eq_ret]
  iapply (op_recv X K c 20 14 15 14 rfl rfl (by decide)
    (sem7 (4 * 0 + zx c 0) (show k0_off32 c 0#32 1#32 = _ from off32 c 0 0) _ (rIx_in3 c 14 (by decide) (by decide))) rfl (recv3 X c 14 (by decide) (by decide))) $$ HE HSt
  iintro ⟨HSt, H14⟩
  iapply (op_recv X K c 20 15 16 15 rfl rfl (by decide)
    (sem7 (4 * 0 + zx c 1) (show k0_off32 c 0#32 2#32 = _ from off32 c 0 1) _ (rIx_in3 c 15 (by decide) (by decide))) rfl (recv3 X c 15 (by decide) (by decide))) $$ HE HSt
  iintro ⟨HSt, H15⟩
  rw [wp_ret]; imodintro
  iapply Hk
  iframe HSt H14 H15

/-- The third has come, and the quarter of the first stream goes out. -/
theorem part25 (v2 v12 v45 v254 v770 : BitVec 32) {Q} :
    Env X K ⊢ iprop(St c 20 16 -∗ sc c 3 2 -∗ sc c 4 2 -∗ P .out c (k4 c 0) 0 64 512 fullShare.left (outF X) -∗ got3 X c 14 -∗ got3 X c 15
      -∗ (∀ v, (St c 22 17 ∗ pend c 20 ∗ pend c 21 ∗ rest3 X c 0 0) -∗ Q v)
      -∗ run c (here (k0_part25 (F := F)) c v2 v12 v45 v254 v770) Q) := by
  iintro #HE HSt Hs3 Hs4 Ho H14 H15 Hk
  unfold run here
  rw [k0_part25_eq_skeleton]
  unfold k0_part25_skel
  simp only [Prog.lift, Prog.bind_op, Prog.bind_ret, Prog.pure_eq_ret]
  iapply (op_recv X K c 20 16 17 16 rfl rfl (by decide)
    (sem7 (4 * 0 + zx c 2) (show k0_off32 c 0#32 3#32 = _ from off32 c 0 2) _ (rIx_in3 c 16 (by decide) (by decide))) rfl (recv3 X c 16 (by decide) (by decide))) $$ HE HSt
  iintro ⟨HSt, H16⟩
  ihave H := (Entails.of_eq (show iprop(P .out c (k4 c 0) 0 64 512 fullShare.left (outF X) ∗ got3 X c 14 ∗ got3 X c 15 ∗ got3 X c 16)
    = iprop((P .out c (srcRow c 20) (col 20) 256 256 fullShare.left (outF X) ∗ P .out c (srcRow c 21) (col 21) 256 256 fullShare.left (outF X)) ∗ rest3 X c 0 0)
    from quarter_ready X c 0 0)) $$ [Ho H14 H15 H16]
  · iframe Ho H14 H15 H16
  icases H with ⟨⟨H20, H21⟩, Hrest⟩
  iapply (op_send X K c 20 21 17 20 (sz := ![256, 256]) (r := 2) rfl .out .out rfl rfl (off41 c) (off41 c) rfl (dev26 c) (sem5 0 rfl _ rfl)
    (sem7 8 rfl _ rfl) (q := 3) rfl rfl (send4 X c 20 (by decide) (by decide))) $$ HE HSt Hs3 H20
  iintro ⟨HSt, Hd20⟩
  iapply (op_send X K c 21 22 17 21 (sz := ![256, 256]) (r := 2) rfl .out .out rfl rfl (off42 c) (off42 c) rfl (dev27 c) (sem5 1 rfl _ rfl)
    (sem7 9 rfl _ rfl) (q := 4) rfl rfl (send4 X c 21 (by decide) (by decide))) $$ HE HSt Hs4 H21
  iintro ⟨HSt, Hd21⟩
  rw [wp_ret]; imodintro
  iapply Hk
  iframe HSt Hd20 Hd21 Hrest

/-- Two strips of the second stream have come. -/
theorem part26 (v2 v45 v254 v793 v802 : BitVec 32) {Q} :
    Env X K ⊢ iprop(St c 22 17 -∗ (∀ v, (St c 22 19 ∗ got3 X c 17 ∗ got3 X c 18) -∗ Q v)
      -∗ run c (here (k0_part26 (F := F)) c v2 v45 v254 v793 v802) Q) := by
  iintro #HE HSt Hk
  unfold run here got3
  rw [k0_part26_eq_skeleton]
  unfold k0_part26_skel
  simp only [Prog.lift, Prog.bind_op, Prog.bind_ret, Prog.pure_eq_ret]
  iapply (op_recv X K c 22 17 18 17 rfl rfl (by decide)
    (sem7 (4 * 1 + zx c 0) (show k0_off32 c 4#32 1#32 = _ from off32 c 1 0) _ (rIx_in3 c 17 (by decide) (by decide))) rfl (recv3 X c 17 (by decide) (by decide))) $$ HE HSt
  iintro ⟨HSt, H17⟩
  iapply (op_recv X K c 22 18 19 18 rfl rfl (by decide)
    (sem7 (4 * 1 + zx c 1) (show k0_off32 c 4#32 2#32 = _ from off32 c 1 1) _ (rIx_in3 c 18 (by decide) (by decide))) rfl (recv3 X c 18 (by decide) (by decide))) $$ HE HSt
  iintro ⟨HSt, H18⟩
  rw [wp_ret]; imodintro
  iapply Hk
  iframe HSt H17 H18

/-- The third has come, and the quarter of the second stream goes out. -/
theorem part27 (v2 v11 v45 v829 v831 v834 : BitVec 32) {Q} :
    Env X K ⊢ iprop(St c 22 19 -∗ sc c 5 2 -∗ sc c 6 2 -∗ P .out c (k4 c 1) 512 64 512 fullShare.left (outF X) -∗ got3 X c 17 -∗ got3 X c 18
      -∗ ((St c 24 20 ∗ pend c 22 ∗ pend c 23 ∗ rest3 X c 1 512) -∗ Q ⟨⟩)
      -∗ run c (here (k0_part27 (F := F)) c v2 v11 v45 v829 v831 v834) Q) := by
  iintro #HE HSt Hs5 Hs6 Ho H17 H18 Hk
  unfold run here
  rw [k0_part27_eq_skeleton]
  unfold k0_part27_skel
  simp only [Prog.lift, Prog.bind_op, Prog.bind_ret, Prog.pure_eq_ret]
  iapply (op_recv X K c 22 19 20 19 rfl rfl (by decide)
    (sem7 (4 * 1 + zx c 2) (show k0_off32 c 4#32 3#32 = _ from off32 c 1 2) _ (rIx_in3 c 19 (by decide) (by decide))) rfl (recv3 X c 19 (by decide) (by decide))) $$ HE HSt
  iintro ⟨HSt, H19⟩
  ihave H := (Entails.of_eq (show iprop(P .out c (k4 c 1) 512 64 512 fullShare.left (outF X) ∗ got3 X c 17 ∗ got3 X c 18 ∗ got3 X c 19)
    = iprop((P .out c (srcRow c 22) (col 22) 256 256 fullShare.left (outF X) ∗ P .out c (srcRow c 23) (col 23) 256 256 fullShare.left (outF X)) ∗ rest3 X c 1 512)
    from quarter_ready X c 1 512)) $$ [Ho H17 H18 H19]
  · iframe Ho H17 H18 H19
  icases H with ⟨⟨H22, H23⟩, Hrest⟩
  iapply (op_send X K c 22 23 20 22 (sz := ![256, 256]) (r := 2) rfl .out .out rfl rfl (off43 c) (off43 c) rfl (dev28 c) (sem5 2 rfl _ rfl)
    (sem7 10 rfl _ rfl) (q := 5) rfl rfl (send4 X c 22 (by decide) (by decide))) $$ HE HSt Hs5 H22
  iintro ⟨HSt, Hd22⟩
  iapply (op_send X K c 23 24 20 23 (sz := ![256, 256]) (r := 2) rfl .out .out rfl rfl (off44 c) (off44 c) rfl (dev29 c) (sem5 3 rfl _ rfl)
    (sem7 11 rfl _ rfl) (q := 6) rfl rfl (send4 X c 23 (by decide) (by decide))) $$ HE HSt Hs6 H23
  iintro ⟨HSt, Hd23⟩
  rw [wp_ret]; imodintro
  iapply Hk
  iframe HSt Hd22 Hd23 Hrest

/-- The first half goes out; the pieces of the next are in. -/
theorem part28 (v11 v12 : BitVec 32) {Q} :
    Env X K ⊢ iprop(St c 24 20 -∗ pend c 20 -∗ pend c 22
      -∗ ((St c 25 22 ∗ pend c 24 ∗ sc c 5 3 ∗ rest4 X c 0 0 ∗ P .out c (srcRow c 25) (col 25) 512 256 fullShare.left (outF X) ∗ rest4 X c 1 512) -∗ Q ⟨⟩)
      -∗ run c (here (k0_part28 (F := F)) c v11 v12) Q) := by
  iintro #HE HSt Hd20 Hd22 Hk
  unfold run here
  rw [k0_part28_eq_skeleton]
  unfold k0_part28_skel
  simp only [Prog.lift, Prog.bind_op, Prog.bind_ret, Prog.pure_eq_ret]
  iapply (op_left X K c 24 20 20 (q := 3) (r := 3) rfl rfl (sem5 0 rfl _ rfl) rfl (send4 X c 20 (by decide) (by decide))) $$ HE HSt Hd20
  iintro ⟨HSt, Hs3, Hb20⟩
  iapply (op_recv X K c 24 20 21 20 rfl rfl (by decide) (sem7 8 rfl _ rfl) rfl (recv4 X c 20 (by decide) (by decide))) $$ HE HSt
  iintro ⟨HSt, Hr20⟩
  ihave H := (Entails.of_eq (show iprop(P .out c (srcRow c 20) (col 20) 256 256 fullShare.left (outF X) ∗ P .out c (k1 c (stm 20) + (1 - b2 c (stm 20)) * 256) (col 20) 256 256 fullShare (outF X))
    = iprop(P .out c (srcRow c 24) (col 24) 512 256 fullShare.left (outF X) ∗ rest4 X c 0 0) from half_ready X c 0 0)) $$ [Hb20 Hr20]
  · iframe Hb20 Hr20
  icases H with ⟨H24, Hrest⟩
  iapply (op_send X K c 24 25 21 24 (sz := ![512, 256]) (r := 3) rfl .out .out rfl rfl (off45 c) (off45 c) rfl (dev30 c) (sem5 0 rfl _ rfl)
    (sem7 12 rfl _ rfl) (q := 3) rfl rfl (send5 X c 24 (by decide))) $$ HE HSt Hs3 H24
  iintro ⟨HSt, Hd24⟩
  iapply (op_left X K c 25 21 22 (q := 5) (r := 3) rfl rfl (sem5 2 rfl _ rfl) rfl (send4 X c 22 (by decide) (by decide))) $$ HE HSt Hd22
  iintro ⟨HSt, Hs5, Hb22⟩
  iapply (op_recv X K c 25 21 22 22 rfl rfl (by decide) (sem7 10 rfl _ rfl) rfl (recv4 X c 22 (by decide) (by decide))) $$ HE HSt
  iintro ⟨HSt, Hr22⟩
  ihave H := (Entails.of_eq (show iprop(P .out c (srcRow c 22) (col 22) 256 256 fullShare.left (outF X) ∗ P .out c (k1 c (stm 22) + (1 - b2 c (stm 22)) * 256) (col 22) 256 256 fullShare (outF X))
    = iprop(P .out c (srcRow c 25) (col 25) 512 256 fullShare.left (outF X) ∗ rest4 X c 1 512) from half_ready X c 1 512)) $$ [Hb22 Hr22]
  · iframe Hb22 Hr22
  rw [wp_ret]; imodintro
  iapply Hk
  iframe HSt Hd24 Hs5 Hrest H

/-- The second and the third half go out. -/
theorem part29 (v11 v12 : BitVec 32) {Q} :
    Env X K ⊢ iprop(St c 25 22 -∗ sc c 5 3 -∗ P .out c (srcRow c 25) (col 25) 512 256 fullShare.left (outF X) -∗ pend c 21 -∗ pend c 23
      -∗ (∀ v, (St c 27 23 ∗ pend c 25 ∗ pend c 26 ∗ rest4 X c 0 256 ∗ sc c 6 3 ∗ P .out c (srcRow c 23) (col 23) 256 256 fullShare.left (outF X)) -∗ Q v)
      -∗ run c (here (k0_part29 (F := F)) c v11 v12) Q) := by
  iintro #HE HSt Hs5 H25 Hd21 Hd23 Hk
  unfold run here
  rw [k0_part29_eq_skeleton]
  unfold k0_part29_skel
  simp only [Prog.lift, Prog.bind_op, Prog.bind_ret, Prog.pure_eq_ret]
  iapply (op_send X K c 25 26 22 25 (sz := ![512, 256]) (r := 3) rfl .out .out rfl rfl (off46 c) (off46 c) rfl (dev31 c) (sem5 2 rfl _ rfl)
    (sem7 14 rfl _ rfl) (q := 5) rfl rfl (send5 X c 25 (by decide))) $$ HE HSt Hs5 H25
  iintro ⟨HSt, Hd25⟩
  iapply (op_left X K c 26 22 21 (q := 4) (r := 3) rfl rfl (sem5 1 rfl _ rfl) rfl (send4 X c 21 (by decide) (by decide))) $$ HE HSt Hd21
  iintro ⟨HSt, Hs4, Hb21⟩
  iapply (op_recv X K c 26 22 23 21 rfl rfl (by decide) (sem7 9 rfl _ rfl) rfl (recv4 X c 21 (by decide) (by decide))) $$ HE HSt
  iintro ⟨HSt, Hr21⟩
  ihave H := (Entails.of_eq (show iprop(P .out c (srcRow c 21) (col 21) 256 256 fullShare.left (outF X) ∗ P .out c (k1 c (stm 21) + (1 - b2 c (stm 21)) * 256) (col 21) 256 256 fullShare (outF X))
    = iprop(P .out c (srcRow c 26) (col 26) 512 256 fullShare.left (outF X) ∗ rest4 X c 0 256) from half_ready X c 0 256)) $$ [Hb21 Hr21]
  · iframe Hb21 Hr21
  icases H with ⟨H26, Hrest⟩
  iapply (op_send X K c 26 27 23 26 (sz := ![512, 256]) (r := 3) rfl .out .out rfl rfl (off47 c) (off47 c) rfl (dev32 c) (sem5 1 rfl _ rfl)
    (sem7 13 rfl _ rfl) (q := 4) rfl rfl (send5 X c 26 (by decide))) $$ HE HSt Hs4 H26
  iintro ⟨HSt, Hd26⟩
  iapply (op_left X K c 27 23 23 (q := 6) (r := 3) rfl rfl (sem5 3 rfl _ rfl) rfl (send4 X c 23 (by decide) (by decide))) $$ HE HSt Hd23
  iintro ⟨HSt, Hs6, Hb23⟩
  rw [wp_ret]; imodintro
  iapply Hk
  iframe HSt Hd25 Hd26 Hrest Hs6 Hb23

/-- The last half goes out; the first has come. -/
theorem part30 (v11 v12 v921 z : BitVec 32) {Q} :
    Env X K ⊢ iprop(St c 27 23 -∗ sc c 6 3 -∗ P .out c (srcRow c 23) (col 23) 256 256 fullShare.left (outF X) -∗ pend c 24 -∗ pend c 25
      -∗ (∀ v, (St c 28 25 ∗ pend c 27 ∗ rest4 X c 1 768 ∗ sc c 3 4 ∗ P .out c (srcRow c 24) (col 24) 512 256 fullShare.left (outF X) ∗ got5 X c 24
        ∗ sc c 5 4 ∗ P .out c (srcRow c 25) (col 25) 512 256 fullShare.left (outF X)) -∗ Q v)
      -∗ run c (here (k0_part30 (F := F)) c v11 v12 v921 z) Q) := by
  iintro #HE HSt Hs6 Hb23 Hd24 Hd25 Hk
  unfold run here got5
  rw [k0_part30_eq_skeleton]
  unfold k0_part30_skel
  simp only [Prog.lift, Prog.bind_op, Prog.bind_ret, Prog.pure_eq_ret]
  iapply (op_recv X K c 27 23 24 23 rfl rfl (by decide) (sem7 11 rfl _ rfl) rfl (recv4 X c 23 (by decide) (by decide))) $$ HE HSt
  iintro ⟨HSt, Hr23⟩
  ihave H := (Entails.of_eq (show iprop(P .out c (srcRow c 23) (col 23) 256 256 fullShare.left (outF X) ∗ P .out c (k1 c (stm 23) + (1 - b2 c (stm 23)) * 256) (col 23) 256 256 fullShare (outF X))
    = iprop(P .out c (srcRow c 27) (col 27) 512 256 fullShare.left (outF X) ∗ rest4 X c 1 768) from half_ready X c 1 768)) $$ [Hb23 Hr23]
  · iframe Hb23 Hr23
  icases H with ⟨H27, Hrest⟩
  iapply (op_send X K c 27 28 24 27 (sz := ![512, 256]) (r := 3) rfl .out .out rfl rfl (off48 c) (off48 c) rfl (dev33 c) (sem5 3 rfl _ rfl)
    (sem7 15 rfl _ rfl) (q := 6) rfl rfl (send5 X c 27 (by decide))) $$ HE HSt Hs6 H27
  iintro ⟨HSt, Hd27⟩
  iapply (op_left X K c 28 24 24 (q := 3) (r := 4) rfl rfl (sem5 0 rfl _ rfl) rfl (send5 X c 24 (by decide))) $$ HE HSt Hd24
  iintro ⟨HSt, Hs3, Hb24⟩
  iapply (op_recv X K c 28 24 25 24 rfl rfl (by decide) (sem7 12 rfl _ rfl) rfl (recv5 X c 24 (by decide))) $$ HE HSt
  iintro ⟨HSt, Hr24⟩
  iapply (op_left X K c 28 25 25 (q := 5) (r := 4) rfl rfl (sem5 2 rfl _ rfl) rfl (send5 X c 25 (by decide))) $$ HE HSt Hd25
  iintro ⟨HSt, Hs5, Hb25⟩
  rw [wp_ret]; imodintro
  iapply Hk
  iframe HSt Hd27 Hrest Hs3 Hb24 Hr24 Hs5 Hb25

/-- The other halves have come. -/
theorem part31 (v11 v12 v949 : BitVec 32) {Q} :
    Env X K ⊢ iprop(St c 28 25 -∗ pend c 26 -∗ pend c 27
      -∗ ((St c 28 28 ∗ got5 X c 25 ∗ sc c 4 4 ∗ P .out c (srcRow c 26) (col 26) 512 256 fullShare.left (outF X) ∗ got5 X c 26
        ∗ sc c 6 4 ∗ P .out c (srcRow c 27) (col 27) 512 256 fullShare.left (outF X) ∗ got5 X c 27) -∗ Q ⟨⟩)
      -∗ run c (here (k0_part31 (F := F)) c v11 v12 v949) Q) := by
  iintro #HE HSt Hd26 Hd27 Hk
  unfold run here got5
  rw [k0_part31_eq_skeleton]
  unfold k0_part31_skel
  simp only [Prog.lift, Prog.bind_op, Prog.bind_ret, Prog.pure_eq_ret]
  iapply (op_recv X K c 28 25 26 25 rfl rfl (by decide) (sem7 14 rfl _ rfl) rfl (recv5 X c 25 (by decide))) $$ HE HSt
  iintro ⟨HSt, Hr25⟩
  iapply (op_left X K c 28 26 26 (q := 4) (r := 4) rfl rfl (sem5 1 rfl _ rfl) rfl (send5 X c 26 (by decide))) $$ HE HSt Hd26
  iintro ⟨HSt, Hs4, Hb26⟩
  iapply (op_recv X K c 28 26 27 26 rfl rfl (by decide) (sem7 13 rfl _ rfl) rfl (recv5 X c 26 (by decide))) $$ HE HSt
  iintro ⟨HSt, Hr26⟩
  iapply (op_left X K c 28 27 27 (q := 6) (r := 4) rfl rfl (sem5 3 rfl _ rfl) rfl (send5 X c 27 (by decide))) $$ HE HSt Hd27
  iintro ⟨HSt, Hs6, Hb27⟩
  iapply (op_recv X K c 28 27 28 27 rfl rfl (by decide) (sem7 15 rfl _ rfl) rfl (recv5 X c 27 (by decide))) $$ HE HSt
  iintro ⟨HSt, Hr27⟩
  rw [wp_ret]; imodintro
  iapply Hk
  iframe HSt Hr25 Hs4 Hb26 Hr26 Hs6 Hb27 Hr27

end Cert.Butterfly

end
-- ==== Proof.Finish.lean ====
/-
# The end of the body

The pieces of the three square buffers put together again, and the departure semaphores closed.
-/
module

public import proofs.«01_k».proof.Proof.PartE

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- Something of each departure semaphore. -/
def sends (f : Fin 45 → sProp 𝕄) : sProp 𝕄 := iprop(f 3 ∗ f 4 ∗ f 5 ∗ f 6 ∗ f 7 ∗ f 8 ∗ f 9 ∗ f 10 ∗ f 11 ∗ f 12)

/-- The partial sums before the first exchange: what is sent and what is kept. -/
theorem acc_cut : PE (F := F) .acc c 0 0 1024 1024
    = iprop((PE .acc c (k1 c 0) 0 512 512 ∗ PE .acc c (srcRow c 0) (col 0) 512 256 ∗ PE .acc c (srcRow c 2) (col 2) 512 256)
      ∗ PE .acc c (k1 c 1) 512 512 512 ∗ PE .acc c (srcRow c 1) (col 1) 512 256 ∗ PE .acc c (srcRow c 3) (col 3) 512 256) := by
  refine ((splits_PE (F := F) .acc c).cols 0 0 1024 512 512).trans ?_
  rw [cut_half (splits_PE (F := F) .acc c) c 0 0, Nat.zero_add, cut_half (splits_PE (F := F) .acc c) c 1 512]
  rfl

/-- The blocks of a stream of the partial sums, whatever they hold, are the stream. -/
theorem stream_back (s k : ℕ) (G0 G1 G2 G5 : Con F) :
    iprop((P .acc c ((1 - b1 c s) * 512) k 512 256 fullShare G0 ∗ P .acc c ((1 - b1 c s) * 512) (k + 256) 512 256 fullShare G0)
      ∗ (P .acc c (k1 c s + (1 - b2 c s) * 256) k 256 256 fullShare G1 ∗ P .acc c (k1 c s + (1 - b2 c s) * 256) (k + 256) 256 256 fullShare G1)
      ∗ (P .acc c (k2 c s + zo (zx c 0)) k 64 512 fullShare G2 ∗ P .acc c (k2 c s + zo (zx c 1)) k 64 512 fullShare G2
        ∗ P .acc c (k2 c s + zo (zx c 2)) k 64 512 fullShare G2)
      ∗ P .acc c (k4 c s) k 64 512 fullShare G5)
    ⊢ PE .acc c 0 k 1024 512 := by
  rw [cut_stream (splits_PE (F := F) .acc c) c s k]
  iintro ⟨⟨H1, H2⟩, ⟨H3, H4⟩, ⟨H5, H6, H7⟩, H8⟩
  ihave H1 := (P_forget _ _ _ _ _ _ _) $$ H1
  ihave H2 := (P_forget _ _ _ _ _ _ _) $$ H2
  ihave H3 := (P_forget _ _ _ _ _ _ _) $$ H3
  ihave H4 := (P_forget _ _ _ _ _ _ _) $$ H4
  ihave H5 := (P_forget _ _ _ _ _ _ _) $$ H5
  ihave H6 := (P_forget _ _ _ _ _ _ _) $$ H6
  ihave H7 := (P_forget _ _ _ _ _ _ _) $$ H7
  ihave H8 := (P_forget _ _ _ _ _ _ _) $$ H8
  iframe H1 H2 H3 H4 H5 H6 H7 H8
/-- The two streams of the partial sums are the buffer. -/
theorem acc_back : iprop(PE .acc c 0 0 1024 512 ∗ PE .acc c 0 512 1024 512) ⊢ PE (F := F) .acc c 0 0 1024 1024 :=
  Entails.of_eq ((splits_PE (F := F) .acc c).cols 0 0 1024 512 512).symm

/-- A landing of the first exchange, as it came. -/
abbrev got0 (t : Fin 28) : sProp 𝕄 := P .rcv c 0 (col t) 512 256 fullShare (recvG X (peer c t) t)
/-- A landing of the second exchange, as it came. -/
abbrev got1 (t : Fin 28) : sProp 𝕄 := P .rcv c 512 (col t) 256 256 fullShare (recvG X (peer c t) t)

/-- What has landed in the landing buffer, and its unused rows, are the buffer. -/
theorem rcv_back : iprop((got0 X c 0 ∗ got0 X c 1 ∗ got0 X c 2 ∗ got0 X c 3) ∗ (got1 X c 4 ∗ got1 X c 5 ∗ got1 X c 6 ∗ got1 X c 7)
      ∗ (strip X c 8 ∗ strip X c 9 ∗ strip X c 10) ∗ (strip X c 11 ∗ strip X c 12 ∗ strip X c 13)
      ∗ PE .rcv c (768 + zc c * 64) 0 64 512 ∗ PE .rcv c (768 + zc c * 64) 512 64 512)
    ⊢ PE .rcv c 0 0 1024 1024 := by
  rw [cut_landing (splits_PE (F := F) .rcv c) c]
  exact BIClass.sep_mono (BIClass.sep_mono (P_forget _ _ _ _ _ _ _) (BIClass.sep_mono (P_forget _ _ _ _ _ _ _) (BIClass.sep_mono (P_forget _ _ _ _ _ _ _) (P_forget _ _ _ _ _ _ _))))
    (BIClass.sep_mono (BIClass.sep_mono (P_forget _ _ _ _ _ _ _) (BIClass.sep_mono (P_forget _ _ _ _ _ _ _) (BIClass.sep_mono (P_forget _ _ _ _ _ _ _) (P_forget _ _ _ _ _ _ _))))
      (BIClass.sep_mono (BIClass.sep_mono (P_forget _ _ _ _ _ _ _) (BIClass.sep_mono (P_forget _ _ _ _ _ _ _) (P_forget _ _ _ _ _ _ _)))
        (BIClass.sep_mono (BIClass.sep_mono (P_forget _ _ _ _ _ _ _) (BIClass.sep_mono (P_forget _ _ _ _ _ _ _) (P_forget _ _ _ _ _ _ _))) (Entails.rfl))))

/-- The shares and blocks of a stream of the result are the stream. -/
theorem out_stream (s k : ℕ) : P .out c 0 k 1024 512 fullShare (outF X)
    = iprop((P .out c (k1 c s) k 512 256 fullShare.left (outF X) ∗ P .out c (k1 c s) (k + 256) 512 256 fullShare.left (outF X))
      ∗ (rest4 X c s k ∗ rest4 X c s (k + 256)) ∗ rest3 X c s k
      ∗ (P .out c (k4 c s) k 64 512 fullShare.right.left (outF X) ∗ P .out c (k4 c s) k 64 512 fullShare.right.right.left (outF X)
        ∗ P .out c (k4 c s) k 64 512 fullShare.right.right.right (outF X))
      ∗ P .out c ((1 - b1 c s) * 512) k 512 256 fullShare (outF X) ∗ P .out c ((1 - b1 c s) * 512) (k + 256) 512 256 fullShare (outF X)) := by
  have e0 := cut_half (splits_P .out c fullShare (outF X)) c s k
  have e1 := (splits_P .out c fullShare.left (outF X)).cols (k1 c s) k 512 256 256
  have e2 := cut_quarter (splits_P .out c fullShare.right (outF X)) c s k 512
  have e3 := (splits_P .out c fullShare.right (outF X)).cols (k1 c s + (1 - b2 c s) * 256) k 256 256 256
  have e4 := strips (splits_P .out c fullShare.right (outF X)) c (k2 c s) k 512
  refine e0.trans ?_
  unfold rest3 rest4
  rw [share_eq c .out (k1 c s) k 512 512 fullShare, show P .out c (k1 c s) k 512 512 fullShare.left (outF X) = _ from e1,
    show P .out c (k1 c s) k 512 512 fullShare.right (outF X) = _ from e2, show P .out c (k1 c s + (1 - b2 c s) * 256) k 256 512 fullShare.right (outF X) = _ from e3,
    show P .out c (k2 c s) k 256 512 fullShare.right (outF X) = _ from e4, show k2 c s + zo (zc c) = k4 c s from rfl,
    share_eq c .out (k4 c s) k 64 512 fullShare.right, share_eq c .out (k4 c s) k 64 512 fullShare.right.right]
  ac_rfl
/-- The two streams of the result are the result. -/
theorem out_back : iprop(P .out c 0 0 1024 512 fullShare (outF X) ∗ P .out c 0 512 1024 512 fullShare (outF X)) = P .out c 0 0 1024 1024 fullShare (outF X) :=
  ((splits_P .out c fullShare (outF X)).cols 0 0 1024 512 512).symm

/-- The first stream of the result, from the pieces as the copies leave them. -/
theorem out_first : iprop((P .out c (srcRow c 24) (col 24) 512 256 fullShare.left (outF X) ∗ P .out c (srcRow c 26) (col 26) 512 256 fullShare.left (outF X))
      ∗ (rest4 X c 0 0 ∗ rest4 X c 0 256) ∗ rest3 X c 0 0
      ∗ (P .out c (srcRow c 14) (col 14) 64 512 (qs 14) (outF X) ∗ P .out c (srcRow c 15) (col 15) 64 512 (qs 15) (outF X)
        ∗ P .out c (srcRow c 16) (col 16) 64 512 (qs 16) (outF X))
      ∗ got5 X c 24 ∗ got5 X c 26) = P .out c 0 0 1024 512 fullShare (outF X) := (out_stream X c 0 0).symm
/-- The second stream likewise. -/
theorem out_second : iprop((P .out c (srcRow c 25) (col 25) 512 256 fullShare.left (outF X) ∗ P .out c (srcRow c 27) (col 27) 512 256 fullShare.left (outF X))
      ∗ (rest4 X c 1 512 ∗ rest4 X c 1 768) ∗ rest3 X c 1 512
      ∗ (P .out c (srcRow c 17) (col 17) 64 512 (qs 17) (outF X) ∗ P .out c (srcRow c 18) (col 18) 64 512 (qs 18) (outF X)
        ∗ P .out c (srcRow c 19) (col 19) 64 512 (qs 19) (outF X))
      ∗ got5 X c 25 ∗ got5 X c 27) = P .out c 0 512 1024 512 fullShare (outF X) := (out_stream X c 1 512).symm

/-- A departure semaphore is closed after its last round. -/
theorem close_send (q : Fin 45) (hq : 3 ≤ q.val) (n : ℕ) (hj : (3 ≤ q.val ∧ q.val < 7 ∧ n = 4) ∨ (7 ≤ q.val ∧ q.val < 13 ∧ n = 2)) :
    Env X K ⊢ iprop(sc c q n -∗ |={Set.univ}=> semVal (dcell c q) 0) := by
  unfold Env sc
  iintro ⟨#HR, -⟩ ⟨Hat, -⟩
  ihave #Hi := (inv_dma X K c q hq) $$ HR
  iapply (Rounds.cell_close ER (sched X) (Set.mem_univ (K (c, dix q))) (fun h => h) (R := n) (later_send X c q n hj)) $$ [Hat]
  isplitr; · iexact Hi
  iexact Hat

end Cert.Butterfly

end
-- ==== Proof.Body.lean ====
/-
# The body

The parts one after the other: what a device needs at the start, and what it has at the end.
-/
module

public import proofs.«01_k».proof.Proof.Finish

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-- What a device starts the body with, apart from its staged arguments. -/
def start : sProp 𝕄 :=
  iprop(Bar c [0, 1, 2, 3, 4] ∗ atPos ER (bcell c) 0 ∅ 0 ∗ cred (tallyAt (bcell c) () 5) ∗ bigSep Finset.univ (tok2 c) ∗ rx c wl
    ∗ sends (fun q => sc (F := F) c q 0)
    ∗ PE .acc c 0 0 1024 1024 ∗ (PE .rcv c (768 + zc c * 64) 0 64 512 ∗ PE .rcv c (768 + zc c * 64) 512 64 512)
    ∗ PE .out c (k4 c 0) 0 64 512 ∗ PE .out c (k4 c 1) 512 64 512)
/-- What it has at the end. -/
def finish : sProp 𝕄 :=
  iprop((∃ W : Waits sig Unit, owes (c : Thread nD τ) 0 W) ∗ semVal (bcell c) 0 ∗ dn c wl.reverse ∗ sends (F := F) (fun q => semVal (dcell c q) 0)
    ∗ PE .acc c 0 0 1024 1024 ∗ PE .rcv c 0 0 1024 1024 ∗ P .out c 0 0 1024 1024 fullShare (outF X))

set_option maxHeartbeats 4000000 in
/-- The body of a device. -/
theorem body_run {Q} : Env X K ⊢ iprop(start c -∗ stA X c -∗ stB X c -∗ ((finish X c ∗ stA X c ∗ stB X c) -∗ Q ⟨⟩)
      -∗ run c (here (cc0_body (F := F))) Q) := by
  unfold start
  iintro #HE ⟨HBar, Hat, Hcr, Htk, Hrx, Hs, Hacc, Hrcv, Ho0, Ho1⟩ HA HB Hk
  unfold sends
  icases Hs with ⟨Hs3, Hs4, Hs5, Hs6, Hs7, Hs8, Hs9, Hs10, Hs11, Hs12⟩
  ihave Hacc := (Entails.of_eq (acc_cut c)) $$ Hacc
  icases Hacc with ⟨⟨Hk0, H0, H2⟩, Hk1, H1, H3⟩
  unfold run here
  rw [cc0_body_eq_skeleton]
  unfold cc0_body_skel
  rw [k0_part32_eq_skeleton]
  unfold k0_part32_skel
  simp only [wp_bind, Prog.lift, Prog.bind_op, Prog.bind_ret, Prog.pure_eq_ret]
  iapply (part1 X K c) $$ HE HBar
  iintro %v2 %v5 %v6 %v8 %v10 %v11 %v12 %v25 HBar
  dsimp only
  iapply (part2 X K c v5 v6 v8 v10 v25 _) $$ HE HBar Hat Hcr Htk Hrx HA HB H0
  iintro %v28 %v31 %v33 %v37 %v40 %v43 %v45 %v49 ⟨HSt, Hz, HA, HB, H0⟩
  dsimp only
  iapply (part3 X K c v11 v12 v28 v40) $$ HE HSt Hs3 Hs5 HA HB H0 H1
  iintro ⟨HSt, Hd0, Hd1, HA, HB⟩
  dsimp only
  iapply (part4 X K c v11 v12 v28 v31 v40) $$ HE HSt Hs4 Hs6 HA HB H2 H3
  iintro ⟨HSt, Hd2, Hd3, HA, HB⟩
  iapply (part5 X K c v11 v31 v43) $$ HE HSt Hd0 HA HB Hk0 Hk1
  iintro ⟨HSt, Hs3, HA, HB, Hb0, Hr0, Ha0, Ha2, Ha1, Ha3⟩
  iapply (part6 X K c v12 v31 v43) $$ HE HSt Hs3 Hd1 Ha0 Hr0 Ha1
  iintro ⟨HSt, Hd4, Hs5, Hb1, Hr0, Hr1, Ha1, Ha4⟩
  dsimp only
  iapply (part7 X K c v11 v31 _) $$ HE HSt Hs5 Hd2 Ha1 Ha2
  iintro %w7 ⟨HSt, Hd5, Hs4, Hb2, Hr2, Ha5, Ha6, Hq6⟩
  iapply (part8 X K c v11 v12 v43 _) $$ HE HSt Hs4 Hd3 Hq6 Ha3
  iintro ⟨HSt, Hd6, Hs6, Hb3, Hr3, Ha7, Hq7⟩
  iapply (part9 X K c v2 v12 v33) $$ HE HSt Hs6 Hd4 Hd6 Hq7 Ha4
  iintro %v254 ⟨HSt, Hd7, Hs3, Hs4, Hb4, Hr4, Hb6, Ha4⟩
  iapply (part10 X K c v2 v12 v33 v254) $$ HE HSt Ha4 Ha6
  iintro ⟨HSt, Hr6, Hm0, H8, H9, H10⟩
  iapply (part11 X K c v2 v33 v254) $$ HE HSt Hs7 Hs8 H8 H9
  iintro %w11 ⟨HSt, Hd8, Hd9⟩
  iapply (part12 X K c v2 v11 v45 v254 _ _) $$ HE HSt Hs9 Hd5 H10 Ha5
  iintro ⟨HSt, Hd10, Hs5, Hb5, Hr5, Ha5⟩
  iapply (part13 X K c v11 v45 v254) $$ HE HSt Hd7 Ha5 Ha7
  iintro %w13 ⟨HSt, Hs6, Hb7, Hr7, Hm1, H11, H12, H13⟩
  iapply (part14 X K c v2 v45 v254 _) $$ HE HSt Hs10 Hs11 H11 H12
  iintro %w14 ⟨HSt, Hd11, Hd12⟩
  iapply (part15 X K c v2 v45 v254 _) $$ HE HSt Hs12 H13
  iintro ⟨HSt, Hd13⟩
  iapply (part16 X K c v2 v37 v254) $$ HE HSt Hm0
  iintro ⟨HSt, Hr8, Hr9, Hm0⟩
  iapply (part17 X K c v2 v37 v254) $$ HE HSt Hm0 Ho0
  iintro ⟨HSt, Hr10, Hm0, Ho⟩
  ihave Ho := (Entails.of_eq (show P .out c (k4 c 0) 0 64 512 fullShare (outG X c) = iprop(P .out c (k4 c 0) 0 64 512 fullShare.left (outF X)
    ∗ P .out c (srcRow c 14) (col 14) 64 512 (qs 14) (outF X) ∗ P .out c (srcRow c 15) (col 15) 64 512 (qs 15) (outF X)
    ∗ P .out c (srcRow c 16) (col 16) 64 512 (qs 16) (outF X)) from own_shares X c 0)) $$ Ho
  icases Ho with ⟨Hl0, H14, H15, H16⟩
  iapply (part18 X K c v2 v254) $$ HE HSt Hd8 Hd9 H14
  iintro ⟨HSt, Hd14, Hs8, Hb8, Hb9⟩
  iapply (part19 X K c v2 v254) $$ HE HSt Hs8 Hd10 H15 H16
  iintro ⟨HSt, Hd15, Hd16, Hb10, Hr11⟩
  iapply (part20 X K c v2 v49 v254) $$ HE HSt Hr11 Hm1
  iintro ⟨HSt, Hr11, Hr12, Hm1⟩
  dsimp only
  iapply (part21 X K c v2 v49 v254 _) $$ HE HSt Hm1 Ho1
  iintro ⟨HSt, Hr13, Hm1, Ho⟩
  ihave Ho := (Entails.of_eq (show P .out c (k4 c 1) 512 64 512 fullShare (outG X c) = iprop(P .out c (k4 c 1) 512 64 512 fullShare.left (outF X)
    ∗ P .out c (srcRow c 17) (col 17) 64 512 (qs 17) (outF X) ∗ P .out c (srcRow c 18) (col 18) 64 512 (qs 18) (outF X)
    ∗ P .out c (srcRow c 19) (col 19) 64 512 (qs 19) (outF X)) from own_shares X c 1)) $$ Ho
  icases Ho with ⟨Hl1, H17, H18, H19⟩
  iapply (part22 X K c v2 v254) $$ HE HSt Hd11 Hd12 H17
  iintro ⟨HSt, Hd17, Hs11, Hb11, Hb12⟩
  iapply (part23 X K c v2 v33 v254) $$ HE HSt Hs11 Hd13 H18 H19
  iintro ⟨HSt, Hd18, Hd19, Hb13⟩
  iapply (part24 X K c v2 v33 v254) $$ HE HSt
  iintro %w24 ⟨HSt, Hg14, Hg15⟩
  iapply (part25 X K c v2 v12 v45 v254 _) $$ HE HSt Hs3 Hs4 Hl0 Hg14 Hg15
  iintro %w25 ⟨HSt, Hd20, Hd21, HR0⟩
  iapply (part26 X K c v2 v45 v254 _ _) $$ HE HSt
  iintro %w26 ⟨HSt, Hg17, Hg18⟩
  iapply (part27 X K c v2 v11 v45 _ _ _) $$ HE HSt Hs5 Hs6 Hl1 Hg17 Hg18
  iintro ⟨HSt, Hd22, Hd23, HR1⟩
  iapply (part28 X K c v11 v12) $$ HE HSt Hd20 Hd22
  iintro ⟨HSt, Hd24, Hs5, Hx0, H25, Hx2⟩
  iapply (part29 X K c v11 v12) $$ HE HSt Hs5 H25 Hd21 Hd23
  iintro %w29 ⟨HSt, Hd25, Hd26, Hx1, Hs6, Hb23⟩
  iapply (part30 X K c v11 v12 _ _) $$ HE HSt Hs6 Hb23 Hd24 Hd25
  iintro %w30 ⟨HSt, Hd27, Hx3, Hs3, Hb24, Hg24, Hs5, Hb25⟩
  iapply (part31 X K c v11 v12 _) $$ HE HSt Hd26 Hd27
  iintro ⟨HSt, Hg25, Hs4, Hb26, Hg26, Hs6, Hb27, Hg27⟩
  iapply (op_left X K c 28 28 14 (q := 7) (r := 2) rfl rfl (sem5 4 rfl _ rfl) rfl (send3 X c 14 (by decide) (by decide))) $$ HE HSt Hd14
  iintro ⟨HSt, Hs7, Hb14⟩
  iapply (op_left X K c 28 28 15 (q := 8) (r := 2) rfl rfl (sem5 5 rfl _ rfl) rfl (send3 X c 15 (by decide) (by decide))) $$ HE HSt Hd15
  iintro ⟨HSt, Hs8, Hb15⟩
  iapply (op_left X K c 28 28 16 (q := 9) (r := 2) rfl rfl (sem5 6 rfl _ rfl) rfl (send3 X c 16 (by decide) (by decide))) $$ HE HSt Hd16
  iintro ⟨HSt, Hs9, Hb16⟩
  rw [wp_ret]; imodintro
  iapply (op_left X K c 28 28 17 (q := 10) (r := 2) rfl rfl (sem5 7 rfl _ rfl) rfl (send3 X c 17 (by decide) (by decide))) $$ HE HSt Hd17
  iintro ⟨HSt, Hs10, Hb17⟩
  iapply (op_left X K c 28 28 18 (q := 11) (r := 2) rfl rfl (sem5 8 rfl _ rfl) rfl (send3 X c 18 (by decide) (by decide))) $$ HE HSt Hd18
  iintro ⟨HSt, Hs11, Hb18⟩
  iapply (op_left X K c 28 28 19 (q := 12) (r := 2) rfl rfl (sem5 9 rfl _ rfl) rfl (send3 X c 19 (by decide) (by decide))) $$ HE HSt Hd19
  iintro ⟨HSt, Hs12, Hb19⟩
  rw [wp_ret]
  imod (close_send X K c 3 (by decide) 4 (by decide)) $$ HE Hs3 with Hs3
  imod (close_send X K c 4 (by decide) 4 (by decide)) $$ HE Hs4 with Hs4
  imod (close_send X K c 5 (by decide) 4 (by decide)) $$ HE Hs5 with Hs5
  imod (close_send X K c 6 (by decide) 4 (by decide)) $$ HE Hs6 with Hs6
  imod (close_send X K c 7 (by decide) 2 (by decide)) $$ HE Hs7 with Hs7
  imod (close_send X K c 8 (by decide) 2 (by decide)) $$ HE Hs8 with Hs8
  imod (close_send X K c 9 (by decide) 2 (by decide)) $$ HE Hs9 with Hs9
  imod (close_send X K c 10 (by decide) 2 (by decide)) $$ HE Hs10 with Hs10
  imod (close_send X K c 11 (by decide) 2 (by decide)) $$ HE Hs11 with Hs11
  imod (close_send X K c 12 (by decide) 2 (by decide)) $$ HE Hs12 with Hs12
  imodintro
  iapply Hk
  iframe HA HB
  ihave HSt := (Entails.of_eq (show (St c 28 28 : sProp 𝕄) = iprop((∃ W : Waits sig Unit, owes (c : Thread nD τ) 0 W) ∗ emp ∗ emp ∗ dn c wl.reverse) from rfl)) $$ HSt
  icases HSt with ⟨HO, HSt, HSt2, Hdn⟩
  unfold finish sends
  iframe HO Hz Hdn Hs3 Hs4 Hs5 Hs6 Hs7 Hs8 Hs9 Hs10 Hs11 Hs12
  isplitl [Hb0 Hb2 Hb4 Hb6 Hb8 Hb9 Hb10 Hm0 Hb1 Hb3 Hb5 Hb7 Hb11 Hb12 Hb13 Hm1]
  · iapply (acc_back c)
    isplitl [Hb0 Hb2 Hb4 Hb6 Hb8 Hb9 Hb10 Hm0]
    · iapply (stream_back c 0 0 (acc0 X c) (acc1 X c) (acc2 X c) (acc5 X c))
      isplitl [Hb0 Hb2]; · isplitl [Hb0]; · iexact Hb0
                           iexact Hb2
      isplitl [Hb4 Hb6]; · isplitl [Hb4]; · iexact Hb4
                           iexact Hb6
      isplitl [Hb8 Hb9 Hb10]
      · isplitl [Hb8]; · iexact Hb8
        isplitl [Hb9]; · iexact Hb9
        iexact Hb10
      iexact Hm0
    · iapply (stream_back c 1 512 (acc0 X c) (acc1 X c) (acc2 X c) (acc5 X c))
      isplitl [Hb1 Hb3]; · isplitl [Hb1]; · iexact Hb1
                           iexact Hb3
      isplitl [Hb5 Hb7]; · isplitl [Hb5]; · iexact Hb5
                           iexact Hb7
      isplitl [Hb11 Hb12 Hb13]
      · isplitl [Hb11]; · iexact Hb11
        isplitl [Hb12]; · iexact Hb12
        iexact Hb13
      iexact Hm1
  isplitl [Hr0 Hr1 Hr2 Hr3 Hr4 Hr5 Hr6 Hr7 Hr8 Hr9 Hr10 Hr11 Hr12 Hr13 Hrcv]
  · iapply (rcv_back X c)
    iframe Hr0 Hr1 Hr2 Hr3 Hr4 Hr5 Hr6 Hr7 Hr8 Hr9 Hr10 Hr11 Hr12 Hr13 Hrcv
  rw [← out_back X c, ← out_first X c, ← out_second X c]
  iframe Hb24 Hb26 Hx0 Hx1 HR0 Hb14 Hb15 Hb16 Hg24 Hg26 Hb25 Hb27 Hx2 Hx3 HR1 Hb17 Hb18 Hb19 Hg25 Hg27

end Cert.Butterfly

end
-- ==== Proof.Deal.lean ====
/-
# What a device starts with

The two buffers that copies write are cut into the blocks of the copies, the semaphores of a device are
listed, and the rights to signal and the credits are dealt out.
-/
module

public import proofs.«01_k».proof.Proof.Body
public import proofs.«01_k».proof.Proof.Gen.KernelIdeal.Launch

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-! ## The blocks -/

/-- The block of device `c` that copy `t` of its partner writes. -/
def land (t : Fin 28) : sProp 𝕄 := PE (db t) c (dstRow (peer c t) t) (col t) (hgt t) (wid t)

/-- The first row of that block. -/
def inRow (t : Fin 28) : ℕ :=
  if t.val < 4 then 0 else if t.val < 8 then 512 else if t.val < 14 then 768 + zx c (dz t) * 64
  else if t.val < 20 then k2 c (stm t) + zo (zx c (dz t))
  else if t.val < 24 then k1 c (stm t) + (1 - b2 c (stm t)) * 256 else (1 - b1 c (stm t)) * 512

/-- A copy's rows at the receiver, as the sender computes them and as the receiver does. -/
theorem inRow_eq : ∀ (c : Dev nD) (t : Fin 28), dstRow (peer c t) t = inRow c t := by decide +kernel

omit [FloatOps F] in
/-- The landing buffer and the result, cut into the blocks of the copies and what the device keeps. -/
theorem cut_all : iprop(PE .rcv c 0 0 1024 1024 ∗ PE .out c 0 0 1024 1024)
    = iprop(bigSep Finset.univ (land (F := F) c) ∗ (PE .rcv c (768 + zc c * 64) 0 64 512 ∗ PE .rcv c (768 + zc c * 64) 512 64 512)
      ∗ PE .out c (k4 c 0) 0 64 512 ∗ PE .out c (k4 c 1) 512 64 512) := by
  have h : bigSep Finset.univ (land (F := F) c) = bigSep Finset.univ fun t => PE (F := F) (db t) c (inRow c t) (col t) (hgt t) (wid t) :=
    bigSep_congr fun t _ => by unfold land; rw [inRow_eq]
  have e : PE (F := F) .out c 0 0 1024 1024 = iprop(PE .out c 0 0 1024 512 ∗ PE .out c 0 512 1024 512) :=
    (splits_PE .out c).cols 0 0 1024 512 512
  have hl : bigSepL [0, 1, 2, 3, 4, 5, 6, 7, 8, 9, 10, 11, 12, 13, 14, 15, 16, 17, 18, 19, 20, 21, 22, 23, 24, 25, 26, 27]
      (fun t => PE (F := F) (db t) c (inRow c t) (col t) (hgt t) (wid t)) = iprop(PE .rcv c 0 0 512 256 ∗ PE .rcv c 0 512 512 256 ∗ PE .rcv c 0 256 512 256 ∗ PE .rcv c 0 768 512 256
      ∗ PE .rcv c 512 0 256 256 ∗ PE .rcv c 512 512 256 256 ∗ PE .rcv c 512 256 256 256 ∗ PE .rcv c 512 768 256 256
      ∗ PE .rcv c (768 + zx c 0 * 64) 0 64 512 ∗ PE .rcv c (768 + zx c 1 * 64) 0 64 512 ∗ PE .rcv c (768 + zx c 2 * 64) 0 64 512
      ∗ PE .rcv c (768 + zx c 0 * 64) 512 64 512 ∗ PE .rcv c (768 + zx c 1 * 64) 512 64 512 ∗ PE .rcv c (768 + zx c 2 * 64) 512 64 512
      ∗ PE .out c (k2 c 0 + zo (zx c 0)) 0 64 512 ∗ PE .out c (k2 c 0 + zo (zx c 1)) 0 64 512 ∗ PE .out c (k2 c 0 + zo (zx c 2)) 0 64 512
      ∗ PE .out c (k2 c 1 + zo (zx c 0)) 512 64 512 ∗ PE .out c (k2 c 1 + zo (zx c 1)) 512 64 512 ∗ PE .out c (k2 c 1 + zo (zx c 2)) 512 64 512
      ∗ PE .out c (k1 c 0 + (1 - b2 c 0) * 256) 0 256 256 ∗ PE .out c (k1 c 0 + (1 - b2 c 0) * 256) 256 256 256
      ∗ PE .out c (k1 c 1 + (1 - b2 c 1) * 256) 512 256 256 ∗ PE .out c (k1 c 1 + (1 - b2 c 1) * 256) 768 256 256
      ∗ PE .out c ((1 - b1 c 0) * 512) 0 512 256 ∗ PE .out c ((1 - b1 c 1) * 512) 512 512 256
      ∗ PE .out c ((1 - b1 c 0) * 512) 256 512 256 ∗ PE .out c ((1 - b1 c 1) * 512) 768 512 256) := by
    simp only [bigSepL_cons_cons, bigSepL_singleton]
    rfl
  rw [h, bigSep_univ_eq_bigSepL [0, 1, 2, 3, 4, 5, 6, 7, 8, 9, 10, 11, 12, 13, 14, 15, 16, 17, 18, 19, 20, 21, 22, 23, 24, 25, 26, 27] (by decide) (by decide), hl, e, cut_landing (splits_PE .rcv c) c,
    cut_stream (splits_PE .out c) c 0 0, cut_stream (splits_PE .out c) c 1 512]
  ac_rfl

omit [FloatOps F] in
/-- The blocks of device `c`, by the partner that they go to. -/
theorem land_groups : bigSep Finset.univ (land (F := F) c)
    = iprop(barPay (nb 0 c) 0 ∗ barPay (nb 1 c) 1 ∗ barPay (nb 2 c) 2 ∗ barPay (nb 3 c) 3 ∗ barPay (nb 4 c) 4) := by
  have h : ∀ b : Fin 5, bigSep (Finset.univ.filter fun t => grp t = b) (land (F := F) c) = barPay (nb b c) ⟨b.val, by omega⟩ := fun b => by
    unfold barPay
    rw [show (Finset.univ.filter fun t : Fin 28 => (grp t).val = b.val) = Finset.univ.filter fun t => grp t = b from
      Finset.filter_congr fun t _ => Fin.ext_iff.symm]
    refine bigSep_congr fun t ht => ?_
    have hg : grp t = b := (Finset.mem_filter.mp ht).2
    unfold land dstP
    have h1 : peer c t = nb b c := by unfold peer; rw [hg]
    rw [← h1, peer_peer]
  have e := (bigSep_biUnion_eq (Finset.univ : Finset (Fin 5)) (fun b => Finset.univ.filter fun t : Fin 28 => grp t = b) (land (F := F) c)
    (fun a _ b _ hab => Finset.disjoint_left.mpr fun u hu hv => hab ((Finset.mem_filter.mp hu).2.symm.trans (Finset.mem_filter.mp hv).2)))
  rw [show (Finset.univ : Finset (Fin 5)).biUnion (fun b => Finset.univ.filter fun t : Fin 28 => grp t = b) = Finset.univ from by decide] at e
  rw [e, bigSep_congr fun b _ => h b, bigSep_univ_eq_bigSepL [0, 1, 2, 3, 4] (by decide) (by decide)]
  rfl

/-! ## The semaphores -/

/-- The semaphores of the third axis that no copy to device `c` uses. -/
def idle (i : Fin 4) : Fin 45 := ⟨(21 + 4 * i.val + zc c) % 45, Nat.mod_lt _ (by decide)⟩
/-- The position of semaphore `q` among the kernel's own. -/
def oix (q : Fin 45) : Fin 42 := ⟨(q.val - 3) % 42, Nat.mod_lt _ (by decide)⟩
/-- The kernel's own semaphores: departures, landings, and the idle ones. -/
def order : List (Fin 42) :=
  [0, 1, 2, 3, 4, 5, 6, 7, 8, 9] ++ (wl.map fun t => oix (rIx (peer c t) t)) ++ [oix (idle c 0), oix (idle c 1), oix (idle c 2), oix (idle c 3)]
/-- No semaphore is listed twice. -/
theorem order_nodup : ∀ c, (order c).Nodup := by decide +kernel
/-- Every one of the kernel's own semaphores is listed. -/
theorem order_all : ∀ c, Finset.univ = (order c).toFinset := by decide +kernel

/-- No cell of a device is listed twice. -/
theorem cells_nodup : ∀ c, ((0 : Fin 43) :: (order c).map Fin.succ).Nodup := by decide +kernel
/-- Every cell of a device is listed. -/
theorem cells_all : ∀ c, Finset.univ = ((0 : Fin 43) :: (order c).map Fin.succ).toFinset := by decide +kernel

/-- One thing for each departure semaphore, each landing and each idle semaphore. -/
def each (Ψ : Fin 45 → sProp 𝕄) : sProp 𝕄 :=
  iprop(sends Ψ ∗ bigSepL wl (fun t => Ψ (rIx (peer c t) t)) ∗ Ψ (idle c 0) ∗ Ψ (idle c 1) ∗ Ψ (idle c 2) ∗ Ψ (idle c 3))

omit [FloatOps F] in
/-- Holding one thing for each entry of two lists in a row is holding it for each of the two. -/
theorem bigSepL_append {I : Type} (l₁ l₂ : List I) (Φ : I → sProp 𝕄) : bigSepL (l₁ ++ l₂) Φ = iprop(bigSepL l₁ Φ ∗ bigSepL l₂ Φ) := by
  induction l₁ with
  | nil => exact (eq_of_bi emp_sep).symm
  | cons a l ih => rw [List.cons_append, bigSepL_cons, ih, bigSepL_cons]; exact (eq_of_bi sep_assoc).symm

omit [FloatOps F] in
/-- One thing for each listed semaphore, sorted into departures, landings and idle ones. -/
theorem each_eq (Ψ : Fin 45 → sProp 𝕄) : bigSepL (order c) (fun i => Ψ (⟨i.val + 3, by omega⟩ : Fin 45)) = each c Ψ := by
  have h : ∀ q : Fin 45, 3 ≤ q.val → (⟨(oix q).val + 3, by omega⟩ : Fin 45) = q := by decide
  have hi : ∀ (c : Dev nD) i, 3 ≤ (idle c i).val := by decide +kernel
  have hm : ∀ l : List (Fin 28), bigSepL (l.map fun t => oix (rIx (peer c t) t)) (fun i => Ψ (⟨i.val + 3, by omega⟩ : Fin 45)) = bigSepL l fun t => Ψ (rIx (peer c t) t) := fun l => by
    induction l with
    | nil => rfl
    | cons t l ih => rw [List.map_cons, bigSepL_cons, ih, bigSepL_cons, h _ (rIx_ge _ t)]
  unfold order each
  rw [bigSepL_append, bigSepL_append, hm]
  simp only [bigSepL_cons_cons, bigSepL_singleton]
  rw [h _ (hi c 0), h _ (hi c 1), h _ (hi c 2), h _ (hi c 3)]
  exact eq_of_bi sep_assoc

/-- Any one thing for each of the kernel's own semaphores. -/
theorem own_each (Ψ : Fin 45 → sProp 𝕄) : (bigSep Finset.univ fun i : Fin 42 => Ψ (⟨i.val + 3, by omega⟩ : Fin 45)) = each c Ψ := by
  rw [bigSep_univ_eq_bigSepL (order c) (order_all c) (order_nodup c), each_eq]

/-- The same for all semaphores of a device, the opening signals' first. -/
theorem cells_each (Ψ : GSem nD τ sig → sProp 𝕄) : (bigSep Finset.univ fun k : Fin 43 => Ψ (kcell (c, k))) = iprop(Ψ (bcell c) ∗ each c fun q => Ψ (dcell c q)) := by
  have hl : ∀ l : List (Fin 42), bigSepL (l.map Fin.succ) (fun k => Ψ (kcell (c, k))) = bigSepL l fun i => Ψ (dcell c (⟨i.val + 3, by omega⟩ : Fin 45)) := fun l => by
    induction l with
    | nil => rfl
    | cons t l ih =>
      rw [List.map_cons, bigSepL_cons, ih, bigSepL_cons]
      have := kcell_dma c ⟨t.val + 3, by omega⟩ (Nat.le_add_left _ _)
      rw [(by decide : ∀ t : Fin 42, dix ⟨t.val + 3, by omega⟩ = t.succ) t] at this
      rw [this]
  rw [bigSep_univ_eq_bigSepL (0 :: (order c).map Fin.succ) (cells_all c) (cells_nodup c), bigSepL_cons, hl, each_eq c (fun q => Ψ (dcell c q))]
  rfl

end Cert.Butterfly
end
-- ==== Proof.Ghost.lean ====
/-
# The records, rights and credits of all devices

What the launch hands out for the semaphores, and how it is passed around: the rights to signal go from
the device that owns the semaphore to the device that signals it.
-/
module

public import proofs.«01_k».proof.Proof.Deal

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

/-! ## What is made at the launch -/

/-- Different numbers are different cells. -/
theorem kcell_injective : Function.Injective kcell := by
  rintro ⟨c, k⟩ ⟨c', k'⟩ h
  have h1 : c = c' := congrArg (fun g : GSem nD τ sig => g.1.1) h
  subst h1
  have h2 : (kcell (0, k)).2 = (kcell (0, k')).2 := (congrArg (fun g : GSem nD τ sig => g.2) h : (kcell (c, k)).2 = (kcell (c, k')).2)
  exact Prod.ext rfl ((by decide +kernel : ∀ k k' : Fin 43, (kcell (0, k)).2 = (kcell (0, k')).2 → k = k') k k' h2)
/-- The cells of all devices. -/
def allCells : Finset (GSem nD τ sig) := Finset.univ.map ⟨kcell, kcell_injective⟩

/-- The rights of a device's own semaphores: an opening signal, a departure, a landing. -/
def tokOf (x : Dev nD × Fin 28 × Fin 3) : GSem nD τ sig × ℕ × Fin 28 :=
  if x.2.2 = 0 then (bcell x.1, 0, x.2.1) else if x.2.2 = 1 then (dcell x.1 (sIx x.2.1), sRd x.2.1, x.2.1)
  else (dcell x.1 (rIx (peer x.1 x.2.1) x.2.1), 0, x.2.1)
/-- Different rights are for different signals. -/
theorem tokOf_injective : Function.Injective tokOf := by
  rintro ⟨c, t, k⟩ ⟨c', t', k'⟩ h
  have h1 : c = c' := by
    have e : ∀ x, (tokOf x).1.1.1 = x.1 := fun x => by unfold tokOf; split; · rfl
                                                       split <;> rfl
    have := congrArg (fun x : GSem nD τ sig × ℕ × Fin 28 => x.1.1.1) h
    exact (e _).symm.trans (this.trans (e _))
  have h2 : t = t' := by
    have e : ∀ x, (tokOf x).2.2 = x.2.1 := fun x => by unfold tokOf; split; · rfl
                                                       split <;> rfl
    have := congrArg (fun x : GSem nD τ sig × ℕ × Fin 28 => x.2.2) h
    exact (e _).symm.trans (this.trans (e _))
  subst h1 h2
  have h3 := congrArg (fun x : GSem nD τ sig × ℕ × Fin 28 => x.1.2) h
  have := (by decide +kernel : ∀ (c : Dev nD) (t : Fin 28) (k k' : Fin 3), (tokOf (c, t, k)).1.2 = (tokOf (c, t, k')).1.2 → k = k') c t k k' h3
  rw [this]
/-- The rights of all devices. -/
def allToks : Finset (GSem nD τ sig × ℕ × Fin 28) := Finset.univ.map ⟨tokOf, tokOf_injective⟩

/-- What is made at the launch: the cells and rights of the staging, and those of the kernel's own semaphores. -/
def u₀ : UU :=
  (initOf (Pipeline.cells cfgs cellOf_inj) (Pipeline.launchToks cfgs cellOf_inj), initOf allCells allToks)

/-- The rights made for a device's own semaphores. -/
def mint : sProp 𝕄 :=
  iprop((bigSep Finset.univ fun t : Fin 28 => dutyTok ER (bcell c) 0 t) ∗ (bigSep Finset.univ fun t : Fin 28 => dutyTok ER (dcell c (sIx t)) (sRd t) t)
    ∗ bigSep Finset.univ fun t : Fin 28 => dutyTok ER (dcell c (rIx (peer c t) t)) 0 t)

/-- What is made for device `c`. -/
def G : sProp 𝕄 :=
  iprop((bigSep Finset.univ fun k : Fin 43 => roundState ER (sched X) (kcell (c, k)) 0)
    ∗ (bigSep Finset.univ fun k : Fin 43 => iprop(atPos ER (kcell (c, k)) 0 ∅ 0 ∗ reached ER (kcell (c, k)) 0)) ∗ mint c)

/-- The rights that device `c` uses. -/
def dealt : sProp 𝕄 :=
  iprop((bigSep Finset.univ fun b : Fin 5 => dutyTok ER (bcell (nb b c)) 0 (⟨b.val, by omega⟩ : Fin 28)) ∗ bigSep Finset.univ (tok2 c))

/-- What device `c` has of it once the records are made. -/
def G' : sProp 𝕄 :=
  iprop(∃ K, records X K ∗ (bigSep Finset.univ fun k : Fin 43 => atPos ER (kcell (c, k)) 0 ∅ 0) ∗ dealt c)

/-- The cells and rights made at the launch, sorted by device. -/
theorem make : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Fin 43 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]
    refine bigSep_congr fun c _ => ?_
    rw [bigSep_univ_prod]
    unfold mint
    rw [← bigSep_sep', ← bigSep_sep']
    refine bigSep_congr fun t _ => ?_
    exact bigSep_univ_eq_bigSepL [0, 1, 2] (by decide) (by decide) _
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The records -/

/-- The kernel's own semaphores. -/
abbrev osem (i : Fin 42) : SemLoc sig := .dma (⟨i.val + 3, by omega⟩ : Fin 45)
/-- Those are the semaphores that belong to the kernel alone, each named once. -/
theorem ownSemFacts : Pipeline.OwnSemFacts cfg0.spec osem := by decide +kernel

/-- The kernel's own semaphores of device `c`, all at zero. -/
abbrev own0 : sProp 𝕄 := Pipeline.ownSems0 (Ix := Unit) (Name := ℕ) (U := UU) (Lvl := ℕ) (Val := Elt F) (τ := τ) osem c

/-- They are the departure, landing and idle semaphores at zero. -/
theorem own0_eq : own0 (F := F) c = each c fun q => semVal (dcell c q) 0 := by
  unfold own0 Pipeline.ownSems0; exact own_each c fun q => semVal (dcell c q) 0
omit [FloatOps F] in
/-- The only other semaphore is that of the opening signals. -/
theorem rest0_eq : (unscopedSems0 c : sProp 𝕄) = semVal (bcell c) 0 := by
  unfold unscopedSems0; rw [bigSep_eq_bigSepL_of_eq [SemLoc.reg barS] (by decide) (by decide)]; rfl
/-- All cells of a device at zero, as the opening semaphore and the kernel's own. -/
theorem sems0_eq : (bigSep Finset.univ fun k : Fin 43 => semVal (kcell (c, k)) 0 : sProp 𝕄) = iprop(unscopedSems0 c ∗ own0 c) := by
  rw [own0_eq, rest0_eq]; exact cells_each c fun g => semVal g 0

/-- With its semaphores at zero, a device's cells can be put on record. -/
theorem record (c : Dev nD) : iprop(own0 c ∗ unscopedSems0 c ∗ G X c)
      ⊢ |={Set.univ}=> iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ mint c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 43 => semVal (kcell (c, k)) 0) ∗ bigSep Finset.univ fun k : Fin 43 => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Two products over all devices and all of a finite type change places. -/
theorem swap {n : ℕ} (Φ : Dev nD → Fin n → sProp 𝕄) : (bigSep Finset.univ fun c => bigSep Finset.univ fun t => Φ c t) = bigSep Finset.univ fun t => bigSep Finset.univ fun c => Φ c t := by
  rw [← bigSep_univ_prod fun x : Dev nD × Fin n => Φ x.1 x.2, ← bigSep_univ_prod fun x : Fin n × Dev nD => Φ x.2 x.1,
    bigSep_univ_equiv (Equiv.prodComm (Fin n) (Dev nD)) fun x : Dev nD × Fin n => Φ x.1 x.2]
  rfl

/-- Partners of a class, as a change of names. -/
def nbE (b : Fin 5) : Dev nD ≃ Dev nD := ⟨nb b, nb b, nb_nb b, nb_nb b⟩
/-- Partners of a copy, as a change of names. -/
def peerE (t : Fin 28) : Dev nD ≃ Dev nD := ⟨fun c => peer c t, fun c => peer c t, fun c => peer_peer c t, fun c => peer_peer c t⟩

omit [FloatOps F] in
/-- The rights go to the devices that use them. -/
theorem around : (bigSep Finset.univ fun c : Dev nD => (mint c : sProp 𝕄)) ⊢ bigSep Finset.univ fun c : Dev nD => dealt c := by
  have hb : (bigSep Finset.univ fun c : Dev nD => bigSep Finset.univ fun t : Fin 28 => (dutyTok ER (bcell c) 0 t : sProp 𝕄))
      ⊢ bigSep Finset.univ fun c : Dev nD => bigSep Finset.univ fun b : Fin 5 => dutyTok ER (bcell (nb b c)) 0 (⟨b.val, by omega⟩ : Fin 28) := by
    have hq : (bigSep Finset.univ fun b : Fin 5 => bigSep Finset.univ fun c : Dev nD => (dutyTok ER (bcell c) 0 (⟨b.val, by omega⟩ : Fin 28) : sProp 𝕄))
        = bigSep Finset.univ fun b : Fin 5 => bigSep Finset.univ fun c : Dev nD => dutyTok ER (bcell (nb b c)) 0 (⟨b.val, by omega⟩ : Fin 28) :=
      bigSep_congr fun b _ => bigSep_univ_equiv (nbE b) fun c : Dev nD => (dutyTok ER (bcell c) 0 (⟨b.val, by omega⟩ : Fin 28) : sProp 𝕄)
    rw [swap fun (c : Dev nD) (b : Fin 5) => (dutyTok ER (bcell (nb b c)) 0 (⟨b.val, by omega⟩ : Fin 28) : sProp 𝕄),
      ← hq, ← swap]
    refine bigSep_mono fun c _ => ?_
    obtain ⟨em, hem⟩ : ∃ em : Fin 5 ↪ Fin 28, ∀ b, em b = ⟨b.val, by omega⟩ :=
      ⟨⟨fun b : Fin 5 => (⟨b.val, by omega⟩ : Fin 28), fun a b h => Fin.ext (Fin.mk.inj h)⟩, fun _ => rfl⟩
    refine (bigSep_subset (Finset.subset_univ (Finset.univ.map em))).trans ?_
    rw [bigSep_map]
    simp only [hem]
    exact Entails.refl _
  have hl : (bigSep Finset.univ fun c : Dev nD => bigSep Finset.univ fun t : Fin 28 => (dutyTok ER (dcell c (rIx (peer c t) t)) 0 t : sProp 𝕄))
      = bigSep Finset.univ fun c : Dev nD => bigSep Finset.univ fun t : Fin 28 => dutyTok ER (rcell c t) 0 t := by
    rw [swap, swap fun (c : Dev nD) (t : Fin 28) => (dutyTok ER (rcell c t) 0 t : sProp 𝕄)]
    refine bigSep_congr fun t _ => ?_
    rw [bigSep_univ_equiv (peerE t) fun c : Dev nD => (dutyTok ER (dcell c (rIx (peer c t) t)) 0 t : sProp 𝕄)]
    refine bigSep_congr fun c _ => ?_
    show dutyTok ER (dcell (peer c t) (rIx (peer (peer c t) t) t)) 0 t = _
    rw [peer_peer]
  unfold mint dealt tok2
  simp only [bigSep_sep']
  rw [hl]
  iintro ⟨H1, H2, H3⟩
  isplitl [H1]; · iapply hb; iexact H1
  isplitl [H2] <;> iassumption

/-- The records of all devices are shared by all, and each right goes to the device that uses it. -/
theorem regroup :
    (bigSep Finset.univ fun c : Dev nD => iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ mint c) : sProp 𝕄)
      ⊢ bigSep Finset.univ (G' X) := by
  rw [bigSep_sep', bigSep_sep', ← bigSep_univ_prod (fun ck : Dev nD × Fin 43 => iprop(∃ κ : ℕ, cellInv ER (sched X) κ (kcell ck))),
    bigSep_congr (s := Finset.univ) (fun (c : Dev nD) _ => bigSep_sep' Finset.univ (fun k : Fin 43 => (atPos ER (kcell (c, k)) 0 ∅ 0 : sProp 𝕄)) (fun k => reached ER (kcell (c, k)) 0)),
    bigSep_sep', ← bigSep_univ_prod (fun ck : Dev nD × Fin 43 => (reached ER (kcell ck) 0 : sProp 𝕄))]
  iintro ⟨HI, ⟨Hat, #HR⟩, Htok⟩
  ihave HK := (BI.bigSep_exists_pi Finset.univ (fun (ck : Dev nD × Fin 43) (κ : ℕ) => (cellInv ER (sched X) κ (kcell ck) : sProp 𝕄))) $$ HI
  icases HK with ⟨%K, #HI⟩
  ihave Htk := (around (F := F)) $$ Htok
  have one : ∀ c ∈ (Finset.univ : Finset (Dev nD)), iprop(records X K ∗ (bigSep Finset.univ fun k : Fin 43 => atPos ER (kcell (c, k)) 0 ∅ 0) ∗ dealt c) ⊢ G' X c := fun c _ => by
    unfold G'; iintro H; iexists K; iexact H
  iapply (show iprop(records X K ∗ bigSep Finset.univ fun c => iprop((bigSep Finset.univ fun k : Fin 43 => atPos ER (kcell (c, k)) 0 ∅ 0) ∗ dealt c)) ⊢ bigSep Finset.univ (G' X) from
    (sep_mono_left (BI.bigSep_of_persistent Finset.univ (records X K))).trans (by rw [← bigSep_sep']; exact bigSep_mono one))
  isplitr
  · unfold records; isplitl; · iexact HI
    iexact HR
  · rw [bigSep_sep']
    isplitl [Hat]; · iexact Hat
    iexact Htk

/-- All devices at once: from the semaphores at zero to the records, and the rights where they are used. -/
theorem glob : (bigSep Finset.univ fun c => iprop(own0 c ∗ unscopedSems0 c ∗ G X c) : sProp 𝕄) ⊢ |={Set.univ}=> bigSep Finset.univ (G' X) :=
  ((bigSep_mono fun c _ => record X c).trans (bigSep_fupd _ _)).trans (BI.fupd_mono (regroup X))

/-! ## The credits -/

/-- What a device owes at the start. -/
abbrev O₀ (c : Dev nD) : CellTallies nD τ sig Unit := Obar c [0, 1, 2, 3, 4]

/-- Only the copy of number `t` of the partner lands on the semaphore where device `c` waits for it. -/
theorem land_iff : ∀ (d c : Dev nD) (t u : Fin 28), (peer d u = c ∧ rIx d u = rIx (peer c t) t) ↔ (d = peer c t ∧ u = t) := fun d c t u => by
  constructor
  · rintro ⟨rfl, h⟩
    have e : rIx (peer (peer d u) u) u = rIx (peer (peer d u) t) t := by rw [peer_peer]; exact h
    have := rIx_inj _ _ _ e
    subst this
    exact ⟨(peer_peer d u).symm, rfl⟩
  · rintro ⟨rfl, rfl⟩
    exact ⟨peer_peer c u, rfl⟩

/-- What a list of copies of device `d` adds to a landing semaphore of device `c`. -/
theorem owed_copy (d c : Dev nD) (t : Fin 28) : ∀ l : List (Fin 28), l.Nodup → Orem d l (dcell c (rIx (peer c t) t)) () = if d = peer c t ∧ t ∈ l then Nt t else 0
  | [], _ => by rw [if_neg (fun h => List.not_mem_nil h.2)]; rfl
  | u :: l, hn => by
    obtain ⟨hu, hl⟩ := List.nodup_cons.mp hn
    unfold Orem
    rw [Pi.add_apply, Finsupp.add_apply, owed_copy d c t l hl, tallyAt_apply]
    have e : (dcell c (rIx (peer c t) t) = rcell d u) ↔ (d = peer c t ∧ u = t) := by
      rw [← land_iff]
      constructor
      · intro h
        exact ⟨(congrArg (fun g : GSem nD τ sig => g.1.1) h).symm, (SemLoc.dma.inj (congrArg Prod.snd h)).symm⟩
      · rintro ⟨h1, h2⟩
        show _ = dcell (peer d u) (rIx d u)
        rw [h1, h2]
    by_cases h : d = peer c t ∧ u = t
    · obtain ⟨h1, rfl⟩ := h
      rw [if_neg (fun h => hu h.2), if_pos ⟨e.mpr ⟨h1, rfl⟩, rfl⟩, if_pos ⟨h1, List.mem_cons_self⟩, Nat.zero_add]
    · rw [if_neg (c := _ ∧ _) (fun h' => h (e.mp h'.1)), Nat.add_zero]
      refine if_congr (and_congr_right fun h1 => ?_) rfl rfl
      rw [List.mem_cons]
      exact ⟨Or.inr, fun h' => h'.resolve_left fun h2 => h ⟨h1, h2.symm⟩⟩

/-- What device `d` owes at the start to a landing semaphore of device `c`. -/
theorem owed_land (d c : Dev nD) (t : Fin 28) : O₀ d (dcell c (rIx (peer c t) t)) () = if d = peer c t then Nt t else 0 := by
  have h : ∀ l : List (Fin 5), Obar d l (dcell c (rIx (peer c t) t)) () = Orem d (sl 0) (dcell c (rIx (peer c t) t)) () := fun l => by
    induction l with
    | nil => rfl
    | cons b l ih =>
      unfold Obar
      rw [Pi.add_apply, Finsupp.add_apply, ih, tallyAt_ne_cell (fun h => by cases congrArg Prod.snd h), Finsupp.zero_apply, Nat.add_zero]
  rw [h, owed_copy d c t _ (by decide)]
  exact if_congr (and_iff_left ((by decide : ∀ t : Fin 28, t ∈ sl 0) t)) rfl rfl

/-- What device `d` owes to the opening semaphore of device `c`: one for each signal that goes there. -/
theorem owed_bar (d c : Dev nD) (l : List (Fin 5)) : Obar d l (bcell c) () = (l.filter fun b => nb b d = c).length := by
  induction l with
  | nil =>
    show Orem d (sl 0) (bcell c) () = 0
    by_contra h
    obtain ⟨t, -, e⟩ := Orem_pos (Nat.pos_of_ne_zero h)
    cases congrArg Prod.snd e
  | cons b l ih =>
    unfold Obar
    rw [Pi.add_apply, Finsupp.add_apply, ih, tallyAt_apply, List.filter_cons]
    have e : (bcell c = bcell (nb b d)) ↔ nb b d = c := ⟨fun h => (congrArg (fun g : GSem nD τ sig => g.1.1) h).symm, fun h => by rw [h]⟩
    by_cases h : nb b d = c
    · rw [if_pos ⟨e.mpr h, rfl⟩, if_pos (decide_eq_true h), List.length_cons]
    · rw [if_neg (fun h' => h (e.mp h'.1)), if_neg (by simpa using h), Nat.add_zero]

/-- All devices together owe five signals to every opening semaphore. -/
theorem launch_bar (c : Dev nD) :
    tallyOn (bcell c) (launchCredit (Pipeline.owing O₀) 0 (bcell c)) = (tallyAt (bcell c) () 5 : CellTallies nD τ sig Unit) := by
  unfold tallyAt; refine congrArg _ (Finsupp.ext fun u => ?_); cases u
  rw [Pipeline.launchCredit_owing, Finsupp.single_eq_same, Finset.sum_congr rfl fun d _ => owed_bar d c _]
  revert c; decide +kernel
/-- All devices together owe one copy to every landing semaphore. -/
theorem launch_land (c : Dev nD) (t : Fin 28) :
    tallyOn (dcell c (rIx (peer c t) t)) (launchCredit (Pipeline.owing O₀) 0 (dcell c (rIx (peer c t) t))) = (tallyAt (dcell c (rIx (peer c t) t)) () (Nt t) : CellTallies nD τ sig Unit) := by
  unfold tallyAt; refine congrArg _ (Finsupp.ext fun u => ?_); cases u
  rw [Pipeline.launchCredit_owing, Finsupp.single_eq_same, Finset.sum_congr rfl fun d _ => owed_land d c t, Finset.sum_ite_eq' Finset.univ (peer c t) fun _ => Nt t,
    if_pos (Finset.mem_univ _)]

omit [FloatOps F] in
/-- What device `c` may wait for. -/
theorem creds (c : Dev nD) : (Pipeline.launchCred O₀ c : sProp 𝕄)
    ⊢ iprop(cred (tallyAt (bcell c) () 5) ∗ bigSep Finset.univ fun t => cred (tallyAt (dcell c (rIx (peer c t) t)) () (Nt t))) := by
  unfold Pipeline.launchCred
  rw [bigSep_univ_at _ (SemLoc.reg barS), launch_bar]
  refine sep_mono_right ?_
  have e : (bigSep Finset.univ fun t => (cred (tallyAt (dcell c (rIx (peer c t) t)) () (Nt t)) : sProp 𝕄))
      = bigSep Finset.univ fun t => cred (tallyOn (dcell c (rIx (peer c t) t)) (launchCredit (Pipeline.owing O₀) 0 (dcell c (rIx (peer c t) t)))) :=
    bigSep_congr fun t _ => by rw [launch_land]
  obtain ⟨em, hem⟩ : ∃ em : Fin 28 ↪ SemLoc sig, ∀ t, em t = SemLoc.dma (rIx (peer c t) t) :=
    ⟨⟨fun t => SemLoc.dma (rIx (peer c t) t), fun t u h => rIx_inj c t u (SemLoc.dma.inj h)⟩, fun _ => rfl⟩
  have hs : Finset.univ.map em ⊆ Finset.univ.erase (SemLoc.reg barS) := fun sm h => by
    obtain ⟨t, -, rfl⟩ := Finset.mem_map.mp h
    rw [hem]
    exact Finset.mem_erase.mpr ⟨show SemLoc.dma (rIx (peer c t) t) ≠ SemLoc.reg barS from (nofun), Finset.mem_univ _⟩
  refine (bigSep_subset hs).trans ?_
  rw [bigSep_map, e]
  simp only [hem]
  exact Entails.refl _

end Cert.Butterfly
end
-- ==== Proof.Opening.lean ====
/-
# Into the body and out of it

What the launch leaves a device is what its body starts with; what the body leaves is what the launch
asks back.
-/
module

public import proofs.«01_k».proof.Proof.Ghost

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

omit [FloatOps F] in
/-- A square buffer held whole. -/
theorem whole_blk : blk 0 0 1024 1024 = Finset.univ := by
  ext i
  have h0 : (i 0).val < 1024 := (i 0).isLt
  have h1 : (i 1).val < 1024 := (i 1).isLt
  unfold blk
  rw [Finset.mem_filter]
  exact ⟨fun _ => Finset.mem_univ _, fun _ => ⟨Finset.mem_univ _, by omega⟩⟩
omit [FloatOps F] in
/-- The whole buffer of partial sums is one block. -/
theorem acc_whole (f : Buf (Elt F) ((c : Thread nD τ).loc cc0_scratch0)) : (((c : Thread nD τ).loc cc0_scratch0) ↦{fullShare} f : sProp 𝕄) = Pf .acc c 0 0 1024 1024 fullShare f := by
  unfold Pf; rw [whole_blk]
omit [FloatOps F] in
/-- The whole landing buffer is one block. -/
theorem rcv_whole (f : Buf (Elt F) ((c : Thread nD τ).loc cc0_scratch1)) : (((c : Thread nD τ).loc cc0_scratch1) ↦{fullShare} f : sProp 𝕄) = Pf .rcv c 0 0 1024 1024 fullShare f := by
  unfold Pf; rw [whole_blk]
omit [FloatOps F] in
/-- The whole result buffer is one block. -/
theorem out_whole (f : Buf (Elt F) ((c : Thread nD τ).loc cc0_stg2_0)) : (((c : Thread nD τ).loc cc0_stg2_0) ↦{fullShare} f : sProp 𝕄) = Pf .out c 0 0 1024 1024 fullShare f := by
  unfold Pf; rw [whole_blk]

/-! ## Chains over the landings -/

/-- The landings in waiting order are all the copies. -/
theorem wl_bigSep (Φ : Fin 28 → sProp 𝕄) : bigSepL wl Φ = bigSep Finset.univ Φ := (bigSep_univ_eq_bigSepL wl (by decide) (by decide) Φ).symm

/-- The landings still to be waited for, as the positions and the credits. -/
theorem rx_eq (l : List (Fin 28)) : rx (F := F) c l
    = iprop(bigSepL l (fun t => atPos ER (dcell c (rIx (peer c t) t)) 0 ∅ 0) ∗ bigSepL l fun t => cred (tallyAt (dcell c (rIx (peer c t) t)) () (Nt t))) := by
  induction l with
  | nil => exact (eq_of_bi emp_sep).symm
  | cons t l ih =>
    rw [rx_cons, ih, bigSepL_cons, bigSepL_cons]
    have e : ∀ A B C D : sProp 𝕄, iprop((A ∗ B) ∗ C ∗ D) = iprop((A ∗ C) ∗ B ∗ D) := fun A B C D => by ac_rfl
    exact e _ _ _ _
/-- The landing semaphores that are finished with, as a product over the list. -/
theorem dn_eq (l : List (Fin 28)) : dn (F := F) c l = bigSepL l fun t => semVal (dcell c (rIx (peer c t) t)) 0 := by
  induction l with
  | nil => rfl
  | cons t l ih => rw [dn_cons, ih, bigSepL_cons]; rfl

/-! ## The idle semaphores -/

/-- No copy departs from or lands on an idle semaphore. -/
theorem idle_unused : ∀ (c : Dev nD) (i : Fin 4) (t : Fin 28), sIx t ≠ idle c i ∧ rIx (peer c t) t ≠ idle c i := by decide +kernel
/-- The idle semaphores are among the kernel's own. -/
theorem idle_ge : ∀ (c : Dev nD) (i : Fin 4), 3 ≤ (idle c i).val := by decide +kernel

/-- An idle semaphore may be taken back at once, at zero. -/
theorem close_idle (i : Fin 4) : Env X K ⊢ iprop(atPos ER (dcell c (idle c i)) 0 ∅ 0 -∗ |={Set.univ}=> semVal (dcell c (idle c i)) 0) := by
  have h : ∀ r, 0 ≤ r → (sched X).duties (dcell c (idle c i)) r = ∅ := fun r _ => (duties_dma X _ _ _).trans
    (Finset.filter_eq_empty_iff.mpr fun t _ => by
      rintro (⟨h1, -⟩ | ⟨h1, -⟩)
      · exact (idle_unused c i t).1 h1
      · exact (idle_unused c i t).2 h1)
  unfold Env
  iintro ⟨#HR, -⟩ Hat
  ihave #Hi := (inv_dma X K c (idle c i) (idle_ge c i)) $$ HR
  iapply (Rounds.cell_close ER (sched X) (Set.mem_univ (K (c, dix (idle c i)))) (fun h => h) (R := 0) h) $$ [Hat]
  isplitr; · iexact Hi
  iexact Hat

/-! ## Into the body -/

/-- The idle semaphores, one thing for each. -/
def idles (Ψ : Fin 45 → sProp 𝕄) : sProp 𝕄 := iprop(Ψ (idle c 0) ∗ Ψ (idle c 1) ∗ Ψ (idle c 2) ∗ Ψ (idle c 3))

/-- So may all four. -/
theorem close_idles : Env X K ⊢ iprop(idles c (fun q => atPos ER (dcell c q) 0 ∅ 0) -∗ |={Set.univ}=> idles c fun q => semVal (dcell c q) 0) := by
  unfold idles
  iintro #HE ⟨H0, H1, H2, H3⟩
  imod (close_idle X K c 0) $$ HE H0 with H0
  imod (close_idle X K c 1) $$ HE H1 with H1
  imod (close_idle X K c 2) $$ HE H2 with H2
  imod (close_idle X K c 3) $$ HE H3 with H3
  imodintro
  iframe

/-- The positions of the departure semaphores, with the first round open. -/
theorem sends_open : Env X K ⊢ iprop(sends (F := F) (fun q => atPos ER (dcell c q) 0 ∅ 0) -∗ sends (F := F) fun q => sc c q 0) := by
  have one : ∀ q : Fin 45, 3 ≤ q.val → Env X K ⊢ iprop(atPos ER (dcell c q) 0 ∅ 0 -∗ sc c q 0) := fun q hq => by
    unfold Env sc
    iintro ⟨#HR, -⟩ Hat
    isplitl [Hat]; · iexact Hat
    iapply (open_dma X K c q hq); iexact HR
  unfold sends
  iintro #HE ⟨H3, H4, H5, H6, H7, H8, H9, H10, H11, H12⟩
  isplitl [H3]; · iapply (one 3 (by decide)) $$ HE H3
  isplitl [H4]; · iapply (one 4 (by decide)) $$ HE H4
  isplitl [H5]; · iapply (one 5 (by decide)) $$ HE H5
  isplitl [H6]; · iapply (one 6 (by decide)) $$ HE H6
  isplitl [H7]; · iapply (one 7 (by decide)) $$ HE H7
  isplitl [H8]; · iapply (one 8 (by decide)) $$ HE H8
  isplitl [H9]; · iapply (one 9 (by decide)) $$ HE H9
  isplitl [H10]; · iapply (one 10 (by decide)) $$ HE H10
  isplitl [H11]; · iapply (one 11 (by decide)) $$ HE H11
  iapply (one 12 (by decide)) $$ HE H12

/-- The opening signals' rights and blocks, one by one. -/
theorem bar_intro : iprop((∃ W : Waits sig Unit, owes (c : Thread nD τ) (O₀ c) W)
      ∗ (bigSep Finset.univ fun b : Fin 5 => dutyTok ER (bcell (nb b c)) 0 (⟨b.val, by omega⟩ : Fin 28)) ∗ bigSep Finset.univ (land (F := F) c))
    ⊢ Bar c [0, 1, 2, 3, 4] := by
  have e : ∀ Φ : Fin 5 → sProp 𝕄, bigSep Finset.univ Φ = iprop(Φ 0 ∗ Φ 1 ∗ Φ 2 ∗ Φ 3 ∗ Φ 4) := fun Φ =>
    bigSep_univ_eq_bigSepL [0, 1, 2, 3, 4] (by decide) (by decide) Φ
  rw [land_groups, e]
  unfold Bar
  simp only [List.foldr_cons, List.foldr_nil]
  iintro ⟨HO, ⟨T0, T1, T2, T3, T4⟩, B0, B1, B2, B3, B4⟩
  isplitl [HO]; · iexact HO
  isplitl [T0 B0]
  · isplitl [T0]; · iexact T0
    iexact B0
  isplitl [T1 B1]
  · isplitl [T1]; · iexact T1
    iexact B1
  isplitl [T2 B2]
  · isplitl [T2]; · iexact T2
    iexact B2
  isplitl [T3 B3]
  · isplitl [T3]; · iexact T3
    iexact B3
  isplitl [T4 B4]
  · isplitl [T4]; · iexact T4
    iexact B4
  iempintro

/-- What the launch leaves device `c`. -/
def given : sProp 𝕄 :=
  iprop((bigSep Finset.univ fun k : Fin 43 => atPos ER (kcell (c, k)) 0 ∅ 0) ∗ dealt c
    ∗ cred (tallyAt (bcell c) () 5) ∗ (bigSep Finset.univ fun t => cred (tallyAt (dcell c (rIx (peer c t) t)) () (Nt t)))
    ∗ PE .acc c 0 0 1024 1024 ∗ PE .rcv c 0 0 1024 1024)

/-- What the launch leaves a device is what its body starts with, apart from the idle semaphores. -/
theorem into : Env X K ⊢ iprop(given c -∗ (∃ W : Waits sig Unit, owes (c : Thread nD τ) (O₀ c) W) -∗ PE .out c 0 0 1024 1024
      -∗ (start c ∗ idles c fun q => atPos ER (dcell c q) 0 ∅ 0)) := by
  unfold given dealt
  rw [cells_each c (fun g => atPos ER g 0 ∅ 0), ← wl_bigSep fun t => cred (tallyAt (dcell c (rIx (peer c t) t)) () (Nt t))]
  unfold each
  iintro #HE ⟨⟨Hb, Hs, Hl, Hi⟩, ⟨Ht, Ht2⟩, Hcb, Hcr, Hacc, Hrcv⟩ HO Hout
  ihave Hs := (sends_open X K c) $$ HE Hs
  ihave Hcut := (Entails.of_eq (cut_all c)) $$ [Hrcv Hout]
  · isplitl [Hrcv] <;> iassumption
  icases Hcut with ⟨Hland, Hr, Ho⟩
  ihave Hbar := (bar_intro c) $$ [HO Ht Hland]
  · isplitl [HO]; · iexact HO
    isplitl [Ht] <;> iassumption
  ihave Hrx := (Entails.of_eq (rx_eq c wl).symm) $$ [Hl Hcr]
  · isplitl [Hl] <;> iassumption
  isplitr [Hi]
  · unfold start
    iframe
  · unfold idles; iexact Hi

/-! ## Out of the body -/

/-- What a device gives back. -/
def back : sProp 𝕄 := iprop(own0 c ∗ unscopedSems0 c ∗ PE .acc c 0 0 1024 1024 ∗ PE .rcv c 0 0 1024 1024)

/-- What the body ends with, and the idle semaphores, is what the device gives back, with the result. -/
theorem out_of : iprop(finish X c ∗ idles c fun q => semVal (dcell c q) 0)
    ⊢ iprop((∃ W : Waits sig Unit, owes (c : Thread nD τ) 0 W) ∗ back c ∗ P .out c 0 0 1024 1024 fullShare (outF X)) := by
  have e : dn (F := F) c wl.reverse = bigSepL wl fun t => semVal (dcell c (rIx (peer c t) t)) 0 := by
    rw [dn_eq, wl_bigSep]; exact (bigSep_univ_eq_bigSepL wl.reverse (by decide) (by decide) _).symm
  unfold finish back
  rw [e, own0_eq, rest0_eq]
  unfold each idles
  iintro ⟨⟨HO, Hb, Hd, Hs, Hacc, Hrcv, Hout⟩, Hi⟩
  iframe

end Cert.Butterfly
end
-- ==== Proof.Launch.lean ====
/-
# The launch

All devices run their bodies at once, and the result is in every device's array.
-/
module

public import proofs.«01_k».proof.Proof.Opening
public import proofs.«01_k».proof.Proof.Gen.KernelIdeal.Points
public import Idealize.ShloMosaic.Lib.Pipeline.CollectiveSegs

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: any contents, all semaphores at zero, any generator registers. -/
def s₀ : MemSt nD τ sig (Elt F) := ⟨m, fun _ => 0, ρ⟩

/-- The staged arguments of all devices. -/
def args : Args F where
  a c := (win0_0.blk t0_0).view.read (Elt F) (m ((c : Thread nD τ).loc main_arg0))
  b c := (win0_1.blk t0_0).view.read (Elt F) (m ((c : Thread nD τ).loc main_arg1))

/-- What a device holds when its body starts. -/
def Φ₀ (c : Dev nD) : sProp 𝕄 :=
  iprop((G' (args m) c ∗ cred (tallyAt (bcell c) () 5) ∗ (bigSep Finset.univ fun t => cred (tallyAt (dcell c (rIx (peer c t) t)) () (Nt t))) ∗ levAts L lv)
    ∗ PE .acc c 0 0 1024 1024 ∗ PE .rcv c 0 0 1024 1024)

/-- What the launch is told of a device: the arrays before and after, what it holds, and what it owes. -/
def dats (_ : Fin 1) (c : Dev nD) : Dat τ (Elt F) Unit ℕ UU ℕ cfg0 c where
  A w := m ((cfg0.win w).arr.view.loc (c : Thread nD τ))
  after w _ := match w with
    | ⟨0, _⟩ => (args m).a c
    | ⟨1, _⟩ => (args m).b c
    | ⟨2, _⟩ => buf (outF (args m))
  Φ t := match t with
    | ⟨0, _⟩ => Φ₀ m c
    | ⟨_ + 1, _⟩ => back c
  q _ := fullShare
  owed t := match t with
    | ⟨0, _⟩ => O₀ c
    | ⟨_ + 1, _⟩ => 0

omit [FloatOps F] in
/-- Holding a whole buffer with known contents, spelled out. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer of device `c` that holds `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the launch gives the body. -/
def bodyPre (c : Dev nD) : sProp 𝕄 :=
  iprop(Φ₀ m c ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What the launch wants back from the body. -/
def bodyPost (c : Dev nD) : sProp 𝕄 :=
  iprop(back c ∗ (dats m 0 c).owesAt () (t0_0 : Fin cfg0.N).succ ∗ stg c cc0_stg0_0 ((args m).a c) ∗ stg c cc0_stg1_0 ((args m).b c)
    ∗ stg c cc0_stg2_0 (buf (outF (args m))))

/-- From what the launch gives, the body runs and gives back what the launch wants. -/
theorem body_pre (c : Dev nD) : bodyPre m c ⊢ run c (here (cc0_body (F := F))) (fun _ => bodyPost m c) := by
  unfold bodyPre Φ₀ G'
  iintro ⟨⟨⟨⟨%K, #HR, Hat, Hdl⟩, Hcb, Hcr, #Hlev⟩, Hacc, Hrcv⟩, Ho, ⟨%d0, %g0, %hg0, HA⟩, ⟨%d1, %g1, %hg1, HB⟩, ⟨%d2, %g2, -, Hout⟩⟩
  have h0 : g0 = (args m).a c := by rw [hg0]; unfold Dat.before; rw [if_pos (fetch0_0 t0_0)]; rfl
  have h1 : g1 = (args m).b c := by rw [hg1]; unfold Dat.before; rw [if_pos (fetch0_1 t0_0)]; rfl
  subst h0 h1
  unfold Dat.owesAt Pipeline.owesWithin
  icases Ho with ⟨%W, %hW, HO⟩
  ihave HO := (Entails.of_eq (show (owes (c : Thread nD τ) ((dats m 0 c).owed (t0_0 : Fin cfg0.N).castSucc) W : sProp 𝕄) = owes (c : Thread nD τ) (O₀ c) W from rfl)) $$ HO
  ihave #HE := (show iprop(records (args m) K ∗ levAts L lv) ⊢ Env (args m) K from Entails.refl _) $$ [HR Hlev]
  · isplitl <;> iassumption
  ihave Hs := (into (args m) K c) $$ HE [Hat Hdl Hcb Hcr Hacc Hrcv] [HO] [Hout]
  · unfold given; iframe
  · iexists W; iexact HO
  · unfold PE; iexists g2; iapply (Entails.of_eq (out_whole c g2)); iexact Hout
  icases Hs with ⟨Hst, Hid⟩
  imod (close_idles (args m) K c) $$ HE Hid with Hid
  iapply (body_run (args m) K c) $$ HE Hst [HA] [HB]
  · unfold stA; iexact HA
  · unfold stB; iexact HB
  iintro ⟨Hf, HA, HB⟩
  ihave Hf := (out_of (args m) c) $$ [Hf Hid]
  · isplitl [Hf] <;> iassumption
  icases Hf with ⟨⟨%W', HO⟩, Hb, Hout⟩
  unfold bodyPost Dat.owesAt Pipeline.owesWithin
  isplitl [Hb]; · iexact Hb
  isplitl [HO]
  · iexists W'
    isplitr; · ipureintro; exact fun _ _ => Or.inl trivial
    iexact HO
  isplitl [HA]
  · iexists _; isplitr; · ipureintro; rfl
    unfold stA; iexact HA
  isplitl [HB]
  · iexists _; isplitr; · ipureintro; rfl
    unfold stB; iexact HB
  iexists _; isplitr; · ipureintro; rfl
  unfold P
  iapply (Entails.of_eq (out_whole c (buf (outF (args m)))).symm); iexact Hout

set_option maxRecDepth 100000 in
/-- The body of every device does what the launch asks. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_pre m c

/-- Every staged array is held whole. -/
theorem share_full (c : Dev nD) (w : Fin cfg0.W) : (dats m 0 c).share w = fullShare := by unfold Dat.share; split <;> rfl

/-- From what a device gets at the launch to what it takes into the kernel. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop((G' (args m) c ∗ cred (tallyAt (bcell c) () 5) ∗ (bigSep Finset.univ fun t => cred (tallyAt (dcell c (rIx (peer c t) t)) () (Nt t))) ∗ levAts L lv) ∗ emp) := by
  iintro ⟨-, Hlev, Hcr, -, HG⟩
  ihave Hc := (creds (F := F) c) $$ Hcr
  icases Hc with ⟨H1, HN⟩
  imodintro
  isplitl
  · isplitl [HG]; · iexact HG
    isplitl [H1]; · iexact H1
    isplitl [HN]; · iexact HN
    iexact Hlev
  · iempintro

/-- With its two scratch buffers the device holds what the body starts from. -/
theorem phi_in (c : Dev nD) :
    iprop((G' (args m) c ∗ cred (tallyAt (bcell c) () 5) ∗ (bigSep Finset.univ fun t => cred (tallyAt (dcell c (rIx (peer c t) t)) () (Nt t))) ∗ levAts L lv)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ PE
  iintro ⟨Hs, -, ⟨%f, Hf⟩, ⟨%g, Hg⟩⟩
  isplitl [Hs]; · iexact Hs
  isplitl [Hf]
  · iexists f; iapply (Entails.of_eq (acc_whole c f)); iexact Hf
  · iexists g; iapply (Entails.of_eq (rcv_whole c g)); iexact Hg

/-- What the body leaves, as the semaphores at zero and the scratch buffers. -/
theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = back c from rfl, scopedRest0_eq]
  unfold back PE
  iintro ⟨Ho, Hu, ⟨%f, Hf⟩, ⟨%g, Hg⟩⟩
  isplitl [Hu]; · iexact Hu
  isplitl [Ho]; · iexact Ho
  isplitl [Hf]
  · iexists f; iapply (Entails.of_eq (acc_whole c f).symm); iexact Hf
  · iexists g; iapply (Entails.of_eq (rcv_whole c g).symm); iexact Hg

/-- The waits of the staging are allowed whatever the body owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) [0, 1, 2, 3, 4] _ (by
      rcases t with ⟨_ | _, ht⟩
      · exact Or.inl rfl
      · exact Or.inr rfl)

/-- What a device's arrays hold after the run. -/
def finalA (c : Dev nD) (w : Fin cfg0.W) : Buf (Elt F) ((cfg0.win w).arr.view.loc (c : Thread nD τ)) := (dats m 0 c).arrAt w cfg0.N

set_option maxRecDepth 100000 in
/-- Every fair execution ends, with the arrays as said and every semaphore at zero. -/
theorem run_main : θ_run defs (onTc (τ := τ) (main (F := F))) (s₀ m ρ) (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (args m)) (G' := G' (args m)) (u₀ := u₀)
    (hu₀ := by
      unfold u₀
      iintro Hu
      ihave H := (ownU_pair _ _) $$ Hu
      icases H with ⟨HP, HX⟩
      imod (make (args m)) $$ HX with HG
      imodintro
      isplitl [HP] <;> iassumption)
    (hglob := glob (args m))
    (hA := fun _ _ => rfl) (hpf := fun _ k => k.elim0)
    (X := fun c => iprop(G' (args m) c ∗ cred (tallyAt (bcell c) () 5) ∗ (bigSep Finset.univ fun t => cred (tallyAt (dcell c (rIx (peer c t) t)) () (Nt t))) ∗ levAts L lv))
    (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Butterfly
end
-- ==== Proof.Frames.lean ====
/-
# The frames

Both readings of the program end with the arguments as they were and every counter at zero.
-/
module

public import proofs.«01_k».proof.Proof.Launch
public import proofs.«01_k».proof.Defs
public import proofs.«01_k».proof.Proof.Gen.Kernel
public import proofs.«01_k».proof.Proof.Gen.Kernel.Launch
@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

variable (m : (ℓ : Loc nD τ sig) → Buf (Elt F) ℓ) (ρ : Dev nD → PrngReg)

/-- The first argument's array ends as it began. -/
theorem final_left (c : Dev nD) : finalA m c 0 = m ((c : Thread nD τ).loc main_arg0) :=
  (dats m 0 c).arrAt_in (0 : Fin 3) rfl _

/-- The second argument's array ends as it began. -/
theorem final_right (c : Dev nD) : finalA m c 1 = m ((c : Thread nD τ).loc main_arg1) :=
  (dats m 0 c).arrAt_in (1 : Fin 3) rfl _

/-- The program runs to its end, its argument arrays unchanged and its counters zero. -/
theorem frame_any : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 0).trans (final_left m c), (h.1 c 1).trans (final_right m c)⟩, h.2⟩)
    (run_main m ρ)

/-- The frame over the extended reals. -/
theorem frame_ideal : Cert.quiescent_KernelIdeal := fun m g _ => frame_any (F := Ideal) m g

end Cert.Butterfly

end
-- ==== Proof.KernelFrame.lean ====
/-
# The frame of the program over machine floats

The program over machine floats is the same text, read at another format.
-/
module

public import proofs.«01_k».proof.Proof.Frames

@[expose] public section

noncomputable section

namespace Cert.Butterfly

open Idealize.ShloMosaic Idealize.SL.Sem

set_option maxRecDepth 100000 in
/-- The two programs' kernels are one table of bodies. -/
theorem bodies_bits : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

set_option maxRecDepth 100000 in
/-- The two programs have one table of bodies and regions. -/
theorem defs_bits : Cert.Kernel.defs (F := Bits) = Cert.KernelIdeal.defs (F := Bits) :=
  congrArg (Pipeline.defs (Cert.KernelIdeal.pcfgs (F := Bits))) bodies_bits

set_option maxRecDepth 100000 in
/-- The frame over machine floats. -/
theorem frame_bits : Cert.quiescent_Kernel := fun m g _ => by
  rw [defs_bits]
  exact frame_any (F := Bits) m g

end Cert.Butterfly

end
-- ==== Proof.Results.lean ====
/-
# The result arrays

Every device's result array ends at the one result, as a function of the argument arrays.
-/
module

public import proofs.«01_k».proof.Proof.Frames
public import Idealize.ShloMosaic.Lib.Pipeline.Value

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Fin 43 → ℕ) (c : Dev nD)

variable (m : (ℓ : Loc nD τ sig) → Buf (Elt F) ℓ) (ρ : Dev nD → PrngReg)

/-- The one block of the first argument's window is the whole array. -/
theorem args_left (c : Dev nD) : (args m).a c = m ((c : Thread nD τ).loc main_arg0) := by
  funext i
  refine congrArg (m ((c : Thread nD τ).loc main_arg0)) (funext fun a => Fin.ext ?_)
  have e : ∀ a : Fin 2, win0_0.index t0_0 a * win0_0.size a = 0 := by decide +kernel
  show win0_0.index t0_0 a * win0_0.size a + 1 * (i a).val = (i a).val
  rw [e, Nat.zero_add, Nat.one_mul]

/-- The one block of the second argument's window is the whole array. -/
theorem args_right (c : Dev nD) : (args m).b c = m ((c : Thread nD τ).loc main_arg1) := by
  funext i
  refine congrArg (m ((c : Thread nD τ).loc main_arg1)) (funext fun a => Fin.ext ?_)
  have e : ∀ a : Fin 2, win0_1.index t0_0 a * win0_1.size a = 0 := by decide +kernel
  show win0_1.index t0_0 a * win0_1.size a + 1 * (i a).val = (i a).val
  rw [e, Nat.zero_add, Nat.one_mul]

/-- What the pipeline writes back is the result, read through the window's block. -/
theorem flushed_result (c : Dev nD) (t : Fin cfg0.N) :
    (dats m 0 c).flushed 2 t = ((cfg0.win 2).blk t).view.read (Elt F) (buf (outF (args m))) := by
  obtain rfl : t = t0_0 := Fin.ext (by have := t.isLt; have : cfg0.N = 1 := by decide +kernel
                                       show t.val = 0; omega)
  funext i
  have e : ∀ a : Fin 2, win0_2.index t0_0 a * win0_2.size a = 0 := by decide +kernel
  show buf (outF (args m)) _ = buf (outF (args m)) _
  refine congrArg (buf (outF (args m))) (funext fun a => Fin.ext ?_)
  show (i a).val = win0_2.index t0_0 a * win0_2.size a + 1 * (i a).val
  rw [e, Nat.zero_add, Nat.one_mul]

/-- Every element of the result array is in the block that is written back. -/
theorem result_covered (i : S1024x1024.Idx) :
    ∃ t : Fin cfg0.N, (cfg0.win 2).flush t = true ∧ i ∈ ((cfg0.win 2).blk t).view.set := by
  refine ⟨t0_0, flush0_2 _, ?_⟩
  show i ∈ ((View.whole main_v1).slice (win0_2.rect t0_0)).set
  rw [View.set_slice_whole, Rect.mem_set_unit]
  have e : ∀ a : Fin 2, win0_2.index t0_0 a * win0_2.size a = 0 ∧ win0_2.xsize (grid0.coords t0_0) a = 1024 := by decide +kernel
  intro a
  show win0_2.index t0_0 a * win0_2.size a ≤ (i a).val ∧ (i a).val < win0_2.index t0_0 a * win0_2.size a + win0_2.xsize (grid0.coords t0_0) a
  have h : (i a).val < 1024 := by
    have := (i a).isLt
    revert this
    fin_cases a <;> exact id
  rw [(e a).1, (e a).2]
  omega

/-- Every device's result array ends at the one result. -/
theorem final_result (c : Dev nD) : finalA m c 2 = buf (outF (args m)) :=
  (dats m 0 c).arrAt_eq_of_cover 2 (buf (outF (args m))) (fun t _ => flushed_result m c t) result_covered

/-- The program's run, result and arguments. -/
theorem run_result : θ_run defs (onTc (τ := τ) (main (F := F))) (s₀ m ρ) (fun r => ∀ c : Dev nD,
    r.2.mem ((c.tc : Thread nD τ).loc main_v1) = buf (outF (args m))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h.1 c 2).trans (final_result m c), (h.1 c 0).trans (final_left m c),
      (h.1 c 1).trans (final_right m c)⟩)
    (run_main m ρ)

end Cert.Butterfly

end
-- ==== Proof.Sums.lean ====
/-
# The sum over the devices

Over the extended reals a device's partial product is a sum of 512 products, and what is left after
the three exchanges is the sum of all sixteen partial products, on whichever device it is formed.
-/
module

public import proofs.«01_k».proof.Proof.Contents
public import Idealize.ShloMosaic.PureOps.Ideal
public import Idealize.ShloMosaic.Lib.MatmulPlain
public import Idealize.ShloMosaic.Lib.Pipeline.Value
public import Idealize.ShloMosaic.Lib.IdealHost

@[expose] public section

noncomputable section

namespace Cert.Butterfly

open Cert.KernelIdeal Cert.KernelIdeal.Gen
open Idealize.ShloMosaic Idealize.ShloMosaic.ValueIdx
open scoped BigOperators

/-- The product of 512 rows by 256 columns, at an element. -/
theorem narrow_at (l : Vec Ideal S512x512 .bf16) (r : Vec Ideal S512x256 .bf16) (i : Fin 512) (j : Fin 256) :
    k0_pay3 l r (ix2 i j) = ∑ k : Fin 512, (l (ix2 i k) * r (ix2 k j) : EReal) := by
  unfold k0_pay3
  simp only [shapeCast_self]
  refine (Ideal.matmul_plain_apply (φ₁ := .bf16) (φ₂ := .bf16) none l r (constant S512x256 .f32 0x00000000#32) i j).trans ?_
  have h0 : (constant S512x256 .f32 0x00000000#32 : FVec Ideal S512x256 .f32) (ix2 i j) = (0 : EReal) := by
    show Ideal.ofBits .f32 0x00000000#32 = 0
    simp [Ideal.ofBits, Ideal.ieee]
  rw [h0]
  exact zero_add _

/-- The product of 512 rows by 512 columns, at an element. -/
theorem wide_at (l : Vec Ideal S512x512 .bf16) (r : Vec Ideal S512x512 .bf16) (i : Fin 512) (j : Fin 512) :
    k0_pay8 l r (ix2 i j) = ∑ k : Fin 512, (l (ix2 i k) * r (ix2 k j) : EReal) := by
  unfold k0_pay8
  simp only [shapeCast_self]
  refine (Ideal.matmul_plain_apply (φ₁ := .bf16) (φ₂ := .bf16) none l r (constant S512x512 .f32 0x00000000#32) i j).trans ?_
  have h0 : (constant S512x512 .f32 0x00000000#32 : FVec Ideal S512x512 .f32) (ix2 i j) = (0 : EReal) := by
    show Ideal.ofBits .f32 0x00000000#32 = 0
    simp [Ideal.ofBits, Ideal.ieee]
  rw [h0]
  exact zero_add _

variable (X : Args Ideal)

/-- A device's partial product at row `i` and column `j`. -/
def ownProduct (d : Dev nD) (i j : ℕ) : EReal := ∑ k : Fin 512, (conA (X.a d) i k.val * conB (X.b d) k.val j : EReal)

/-- An index taken modulo the extents, as its two coordinates. -/
theorem at2_pair {p q : ℕ} (hp : ∀ a, 0 < (![p, q] : Fin 2 → ℕ) a) (i j : ℕ) :
    at2 hp i j = ix2 (⟨i % p, Nat.mod_lt _ (hp 0)⟩ : Fin p) (⟨j % q, Nat.mod_lt _ (hp 1)⟩ : Fin q) := by
  funext a
  fin_cases a <;> rfl

/-- The partial product, however it was cut. -/
theorem acc0_eq (d : Dev nD) (i j : ℕ) : acc0 X d i j = ownProduct X d i j := by
  unfold acc0 ownProduct
  split
  · rw [at2_pair, wide_at]
    refine Finset.sum_congr rfl fun k _ => congrArg₂ (· * · : EReal → EReal → EReal) ?_ ?_
    · show conA (X.a d) (i / 512 * 512 + i % 512) (0 + k.val) = _
      rw [Nat.div_add_mod', Nat.zero_add]
    · show conB (X.b d) (0 + k.val) (j / 512 * 512 + j % 512) = _
      rw [Nat.div_add_mod', Nat.zero_add]
  · rw [at2_pair, narrow_at]
    refine Finset.sum_congr rfl fun k _ => congrArg₂ (· * · : EReal → EReal → EReal) ?_ ?_
    · show conA (X.a d) (i / 512 * 512 + i % 512) (0 + k.val) = _
      rw [Nat.div_add_mod', Nat.zero_add]
    · show conB (X.b d) (0 + k.val) (j / 256 * 256 + j % 256) = _
      rw [Nat.div_add_mod', Nat.zero_add]

/-- The four devices of a plane that meet at `c` in the first two exchanges, first across `p`, then across `q`. -/
def plane (p q : Fin 5) (c : Dev nD) : List (Dev nD) := [c, nb p c, nb q c, nb p (nb q c)]

/-- All that meet at `c`. -/
def meet (p q : Fin 5) (c : Dev nD) : List (Dev nD) := plane p q c ++ plane p q (nb 2 c) ++ plane p q (nb 3 c) ++ plane p q (nb 4 c)

/-- Every device meets at `c` once. -/
theorem meet_perm : ∀ c : Dev nD, (meet 0 1 c).Perm (List.finRange 16) ∧ (meet 1 0 c).Perm (List.finRange 16) := by decide +kernel

/-- A sum over all that meet at a device is the sum over all devices. -/
theorem meet_sum (f : Dev nD → EReal) {l : List (Dev nD)} (h : l.Perm (List.finRange 16)) : (l.map f).sum = ∑ d : Dev nD, f d := by
  rw [(h.map f).sum_eq]
  exact (Fin.sum_univ_def f).symm

/-- After two exchanges: the sum of a plane. -/
theorem acc2_eq (p q : Fin 5) (i j : ℕ) (hp : (if j / 512 = 0 then (0 : Fin 5) else 1) = p) (hq : (if j / 512 = 0 then (1 : Fin 5) else 0) = q)
    (c : Dev nD) : acc2 X c i j = ((plane p q c).map fun d => acc0 X d i j).sum := by
  have h1 : ∀ c, acc1 X c i j = acc0 X c i j + acc0 X (nb p c) i j := by
    intro c
    subst hp
    unfold acc1
    split <;> rfl
  have h2 : acc2 X c i j = acc1 X c i j + acc1 X (nb q c) i j := by
    subst hq
    unfold acc2
    split <;> rfl
  rw [h2, h1, h1]
  show _ = acc0 X c i j + (acc0 X (nb p c) i j + (acc0 X (nb q c) i j + (acc0 X (nb p (nb q c)) i j + (0 : EReal))))
  rw [add_zero, add_assoc]

/-- After all exchanges: the sum over all devices. -/
theorem acc5_eq (c : Dev nD) (i j : ℕ) : acc5 X c i j = ∑ d : Dev nD, ownProduct X d i j := by
  obtain ⟨p, q, hp, hq, hm⟩ : ∃ p q : Fin 5, (if j / 512 = 0 then (0 : Fin 5) else 1) = p ∧ (if j / 512 = 0 then (1 : Fin 5) else 0) = q
      ∧ (meet p q c).Perm (List.finRange 16) := by
    by_cases h : j / 512 = 0
    · exact ⟨0, 1, if_pos h, if_pos h, (meet_perm c).1⟩
    · exact ⟨1, 0, if_neg h, if_neg h, (meet_perm c).2⟩
  have h5 : acc5 X c i j = acc2 X c i j + acc2 X (nb 2 c) i j + acc2 X (nb 3 c) i j + acc2 X (nb 4 c) i j := rfl
  rw [h5, acc2_eq X p q i j hp hq, acc2_eq X p q i j hp hq, acc2_eq X p q i j hp hq, acc2_eq X p q i j hp hq,
    ← List.sum_append, ← List.sum_append, ← List.sum_append, ← List.map_append, ← List.map_append, ← List.map_append]
  refine (meet_sum (fun d => acc0 X d i j) hm).trans (Finset.sum_congr rfl fun d _ => acc0_eq X d i j)

/-- The result at an element: the larger of zero and the sum over all devices. -/
theorem outF_eq (i j : ℕ) : outF X i j = max (∑ d : Dev nD, ownProduct X d i j) (0 : EReal) := by
  show max (acc5 X _ i j) (Ideal.ofBits .bf16 0x0000#16) = _
  rw [acc5_eq, Ideal.ofBits_zero_bf16]

end Cert.Butterfly

end
-- ==== Proof.Equation.lean ====
/-
# The equation

The reference multiplies the whole matrices: a sum over 8192 columns, which is the sum, over the
sixteen devices, of the sums over each device's 512 columns.
-/
module

public import proofs.«01_k».proof.Proof.Sums
public import proofs.«01_k».proof.Proof.Gen.ReferenceIdeal
public import Idealize.ShloMosaic.Lib.Layout
public import Idealize.ShloMosaic.Lib.StackMember
public import Idealize.ShloMosaic.Lib.Pointwise.Sums

@[expose] public section

noncomputable section

namespace Cert.Butterfly

open Cert.KernelIdeal Cert.KernelIdeal.Gen
open Idealize.ShloMosaic hiding ix2 eq_ix2
open Idealize.ShloMosaic.ValueIdx
open scoped BigOperators

/-- The left matrix. -/
abbrev Left : Type := (⟨2, ![1024, 8192]⟩ : Shape).Idx → Elt Ideal .bf16
/-- The right matrix. -/
abbrev Right : Type := (⟨2, ![8192, 1024]⟩ : Shape).Idx → Elt Ideal .bf16

variable (A : Left) (B : Right)

/-- Device `d`'s column `k` is column `512 d + k` of the whole. -/
def colOf (d : Dev nD) (k : Fin 512) : Fin 8192 :=
  ⟨d.val * 512 + k.val, by have h := k.isLt; have := d.isLt; have e : nD = 16 := rfl; omega⟩

/-- An element of a device's block of the left matrix. -/
theorem left_at (d : Dev nD) (i : Fin 1024) (k : Fin 512) :
    conA (Layout.block ⟨2, ![1024, 512]⟩ ⟨2, ![1024, 8192]⟩ 1 16 d A) i.val k.val = A (ix2 i (colOf d k)) := by
  refine congrArg A (funext fun a => Fin.ext ?_)
  match a with
  | ⟨0, _⟩ => exact Nat.mod_eq_of_lt i.isLt
  | ⟨1, _⟩ => exact congrArg (d.val * 512 + ·) (Nat.mod_eq_of_lt k.isLt)

/-- An element of a device's block of the right matrix. -/
theorem right_at (d : Dev nD) (k : Fin 512) (j : Fin 1024) :
    conB (Layout.block ⟨2, ![512, 1024]⟩ ⟨2, ![8192, 1024]⟩ 0 16 d B) k.val j.val = B (ix2 (colOf d k) j) := by
  refine congrArg B (funext fun a => Fin.ext ?_)
  match a with
  | ⟨0, _⟩ => exact congrArg (d.val * 512 + ·) (Nat.mod_eq_of_lt k.isLt)
  | ⟨1, _⟩ => exact Nat.mod_eq_of_lt j.isLt

/-- The reference's result, as its program computes it. -/
def refResult : (⟨2, ![1024, 1024]⟩ : Shape).Idx → Elt Ideal .bf16 :=
  truncf .bf16 (maximumf (Host.dotGeneral (φ₁ := .bf16) (φ₂ := .bf16) Cert.ReferenceIdeal.dot_S1024x8192_S8192x1024_S1024x1024_1_0_0_1_n_n none A B)
    (broadcastInDim Cert.ReferenceIdeal.S1024x1024 ![] Cert.ReferenceIdeal.Facts₀.bcast_S_S1024x1024
      (constant (F := Ideal) Cert.ReferenceIdeal.S_ .f32 0x00000000#32)))
    Cert.ReferenceIdeal.Facts₀.bitsLt_bf16_f32

/-- The reference at an element. -/
theorem refResult_at (i j : Fin 1024) :
    refResult A B (ix2 i j) = max (∑ k : Fin 8192, (A (ix2 i k) * B (ix2 k j) : EReal)) (0 : EReal) := by
  have h0 : Ideal.ofBits .f32 0x00000000#32 = 0 := by simp [Ideal.ofBits, Ideal.ieee]
  show max (Host.dotGeneral (F := Ideal) (φ₁ := .bf16) (φ₂ := .bf16) (DotDims.plain 1024 8192 1024) none A B (ix2 i j) : EReal) (Ideal.ofBits .f32 0x00000000#32) = _
  rw [h0, Idealize.ShloMosaic.StackMember.dotGeneral_plain_apply]

/-- The kernel's result is the reference's, when every device holds its block of the two matrices. -/
theorem result_eq (X : Args Ideal)
    (ha : ∀ d, X.a d = Layout.block ⟨2, ![1024, 512]⟩ ⟨2, ![1024, 8192]⟩ 1 16 d A)
    (hb : ∀ d, X.b d = Layout.block ⟨2, ![512, 1024]⟩ ⟨2, ![8192, 1024]⟩ 0 16 d B) :
    buf (outF X) = refResult A B := by
  funext x
  obtain ⟨i, j, rfl⟩ : ∃ (i j : Fin 1024), x = ix2 i j := ⟨x 0, x 1, eq_ix2 x⟩
  rw [refResult_at]
  show outF X i.val j.val = _
  rw [outF_eq, Fin.sum_univ_tiles 16 512 rfl]
  refine congrArg (max · (0 : EReal)) (Finset.sum_congr rfl fun d _ => Finset.sum_congr rfl fun k _ => ?_)
  rw [ha, hb, left_at, right_at]
  rfl

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Results
public import proofs.«01_k».proof.Proof.Equation
public import Idealize.ShloMosaic.Adequacy
public import Idealize.ShloMosaic.Init

@[expose] public section

noncomputable section

namespace Cert.Proof

open Idealize.ShloMosaic Idealize.SL.Sem

/-- The reference runs to its end, its argument arrays unchanged and its counters zero: it has none. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

set_option maxRecDepth 100000 in
/-- The kernel and the reference compute the same array over the extended reals. -/
theorem same_result : Cert.algebraic_KernelIdeal_ReferenceIdeal := fun m g m' g' _ hm =>
  ⟨Cert.Butterfly.refResult
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h c).1.trans (Cert.Butterfly.result_eq _ _ (Cert.Butterfly.args m)
        (fun d => (Cert.Butterfly.args_left m d).trans (hm d).1) (fun d => (Cert.Butterfly.args_right m d).trans (hm d).2)), (h c).2⟩)
      (Cert.Butterfly.run_result (F := Ideal) m g),
    (θ_run Cert.ReferenceIdeal.defs _ _).mono (fun _ h => h 0) (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  Cert.Butterfly.frame_bits, Cert.Butterfly.frame_ideal, frame_reference, trivial, same_result⟩

end Cert.Proof

end
